-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_v27) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_v6) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_v6) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v6) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v6) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v5) = v0 c
          ∧ r.2.mem ((c.tc : Thread Cert.Reference25Ideal.nD Cert.Reference25Ideal.τ).loc Cert.Reference25Ideal.main_v6) = v1 c
          ∧ r.2.mem ((c.tc : Thread Cert.Reference25Ideal.nD Cert.Reference25Ideal.τ).loc Cert.Reference25Ideal.main_v8) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v6) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v6) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v10)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v10) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v123) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel14 : Cert.Kernel14.Facts) (hKernel14Ideal : Cert.Kernel14Ideal.Facts) (hReference14Ideal : Cert.Reference14Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel14_Kernel14Ideal
    ∧ algebraic_Kernel14Ideal_Reference14Ideal (hKernel14Ideal := hKernel14Ideal) (hReference14Ideal := hReference14Ideal)
-- ==== Kernel.lean ====
abbrev S2304x4096 : Shape := ⟨2, ![2304, 4096]⟩
abbrev S2x8x2304x4 : Shape := ⟨4, ![2, 8, 2304, 4]⟩
abbrev S2x8x4x2304 : Shape := ⟨4, ![2, 8, 4, 2304]⟩
abbrev S2x8x1x4 : Shape := ⟨4, ![2, 8, 1, 4]⟩
abbrev S2x8x4x1 : Shape := ⟨4, ![2, 8, 4, 1]⟩
abbrev S2x18x8x256x128 : Shape := ⟨5, ![2, 18, 8, 256, 128]⟩
abbrev S2304x2048 : Shape := ⟨2, ![2304, 2048]⟩
abbrev S2x2304x4096 : Shape := ⟨3, ![2, 2304, 4096]⟩
abbrev S128x4096 : Shape := ⟨2, ![128, 4096]⟩
abbrev S1x8x128x4 : Shape := ⟨4, ![1, 8, 128, 4]⟩
abbrev S1x8x4x128 : Shape := ⟨4, ![1, 8, 4, 128]⟩
abbrev S1x8x1x4 : Shape := ⟨4, ![1, 8, 1, 4]⟩
abbrev S1x8x4x1 : Shape := ⟨4, ![1, 8, 4, 1]⟩
abbrev S1x1x8x256x128 : Shape := ⟨5, ![1, 1, 8, 256, 128]⟩
abbrev S128x2048 : Shape := ⟨2, ![128, 2048]⟩
abbrev S1x128x4096 : Shape := ⟨3, ![1, 128, 4096]⟩
abbrev S8x256x128 : Shape := ⟨3, ![8, 256, 128]⟩
abbrev S8x1x4 : Shape := ⟨3, ![8, 1, 4]⟩
abbrev S8x4x1 : Shape := ⟨3, ![8, 4, 1]⟩
abbrev S128x256 : Shape := ⟨2, ![128, 256]⟩
abbrev S128x128 : Shape := ⟨2, ![128, 128]⟩
abbrev S1x1x128x4 : Shape := ⟨4, ![1, 1, 128, 4]⟩
abbrev S128x4 : Shape := ⟨2, ![128, 4]⟩
abbrev S1x1x4x128 : Shape := ⟨4, ![1, 1, 4, 128]⟩
abbrev S4x128 : Shape := ⟨2, ![4, 128]⟩
abbrev S1x1x1x4 : Shape := ⟨4, ![1, 1, 1, 4]⟩
abbrev S1x4 : Shape := ⟨2, ![1, 4]⟩
abbrev S1x1x4x1 : Shape := ⟨4, ![1, 1, 4, 1]⟩
abbrev S4x1 : Shape := ⟨2, ![4, 1]⟩
abbrev S1x1x1x256x128 : Shape := ⟨5, ![1, 1, 1, 256, 128]⟩
abbrev S256x128 : Shape := ⟨2, ![256, 128]⟩
abbrev S1x256 : Shape := ⟨2, ![1, 256]⟩
abbrev S4 : Shape := ⟨1, ![4]⟩
abbrev S128x1 : Shape := ⟨2, ![128, 1]⟩
abbrev S1x1 : Shape := ⟨2, ![1, 1]⟩
abbrev S1x128 : Shape := ⟨2, ![1, 128]⟩
abbrev S128x512 : Shape := ⟨2, ![128, 512]⟩
abbrev S512x256 : Shape := ⟨2, ![512, 256]⟩
abbrev S256x256 : Shape := ⟨2, ![256, 256]⟩
abbrev S256 : Shape := ⟨1, ![256]⟩
abbrev S256x1 : Shape := ⟨2, ![256, 1]⟩
abbrev S1x256x128 : Shape := ⟨3, ![1, 256, 128]⟩
abbrev S128 : Shape := ⟨1, ![128]⟩
abbrev S3x128 : Shape := ⟨2, ![3, 128]⟩
abbrev S128x3 : Shape := ⟨2, ![128, 3]⟩
abbrev S2x128 : Shape := ⟨2, ![2, 128]⟩
abbrev S128x2 : Shape := ⟨2, ![128, 2]⟩
abbrev S1x1x256 : Shape := ⟨3, ![1, 1, 256]⟩
abbrev S1 : Shape := ⟨1, ![1]⟩
abbrev S1x1x1 : Shape := ⟨3, ![1, 1, 1]⟩
abbrev S1x3 : Shape := ⟨2, ![1, 3]⟩
abbrev S1x2 : Shape := ⟨2, ![1, 2]⟩
abbrev S1x128x256 : Shape := ⟨3, ![1, 128, 256]⟩
abbrev S1x128x128 : Shape := ⟨3, ![1, 128, 128]⟩

abbrev nBuf : Space → Nat
  | .hbm => 16
  | .vmem => 33
  | .smem => 0
  | _ => 0

abbrev bufTy : (tb : Table) → Fin (tcTables nBuf tb) → BufTy
  | .hbm, ⟨0, _⟩ => ⟨S2304x4096, .f32⟩
  | .hbm, ⟨1, _⟩ => ⟨S2x8x2304x4, .f32⟩
  | .hbm, ⟨2, _⟩ => ⟨S2x8x4x2304, .f32⟩
  | .hbm, ⟨3, _⟩ => ⟨S2x8x1x4, .f32⟩
  | .hbm, ⟨4, _⟩ => ⟨S2x8x4x1, .f32⟩
  | .hbm, ⟨5, _⟩ => ⟨S2x8x1x4, .f32⟩
  | .hbm, ⟨6, _⟩ => ⟨S2x8x4x1, .f32⟩
  | .hbm, ⟨7, _⟩ => ⟨S2x18x8x256x128, .f32⟩
  | .hbm, ⟨8, _⟩ => ⟨S2304x2048, .f32⟩
  | .hbm, ⟨9, _⟩ => ⟨S2x2304x4096, .f32⟩
  | .hbm, ⟨10, _⟩ => ⟨S2x8x2304x4, .f32⟩
  | .hbm, ⟨11, _⟩ => ⟨S2x8x4x2304, .f32⟩
  | .hbm, ⟨12, _⟩ => ⟨S2x8x1x4, .f32⟩
  | .hbm, ⟨13, _⟩ => ⟨S2x8x4x1, .f32⟩
  | .hbm, ⟨14, _⟩ => ⟨S2x8x1x4, .f32⟩
  | .hbm, ⟨15, _⟩ => ⟨S2x8x4x1, .f32⟩
  | .local _ .vmem, ⟨0, _⟩ => ⟨S128x4096, .f32⟩
  | .local _ .vmem, ⟨1, _⟩ => ⟨S128x4096, .f32⟩
  | .local _ .vmem, ⟨2, _⟩ => ⟨S1x8x128x4, .f32⟩
  | .local _ .vmem, ⟨3, _⟩ => ⟨S1x8x128x4, .f32⟩
  | .local _ .vmem, ⟨4, _⟩ => ⟨S1x8x4x128, .f32⟩
  | .local _ .vmem, ⟨5, _⟩ => ⟨S1x8x4x128, .f32⟩
  | .local _ .vmem, ⟨6, _⟩ => ⟨S1x8x1x4, .f32⟩
  | .local _ .vmem, ⟨7, _⟩ => ⟨S1x8x1x4, .f32⟩
  | .local _ .vmem, ⟨8, _⟩ => ⟨S1x8x4x1, .f32⟩
  | .local _ .vmem, ⟨9, _⟩ => ⟨S1x8x4x1, .f32⟩
  | .local _ .vmem, ⟨10, _⟩ => ⟨S1x8x1x4, .f32⟩
  | .local _ .vmem, ⟨11, _⟩ => ⟨S1x8x1x4, .f32⟩
  | .local _ .vmem, ⟨12, _⟩ => ⟨S1x8x4x1, .f32⟩
  | .local _ .vmem, ⟨13, _⟩ => ⟨S1x8x4x1, .f32⟩
  | .local _ .vmem, ⟨14, _⟩ => ⟨S1x1x8x256x128, .f32⟩
  | .local _ .vmem, ⟨15, _⟩ => ⟨S1x1x8x256x128, .f32⟩
  | .local _ .vmem, ⟨16, _⟩ => ⟨S128x2048, .f32⟩
  | .local _ .vmem, ⟨17, _⟩ => ⟨S128x2048, .f32⟩
  | .local _ .vmem, ⟨18, _⟩ => ⟨S1x128x4096, .f32⟩
  | .local _ .vmem, ⟨19, _⟩ => ⟨S1x128x4096, .f32⟩
  | .local _ .vmem, ⟨20, _⟩ => ⟨S1x8x128x4, .f32⟩
  | .local _ .vmem, ⟨21, _⟩ => ⟨S1x8x128x4, .f32⟩
  | .local _ .vmem, ⟨22, _⟩ => ⟨S1x8x4x128, .f32⟩
  | .local _ .vmem, ⟨23, _⟩ => ⟨S1x8x4x128, .f32⟩
  | .local _ .vmem, ⟨24, _⟩ => ⟨S1x8x1x4, .f32⟩
  | .local _ .vmem, ⟨25, _⟩ => ⟨S1x8x1x4, .f32⟩
  | .local _ .vmem, ⟨26, _⟩ => ⟨S1x8x4x1, .f32⟩
  | .local _ .vmem, ⟨27, _⟩ => ⟨S1x8x4x1, .f32⟩
  | .local _ .vmem, ⟨28, _⟩ => ⟨S1x8x1x4, .f32⟩
  | .local _ .vmem, ⟨29, _⟩ => ⟨S1x8x1x4, .f32⟩
  | .local _ .vmem, ⟨30, _⟩ => ⟨S1x8x4x1, .f32⟩
  | .local _ .vmem, ⟨31, _⟩ => ⟨S1x8x4x1, .f32⟩
  | .local _ .vmem, ⟨32, _⟩ => ⟨S8x256x128, .f32⟩
  | _, _ => ⟨S2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![2, 18], ![false, false]⟩

def cc0_transform_0 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c2_i32 : BitVec 32 := 2#32
  let v1 : BitVec 1 := Scalar.cmpi .slt v0 c2_i32
  let c1_i32 : BitVec 32 := 1#32
  let v2 : BitVec 32 := Scalar.subi c1_i32 v0
  let c2_i32_0 : BitVec 32 := 2#32
  let v3 : BitVec 32 := Scalar.subi v0 c2_i32_0
  let c17_i32_1 : BitVec 32 := 17#32
  let v4 : BitVec 32 := Scalar.subi c17_i32_1 v3
  let v5 : BitVec 32 := Scalar.select v1 v2 v4
  let c0_i32 : BitVec 32 := 0#32
  let v6 : BitVec 1 := Scalar.cmpi .eq arg0 c0_i32
  let v7 : BitVec 32 := Scalar.select v6 v0 v5
  let c0_i32_2 : BitVec 32 := 0#32
  let c0_i32_3 : BitVec 32 := 0#32
  ![v7.toNat, c0_i32_2.toNat]

def cc0_transform_1 (i : grid0.Coords) : Fin 4 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c2_i32 : BitVec 32 := 2#32
  let v1 : BitVec 1 := Scalar.cmpi .slt v0 c2_i32
  let c1_i32 : BitVec 32 := 1#32
  let v2 : BitVec 32 := Scalar.subi c1_i32 v0
  let c2_i32_0 : BitVec 32 := 2#32
  let v3 : BitVec 32 := Scalar.subi v0 c2_i32_0
  let c17_i32_1 : BitVec 32 := 17#32
  let v4 : BitVec 32 := Scalar.subi c17_i32_1 v3
  let v5 : BitVec 32 := Scalar.select v1 v2 v4
  let c0_i32 : BitVec 32 := 0#32
  let v6 : BitVec 1 := Scalar.cmpi .eq arg0 c0_i32
  let v7 : BitVec 32 := Scalar.select v6 v0 v5
  let c0_i32_2 : BitVec 32 := 0#32
  let c0_i32_3 : BitVec 32 := 0#32
  let c0_i32_4 : BitVec 32 := 0#32
  ![arg0.toNat, c0_i32_2.toNat, v7.toNat, c0_i32_3.toNat]

def cc0_transform_2 (i : grid0.Coords) : Fin 4 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c2_i32 : BitVec 32 := 2#32
  let v1 : BitVec 1 := Scalar.cmpi .slt v0 c2_i32
  let c1_i32 : BitVec 32 := 1#32
  let v2 : BitVec 32 := Scalar.subi c1_i32 v0
  let c2_i32_0 : BitVec 32 := 2#32
  let v3 : BitVec 32 := Scalar.subi v0 c2_i32_0
  let c17_i32_1 : BitVec 32 := 17#32
  let v4 : BitVec 32 := Scalar.subi c17_i32_1 v3
  let v5 : BitVec 32 := Scalar.select v1 v2 v4
  let c0_i32 : BitVec 32 := 0#32
  let v6 : BitVec 1 := Scalar.cmpi .eq arg0 c0_i32
  let v7 : BitVec 32 := Scalar.select v6 v0 v5
  let c0_i32_2 : BitVec 32 := 0#32
  let c0_i32_3 : BitVec 32 := 0#32
  let c0_i32_4 : BitVec 32 := 0#32
  ![arg0.toNat, c0_i32_2.toNat, c0_i32_3.toNat, v7.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c2_i32 : BitVec 32 := 2#32
  let v1 : BitVec 1 := Scalar.cmpi .slt v0 c2_i32
  let c1_i32 : BitVec 32 := 1#32
  let v2 : BitVec 32 := Scalar.subi c1_i32 v0
  let c2_i32_0 : BitVec 32 := 2#32
  let v3 : BitVec 32 := Scalar.subi v0 c2_i32_0
  let c17_i32_1 : BitVec 32 := 17#32
  let v4 : BitVec 32 := Scalar.subi c17_i32_1 v3
  let v5 : BitVec 32 := Scalar.select v1 v2 v4
  let c0_i32 : BitVec 32 := 0#32
  let v6 : BitVec 1 := Scalar.cmpi .eq arg0 c0_i32
  let v7 : BitVec 32 := Scalar.select v6 v0 v5
  let c0_i32_2 : BitVec 32 := 0#32
  let c0_i32_3 : BitVec 32 := 0#32
  let c0_i32_4 : BitVec 32 := 0#32
  let c0_i32_5 : BitVec 32 := 0#32
  ![arg0.toNat, v7.toNat, c0_i32_2.toNat, c0_i32_3.toNat, c0_i32_4.toNat]

def cc0_transform_8 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c2_i32 : BitVec 32 := 2#32
  let v1 : BitVec 1 := Scalar.cmpi .slt v0 c2_i32
  let c1_i32 : BitVec 32 := 1#32
  let v2 : BitVec 32 := Scalar.subi c1_i32 v0
  let c2_i32_0 : BitVec 32 := 2#32
  let v3 : BitVec 32 := Scalar.subi v0 c2_i32_0
  let c17_i32_1 : BitVec 32 := 17#32
  let v4 : BitVec 32 := Scalar.subi c17_i32_1 v3
  let v5 : BitVec 32 := Scalar.select v1 v2 v4
  let c0_i32 : BitVec 32 := 0#32
  let v6 : BitVec 1 := Scalar.cmpi .eq arg0 c0_i32
  let v7 : BitVec 32 := Scalar.select v6 v0 v5
  let c0_i32_2 : BitVec 32 := 0#32
  let c0_i32_3 : BitVec 32 := 0#32
  ![v7.toNat, c0_i32_2.toNat]

def cc0_transform_9 (i : grid0.Coords) : Fin 3 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c2_i32 : BitVec 32 := 2#32
  let v1 : BitVec 1 := Scalar.cmpi .slt v0 c2_i32
  let c1_i32 : BitVec 32 := 1#32
  let v2 : BitVec 32 := Scalar.subi c1_i32 v0
  let c2_i32_0 : BitVec 32 := 2#32
  let v3 : BitVec 32 := Scalar.subi v0 c2_i32_0
  let c17_i32_1 : BitVec 32 := 17#32
  let v4 : BitVec 32 := Scalar.subi c17_i32_1 v3
  let v5 : BitVec 32 := Scalar.select v1 v2 v4
  let c0_i32 : BitVec 32 := 0#32
  let v6 : BitVec 1 := Scalar.cmpi .eq arg0 c0_i32
  let v7 : BitVec 32 := Scalar.select v6 v0 v5
  let c0_i32_2 : BitVec 32 := 0#32
  let c0_i32_3 : BitVec 32 := 0#32
  ![arg0.toNat, v7.toNat, c0_i32_2.toNat]

def cc0_transform_10 (i : grid0.Coords) : Fin 4 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c2_i32 : BitVec 32 := 2#32
  let v1 : BitVec 1 := Scalar.cmpi .slt v0 c2_i32
  let c1_i32 : BitVec 32 := 1#32
  let v2 : BitVec 32 := Scalar.subi c1_i32 v0
  let c2_i32_0 : BitVec 32 := 2#32
  let v3 : BitVec 32 := Scalar.subi v0 c2_i32_0
  let c17_i32_1 : BitVec 32 := 17#32
  let v4 : BitVec 32 := Scalar.subi c17_i32_1 v3
  let v5 : BitVec 32 := Scalar.select v1 v2 v4
  let c0_i32 : BitVec 32 := 0#32
  let v6 : BitVec 1 := Scalar.cmpi .eq arg0 c0_i32
  let v7 : BitVec 32 := Scalar.select v6 v0 v5
  let c0_i32_2 : BitVec 32 := 0#32
  let c0_i32_3 : BitVec 32 := 0#32
  let c0_i32_4 : BitVec 32 := 0#32
  ![arg0.toNat, c0_i32_2.toNat, v7.toNat, c0_i32_3.toNat]

def cc0_transform_11 (i : grid0.Coords) : Fin 4 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c2_i32 : BitVec 32 := 2#32
  let v1 : BitVec 1 := Scalar.cmpi .slt v0 c2_i32
  let c1_i32 : BitVec 32 := 1#32
  let v2 : BitVec 32 := Scalar.subi c1_i32 v0
  let c2_i32_0 : BitVec 32 := 2#32
  let v3 : BitVec 32 := Scalar.subi v0 c2_i32_0
  let c17_i32_1 : BitVec 32 := 17#32
  let v4 : BitVec 32 := Scalar.subi c17_i32_1 v3
  let v5 : BitVec 32 := Scalar.select v1 v2 v4
  let c0_i32 : BitVec 32 := 0#32
  let v6 : BitVec 1 := Scalar.cmpi .eq arg0 c0_i32
  let v7 : BitVec 32 := Scalar.select v6 v0 v5
  let c0_i32_2 : BitVec 32 := 0#32
  let c0_i32_3 : BitVec 32 := 0#32
  let c0_i32_4 : BitVec 32 := 0#32
  ![arg0.toNat, c0_i32_2.toNat, c0_i32_3.toNat, v7.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x4x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x1x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x4x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x8x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x128x4 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x4x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x1x4 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x8x4x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x8x1x4 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x8x4x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== Kernel2.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .bf16⟩
  | .hbm, ⟨4, _⟩ => ⟨S2048x1024, .f32⟩
  | .hbm, ⟨5, _⟩ => ⟨S1x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 88
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .bf16⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x1024, .f32⟩
  | .hbm, ⟨65, _⟩ => ⟨S2048x1024, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S_, .f32⟩
  | .hbm, ⟨79, _⟩ => ⟨S2048, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S_, .f32⟩
  | .hbm, ⟨85, _⟩ => ⟨S2048, .f32⟩
  | .hbm, ⟨86, _⟩ => ⟨S2048x1024, .f32⟩
  | .hbm, ⟨87, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v23_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v23_1 : Ref sig .tc := ⟨.hbm, 44, rfl⟩
abbrev main_v23_0 : Ref sig .tc := ⟨.hbm, 45, rfl⟩
abbrev main_v24 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_cst_11 : Ref sig .tc := ⟨.hbm, 81, rfl⟩
abbrev main_v50 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩

abbrev nD : Nat := 1
abbrev τ : Topo := Topo.v7x

variable {F : FTy → Type} [FloatOps F]
-- ==== Kernel8.lean ====
abbrev S2048x2816 : Shape := ⟨2, ![2048, 2816]⟩
abbrev S2048x1024 : Shape := ⟨2, ![2048, 1024]⟩
abbrev S2816x1024 : Shape := ⟨2, ![2816, 1024]⟩
abbrev S256x2816 : Shape := ⟨2, ![256, 2816]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S256x2816, .bf16⟩
  | .local _ .vmem, ⟨1, _⟩ => ⟨S256x2816, .bf16⟩
  | .local _ .vmem, ⟨2, _⟩ => ⟨S256x1024, .bf16⟩
  | .local _ .vmem, ⟨3, _⟩ => ⟨S256x1024, .bf16⟩
  | .local _ .vmem, ⟨4, _⟩ => ⟨S2816x1024, .bf16⟩
  | .local _ .vmem, ⟨5, _⟩ => ⟨S2816x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S2048x2816 : Shape := ⟨2, ![2048, 2816]⟩
abbrev S2048x1024 : Shape := ⟨2, ![2048, 1024]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2048x2816, .f32⟩
  | .hbm, ⟨3, _⟩ => ⟨S2048x1024, .f32⟩
  | .hbm, ⟨4, _⟩ => ⟨S2816x1024, .f32⟩
  | .hbm, ⟨5, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S2048x1024 : Shape := ⟨2, ![2048, 1024]⟩
abbrev S2816x1024 : Shape := ⟨2, ![2816, 1024]⟩
abbrev S2048x2816 : Shape := ⟨2, ![2048, 2816]⟩
abbrev S512x1024 : Shape := ⟨2, ![512, 1024]⟩
abbrev S512x2816 : Shape := ⟨2, ![512, 2816]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x1024 : Shape := ⟨2, ![2048, 1024]⟩
abbrev S2816x1024 : Shape := ⟨2, ![2816, 1024]⟩
abbrev S2048x2816 : Shape := ⟨2, ![2048, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x1024, .f32⟩
  | .hbm, ⟨3, _⟩ => ⟨S2816x1024, .f32⟩
  | .hbm, ⟨4, _⟩ => ⟨S2048x2816, .f32⟩
  | .hbm, ⟨5, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S2048x2816 : Shape := ⟨2, ![2048, 2816]⟩
abbrev S8x1024x704 : Shape := ⟨3, ![8, 1024, 704]⟩
abbrev S2048x1024 : Shape := ⟨2, ![2048, 1024]⟩
abbrev S256x2816 : Shape := ⟨2, ![256, 2816]⟩
abbrev S256x1024 : Shape := ⟨2, ![256, 1024]⟩
abbrev S256x704 : Shape := ⟨2, ![256, 704]⟩
abbrev S1x1024x704 : Shape := ⟨3, ![1, 1024, 704]⟩
abbrev S1024x704 : Shape := ⟨2, ![1024, 704]⟩

abbrev nBuf : Space → Nat
  | .hbm => 4
  | .vmem => 7
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S8x1024x704, .bf16⟩
  | .hbm, ⟨3, _⟩ => ⟨S2048x1024, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S8x1024x704, .bf16⟩
  | .local _ .vmem, ⟨5, _⟩ => ⟨S256x1024, .bf16⟩
  | .local _ .vmem, ⟨6, _⟩ => ⟨S256x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S2048x2816 : Shape := ⟨2, ![2048, 2816]⟩
abbrev S8x1024x704 : Shape := ⟨3, ![8, 1024, 704]⟩
abbrev S2048x5632 : Shape := ⟨2, ![2048, 5632]⟩
abbrev S1024x8x704 : Shape := ⟨3, ![1024, 8, 704]⟩
abbrev S1024x5632 : Shape := ⟨2, ![1024, 5632]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S8x1024x704, .bf16⟩
  | .hbm, ⟨3, _⟩ => ⟨S2048x5632, .bf16⟩
  | .hbm, ⟨4, _⟩ => ⟨S2048x5632, .f32⟩
  | .hbm, ⟨5, _⟩ => ⟨S1024x8x704, .bf16⟩
  | .hbm, ⟨6, _⟩ => ⟨S1024x5632, .bf16⟩
  | .hbm, ⟨7, _⟩ => ⟨S1024x5632, .f32⟩
  | .hbm, ⟨8, _⟩ => ⟨S2048x1024, .f32⟩
  | .hbm, ⟨9, _⟩ => ⟨S2048x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S2048x1024 : Shape := ⟨2, ![2048, 1024]⟩
abbrev S2048x2816 : Shape := ⟨2, ![2048, 2816]⟩
abbrev S8x704x1024 : Shape := ⟨3, ![8, 704, 1024]⟩
abbrev S512x1024 : Shape := ⟨2, ![512, 1024]⟩
abbrev S512x2816 : Shape := ⟨2, ![512, 2816]⟩
abbrev S4x704x1024 : Shape := ⟨3, ![4, 704, 1024]⟩
abbrev S512x704 : Shape := ⟨2, ![512, 704]⟩
abbrev S1x704x1024 : Shape := ⟨3, ![1, 704, 1024]⟩
abbrev S704x1024 : Shape := ⟨2, ![704, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S2048x2816, .bf16⟩
  | .hbm, ⟨3, _⟩ => ⟨S8x704x1024, .bf16⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S4x704x1024, .bf16⟩
  | .local _ .vmem, ⟨7, _⟩ => ⟨S4x704x1024, .bf16⟩
  | .local _ .vmem, ⟨8, _⟩ => ⟨S4x704x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond4 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference11Ideal.lean ====
abbrev S2048x1024 : Shape := ⟨2, ![2048, 1024]⟩
abbrev S2048x2816 : Shape := ⟨2, ![2048, 2816]⟩
abbrev S2048x5632 : Shape := ⟨2, ![2048, 5632]⟩
abbrev S5632x1024 : Shape := ⟨2, ![5632, 1024]⟩
abbrev S8x704x1024 : Shape := ⟨3, ![8, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S2048x2816, .bf16⟩
  | .hbm, ⟨3, _⟩ => ⟨S2048x5632, .bf16⟩
  | .hbm, ⟨4, _⟩ => ⟨S2048x5632, .f32⟩
  | .hbm, ⟨5, _⟩ => ⟨S2048x1024, .f32⟩
  | .hbm, ⟨6, _⟩ => ⟨S5632x1024, .f32⟩
  | .hbm, ⟨7, _⟩ => ⟨S8x704x1024, .f32⟩
  | .hbm, ⟨8, _⟩ => ⟨S8x704x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S2048x2816 : Shape := ⟨2, ![2048, 2816]⟩
abbrev S2816x1024 : Shape := ⟨2, ![2816, 1024]⟩
abbrev S2048x1024 : Shape := ⟨2, ![2048, 1024]⟩
abbrev S512x2816 : Shape := ⟨2, ![512, 2816]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x2816, .f32⟩
  | .hbm, ⟨3, _⟩ => ⟨S2816x1024, .f32⟩
  | .hbm, ⟨4, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S2048x1024 : Shape := ⟨2, ![2048, 1024]⟩
abbrev S8x1024x704 : Shape := ⟨3, ![8, 1024, 704]⟩
abbrev S2048x2816 : Shape := ⟨2, ![2048, 2816]⟩
abbrev S256x1024 : Shape := ⟨2, ![256, 1024]⟩
abbrev S256x2816 : Shape := ⟨2, ![256, 2816]⟩
abbrev S1x1024x704 : Shape := ⟨3, ![1, 1024, 704]⟩
abbrev S1024x704 : Shape := ⟨2, ![1024, 704]⟩
abbrev S256x704 : Shape := ⟨2, ![256, 704]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S8x1024x704, .bf16⟩
  | .hbm, ⟨2, _⟩ => ⟨S2048x2816, .f32⟩
  | .hbm, ⟨3, _⟩ => ⟨S2048x2816, .f32⟩
  | .local _ .vmem, ⟨0, _⟩ => ⟨S256x1024, .bf16⟩
  | .local _ .vmem, ⟨1, _⟩ => ⟨S256x1024, .bf16⟩
  | .local _ .vmem, ⟨2, _⟩ => ⟨S8x1024x704, .bf16⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | .local _ .vmem, ⟨6, _⟩ => ⟨S256x2816, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S2048x1024 : Shape := ⟨2, ![2048, 1024]⟩
abbrev S8x1024x704 : Shape := ⟨3, ![8, 1024, 704]⟩
abbrev S1024x8x704 : Shape := ⟨3, ![1024, 8, 704]⟩
abbrev S1024x5632 : Shape := ⟨2, ![1024, 5632]⟩
abbrev S2048x5632 : Shape := ⟨2, ![2048, 5632]⟩
abbrev S2048x2816 : Shape := ⟨2, ![2048, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x704, .bf16⟩
  | .hbm, ⟨2, _⟩ => ⟨S1024x8x704, .bf16⟩
  | .hbm, ⟨3, _⟩ => ⟨S1024x5632, .bf16⟩
  | .hbm, ⟨4, _⟩ => ⟨S1024x5632, .f32⟩
  | .hbm, ⟨5, _⟩ => ⟨S2048x1024, .f32⟩
  | .hbm, ⟨6, _⟩ => ⟨S2048x5632, .f32⟩
  | .hbm, ⟨7, _⟩ => ⟨S2048x2816, .f32⟩
  | .hbm, ⟨8, _⟩ => ⟨S2048x2816, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel16.lean ====
abbrev S2048x2048 : Shape := ⟨2, ![2048, 2048]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x2048 : Shape := ⟨2, ![2048, 2048]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x2048, .f32⟩
  | .hbm, ⟨3, _⟩ => ⟨S2048x1024, .f32⟩
  | .hbm, ⟨4, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S2048x2048 : Shape := ⟨2, ![2048, 2048]⟩
abbrev S2048x1024 : Shape := ⟨2, ![2048, 1024]⟩
abbrev S256x2048 : Shape := ⟨2, ![256, 2048]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .bf16⟩
  | .local _ .vmem, ⟨0, _⟩ => ⟨S256x2048, .bf16⟩
  | .local _ .vmem, ⟨1, _⟩ => ⟨S256x2048, .bf16⟩
  | .local _ .vmem, ⟨2, _⟩ => ⟨S256x1024, .bf16⟩
  | .local _ .vmem, ⟨3, _⟩ => ⟨S256x1024, .bf16⟩
  | .local _ .vmem, ⟨4, _⟩ => ⟨S2048x1024, .bf16⟩
  | .local _ .vmem, ⟨5, _⟩ => ⟨S2048x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S2048x2048 : Shape := ⟨2, ![2048, 2048]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x2048, .f32⟩
  | .hbm, ⟨3, _⟩ => ⟨S2048x1024, .f32⟩
  | .hbm, ⟨4, _⟩ => ⟨S2048x1024, .f32⟩
  | .hbm, ⟨5, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S2048x1024 : Shape := ⟨2, ![2048, 1024]⟩
abbrev S2048x2048 : Shape := ⟨2, ![2048, 2048]⟩
abbrev S512x1024 : Shape := ⟨2, ![512, 1024]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x2048, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2048x1024 : Shape := ⟨2, ![2048, 1024]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S2048x2048, .f32⟩
  | .hbm, ⟨5, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S2048x1024 : Shape := ⟨2, ![2048, 1024]⟩
abbrev S1024x1024 : Shape := ⟨2, ![1024, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel21.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | .hbm, ⟨5, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel22.lean ====
abbrev S2048x1024 : Shape := ⟨2, ![2048, 1024]⟩
abbrev S8x1024x256 : Shape := ⟨3, ![8, 1024, 256]⟩
abbrev S256x1024 : Shape := ⟨2, ![256, 1024]⟩
abbrev S1x1024x256 : Shape := ⟨3, ![1, 1024, 256]⟩
abbrev S1024x256 : Shape := ⟨2, ![1024, 256]⟩
abbrev S256x256 : Shape := ⟨2, ![256, 256]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S8x1024x256, .bf16⟩
  | .hbm, ⟨2, _⟩ => ⟨S2048x1024, .f32⟩
  | .hbm, ⟨3, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S8x1024x256, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference22Ideal.lean ====
abbrev S2048x1024 : Shape := ⟨2, ![2048, 1024]⟩
abbrev S8x1024x256 : Shape := ⟨3, ![8, 1024, 256]⟩
abbrev S1024x8x256 : Shape := ⟨3, ![1024, 8, 256]⟩
abbrev S1024x2048 : Shape := ⟨2, ![1024, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x256, .bf16⟩
  | .hbm, ⟨2, _⟩ => ⟨S1024x8x256, .bf16⟩
  | .hbm, ⟨3, _⟩ => ⟨S1024x2048, .bf16⟩
  | .hbm, ⟨4, _⟩ => ⟨S1024x2048, .f32⟩
  | .hbm, ⟨5, _⟩ => ⟨S2048x1024, .f32⟩
  | .hbm, ⟨6, _⟩ => ⟨S2048x2048, .f32⟩
  | .hbm, ⟨7, _⟩ => ⟨S2048x1024, .f32⟩
  | .hbm, ⟨8, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel23.lean ====
abbrev S2048x1024 : Shape := ⟨2, ![2048, 1024]⟩
abbrev S8x1024x256 : Shape := ⟨3, ![8, 1024, 256]⟩
abbrev S256x1024 : Shape := ⟨2, ![256, 1024]⟩
abbrev S256x256 : Shape := ⟨2, ![256, 256]⟩
abbrev S1x1024x256 : Shape := ⟨3, ![1, 1024, 256]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S8x1024x256, .bf16⟩
  | .hbm, ⟨3, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S8x1024x256, .bf16⟩
  | .local _ .vmem, ⟨5, _⟩ => ⟨S256x1024, .bf16⟩
  | .local _ .vmem, ⟨6, _⟩ => ⟨S256x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference23Ideal.lean ====
abbrev S2048x1024 : Shape := ⟨2, ![2048, 1024]⟩
abbrev S8x1024x256 : Shape := ⟨3, ![8, 1024, 256]⟩
abbrev S2048x2048 : Shape := ⟨2, ![2048, 2048]⟩
abbrev S1024x8x256 : Shape := ⟨3, ![1024, 8, 256]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S8x1024x256, .bf16⟩
  | .hbm, ⟨3, _⟩ => ⟨S2048x2048, .bf16⟩
  | .hbm, ⟨4, _⟩ => ⟨S2048x2048, .f32⟩
  | .hbm, ⟨5, _⟩ => ⟨S1024x8x256, .bf16⟩
  | .hbm, ⟨6, _⟩ => ⟨S1024x2048, .bf16⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel24.lean ====
abbrev S2048x1024 : Shape := ⟨2, ![2048, 1024]⟩
abbrev S8x1024x256 : Shape := ⟨3, ![8, 1024, 256]⟩
abbrev S512x1024 : Shape := ⟨2, ![512, 1024]⟩
abbrev S512x256 : Shape := ⟨2, ![512, 256]⟩
abbrev S1x1024x256 : Shape := ⟨3, ![1, 1024, 256]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S8x1024x256, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S8x1024x256, .bf16⟩
  | .local _ .vmem, ⟨7, _⟩ => ⟨S8x1024x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v7 : BitVec 1 := Scalar.cmpi .eq arg1 c3_i32
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference24Ideal.lean ====
abbrev S2048x1024 : Shape := ⟨2, ![2048, 1024]⟩
abbrev S2048x2048 : Shape := ⟨2, ![2048, 2048]⟩
abbrev S1024x2048 : Shape := ⟨2, ![1024, 2048]⟩
abbrev S1024x8x256 : Shape := ⟨3, ![1024, 8, 256]⟩
abbrev S8x1024x256 : Shape := ⟨3, ![8, 1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S2048x2048, .bf16⟩
  | .hbm, ⟨4, _⟩ => ⟨S2048x2048, .f32⟩
  | .hbm, ⟨5, _⟩ => ⟨S2048x1024, .f32⟩
  | .hbm, ⟨6, _⟩ => ⟨S1024x2048, .f32⟩
  | .hbm, ⟨7, _⟩ => ⟨S1024x8x256, .f32⟩
  | .hbm, ⟨8, _⟩ => ⟨S8x1024x256, .f32⟩
  | .hbm, ⟨9, _⟩ => ⟨S8x1024x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel25.lean ====
abbrev S2304x1024 : Shape := ⟨2, ![2304, 1024]⟩
abbrev S8x1024x776 : Shape := ⟨3, ![8, 1024, 776]⟩
abbrev S2304x2048 : Shape := ⟨2, ![2304, 2048]⟩
abbrev S2304x4096 : Shape := ⟨2, ![2304, 4096]⟩
abbrev S2304x128 : Shape := ⟨2, ![2304, 128]⟩
abbrev S256x1024 : Shape := ⟨2, ![256, 1024]⟩
abbrev S256x2048 : Shape := ⟨2, ![256, 2048]⟩
abbrev S256x4096 : Shape := ⟨2, ![256, 4096]⟩
abbrev S256x128 : Shape := ⟨2, ![256, 128]⟩
abbrev S1x1024x776 : Shape := ⟨3, ![1, 1024, 776]⟩
abbrev S1024x776 : Shape := ⟨2, ![1024, 776]⟩
abbrev S256x776 : Shape := ⟨2, ![256, 776]⟩
abbrev S1x1024x496 : Shape := ⟨3, ![1, 1024, 496]⟩
abbrev S1024x496 : Shape := ⟨2, ![1024, 496]⟩
abbrev S256x496 : Shape := ⟨2, ![256, 496]⟩
abbrev S1x1024x280 : Shape := ⟨3, ![1, 1024, 280]⟩
abbrev S1024x280 : Shape := ⟨2, ![1024, 280]⟩
abbrev S256x280 : Shape := ⟨2, ![256, 280]⟩
abbrev S1x1024x712 : Shape := ⟨3, ![1, 1024, 712]⟩
abbrev S1024x712 : Shape := ⟨2, ![1024, 712]⟩
abbrev S256x712 : Shape := ⟨2, ![256, 712]⟩
abbrev S1x1024x64 : Shape := ⟨3, ![1, 1024, 64]⟩
abbrev S1024x64 : Shape := ⟨2, ![1024, 64]⟩
abbrev S256x64 : Shape := ⟨2, ![256, 64]⟩

abbrev nBuf : Space → Nat
  | .hbm => 5
  | .vmem => 9
  | .smem => 0
  | _ => 0

abbrev bufTy : (tb : Table) → Fin (tcTables nBuf tb) → BufTy
  | .hbm, ⟨0, _⟩ => ⟨S2304x1024, .bf16⟩
  | .hbm, ⟨1, _⟩ => ⟨S8x1024x776, .bf16⟩
  | .hbm, ⟨2, _⟩ => ⟨S2304x2048, .f32⟩
  | .hbm, ⟨3, _⟩ => ⟨S2304x4096, .f32⟩
  | .hbm, ⟨4, _⟩ => ⟨S2304x128, .f32⟩
  | .local _ .vmem, ⟨0, _⟩ => ⟨S256x1024, .bf16⟩
  | .local _ .vmem, ⟨1, _⟩ => ⟨S256x1024, .bf16⟩
  | .local _ .vmem, ⟨2, _⟩ => ⟨S8x1024x776, .bf16⟩
  | .local _ .vmem, ⟨3, _⟩ => ⟨S256x2048, .f32⟩
  | .local _ .vmem, ⟨4, _⟩ => ⟨S256x2048, .f32⟩
  | .local _ .vmem, ⟨5, _⟩ => ⟨S256x4096, .f32⟩
  | .local _ .vmem, ⟨6, _⟩ => ⟨S256x4096, .f32⟩
  | .local _ .vmem, ⟨7, _⟩ => ⟨S256x128, .f32⟩
  | .local _ .vmem, ⟨8, _⟩ => ⟨S256x128, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x776 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference25Ideal.lean ====
abbrev S2304x1024 : Shape := ⟨2, ![2304, 1024]⟩
abbrev S8x1024x776 : Shape := ⟨3, ![8, 1024, 776]⟩
abbrev S1024x8x776 : Shape := ⟨3, ![1024, 8, 776]⟩
abbrev S1024x6208 : Shape := ⟨2, ![1024, 6208]⟩
abbrev S2304x6208 : Shape := ⟨2, ![2304, 6208]⟩
abbrev S2304x2048 : Shape := ⟨2, ![2304, 2048]⟩
abbrev S2304x4096 : Shape := ⟨2, ![2304, 4096]⟩
abbrev S2304x64 : Shape := ⟨2, ![2304, 64]⟩
abbrev S_ : Shape := ⟨0, ![]⟩
abbrev S2304x128 : Shape := ⟨2, ![2304, 128]⟩

abbrev nBuf : Space → Nat
  | .hbm => 13
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S8x1024x776, .bf16⟩
  | .hbm, ⟨2, _⟩ => ⟨S1024x8x776, .bf16⟩
  | .hbm, ⟨3, _⟩ => ⟨S1024x6208, .bf16⟩
  | .hbm, ⟨4, _⟩ => ⟨S1024x6208, .f32⟩
  | .hbm, ⟨5, _⟩ => ⟨S2304x1024, .f32⟩
  | .hbm, ⟨6, _⟩ => ⟨S2304x6208, .f32⟩
  | .hbm, ⟨7, _⟩ => ⟨S2304x2048, .f32⟩
  | .hbm, ⟨8, _⟩ => ⟨S2304x4096, .f32⟩
  | .hbm, ⟨9, _⟩ => ⟨S2304x64, .f32⟩
  | .hbm, ⟨10, _⟩ => ⟨S_, .i32⟩
  | .hbm, ⟨11, _⟩ => ⟨S_, .f32⟩
  | .hbm, ⟨12, _⟩ => ⟨S2304x128, .f32⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel26.lean ====
abbrev S2304x2048 : Shape := ⟨2, ![2304, 2048]⟩
abbrev S2304x4096 : Shape := ⟨2, ![2304, 4096]⟩
abbrev S2304x128 : Shape := ⟨2, ![2304, 128]⟩
abbrev S8x1024x776 : Shape := ⟨3, ![8, 1024, 776]⟩
abbrev S2304x1024 : Shape := ⟨2, ![2304, 1024]⟩
abbrev S256x2048 : Shape := ⟨2, ![256, 2048]⟩
abbrev S256x4096 : Shape := ⟨2, ![256, 4096]⟩
abbrev S256x128 : Shape := ⟨2, ![256, 128]⟩
abbrev S256x1024 : Shape := ⟨2, ![256, 1024]⟩
abbrev S256x776 : Shape := ⟨2, ![256, 776]⟩
abbrev S1x1024x776 : Shape := ⟨3, ![1, 1024, 776]⟩
abbrev S1024x776 : Shape := ⟨2, ![1024, 776]⟩
abbrev S256x496 : Shape := ⟨2, ![256, 496]⟩
abbrev S1x1024x496 : Shape := ⟨3, ![1, 1024, 496]⟩
abbrev S1024x496 : Shape := ⟨2, ![1024, 496]⟩
abbrev S256x280 : Shape := ⟨2, ![256, 280]⟩
abbrev S1x1024x280 : Shape := ⟨3, ![1, 1024, 280]⟩
abbrev S1024x280 : Shape := ⟨2, ![1024, 280]⟩
abbrev S256x712 : Shape := ⟨2, ![256, 712]⟩
abbrev S1x1024x712 : Shape := ⟨3, ![1, 1024, 712]⟩
abbrev S1024x712 : Shape := ⟨2, ![1024, 712]⟩
abbrev S256x64 : Shape := ⟨2, ![256, 64]⟩
abbrev S1x1024x64 : Shape := ⟨3, ![1, 1024, 64]⟩
abbrev S1024x64 : Shape := ⟨2, ![1024, 64]⟩

abbrev nBuf : Space → Nat
  | .hbm => 5
  | .vmem => 9
  | .smem => 0
  | _ => 0

abbrev bufTy : (tb : Table) → Fin (tcTables nBuf tb) → BufTy
  | .hbm, ⟨0, _⟩ => ⟨S2304x2048, .bf16⟩
  | .hbm, ⟨1, _⟩ => ⟨S2304x4096, .bf16⟩
  | .hbm, ⟨2, _⟩ => ⟨S2304x128, .bf16⟩
  | .hbm, ⟨3, _⟩ => ⟨S8x1024x776, .bf16⟩
  | .hbm, ⟨4, _⟩ => ⟨S2304x1024, .f32⟩
  | .local _ .vmem, ⟨0, _⟩ => ⟨S256x2048, .bf16⟩
  | .local _ .vmem, ⟨1, _⟩ => ⟨S256x2048, .bf16⟩
  | .local _ .vmem, ⟨2, _⟩ => ⟨S256x4096, .bf16⟩
  | .local _ .vmem, ⟨3, _⟩ => ⟨S256x4096, .bf16⟩
  | .local _ .vmem, ⟨4, _⟩ => ⟨S256x128, .bf16⟩
  | .local _ .vmem, ⟨5, _⟩ => ⟨S256x128, .bf16⟩
  | .local _ .vmem, ⟨6, _⟩ => ⟨S8x1024x776, .bf16⟩
  | .local _ .vmem, ⟨7, _⟩ => ⟨S256x1024, .f32⟩
  | .local _ .vmem, ⟨8, _⟩ => ⟨S256x1024, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024x776 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference26Ideal.lean ====
abbrev S2304x2048 : Shape := ⟨2, ![2304, 2048]⟩
abbrev S2304x4096 : Shape := ⟨2, ![2304, 4096]⟩
abbrev S2304x128 : Shape := ⟨2, ![2304, 128]⟩
abbrev S8x1024x776 : Shape := ⟨3, ![8, 1024, 776]⟩
abbrev S2304x64 : Shape := ⟨2, ![2304, 64]⟩
abbrev S2304x6208 : Shape := ⟨2, ![2304, 6208]⟩
abbrev S1024x8x776 : Shape := ⟨3, ![1024, 8, 776]⟩
abbrev S1024x6208 : Shape := ⟨2, ![1024, 6208]⟩
abbrev S2304x1024 : Shape := ⟨2, ![2304, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x4096, .bf16⟩
  | .hbm, ⟨2, _⟩ => ⟨S2304x128, .bf16⟩
  | .hbm, ⟨3, _⟩ => ⟨S8x1024x776, .bf16⟩
  | .hbm, ⟨4, _⟩ => ⟨S2304x64, .bf16⟩
  | .hbm, ⟨5, _⟩ => ⟨S2304x6208, .bf16⟩
  | .hbm, ⟨6, _⟩ => ⟨S2304x6208, .f32⟩
  | .hbm, ⟨7, _⟩ => ⟨S1024x8x776, .bf16⟩
  | .hbm, ⟨8, _⟩ => ⟨S1024x6208, .bf16⟩
  | .hbm, ⟨9, _⟩ => ⟨S1024x6208, .f32⟩
  | .hbm, ⟨10, _⟩ => ⟨S2304x1024, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel27.lean ====
abbrev S2304x1024 : Shape := ⟨2, ![2304, 1024]⟩
abbrev S2304x2048 : Shape := ⟨2, ![2304, 2048]⟩
abbrev S2304x4096 : Shape := ⟨2, ![2304, 4096]⟩
abbrev S2304x128 : Shape := ⟨2, ![2304, 128]⟩
abbrev S8x776x1024 : Shape := ⟨3, ![8, 776, 1024]⟩
abbrev S256x1024 : Shape := ⟨2, ![256, 1024]⟩
abbrev S256x2048 : Shape := ⟨2, ![256, 2048]⟩
abbrev S256x4096 : Shape := ⟨2, ![256, 4096]⟩
abbrev S256x128 : Shape := ⟨2, ![256, 128]⟩
abbrev S4x776x1024 : Shape := ⟨3, ![4, 776, 1024]⟩
abbrev S256x776 : Shape := ⟨2, ![256, 776]⟩
abbrev S1x776x1024 : Shape := ⟨3, ![1, 776, 1024]⟩
abbrev S776x1024 : Shape := ⟨2, ![776, 1024]⟩
abbrev S256x496 : Shape := ⟨2, ![256, 496]⟩
abbrev S1x496x1024 : Shape := ⟨3, ![1, 496, 1024]⟩
abbrev S496x1024 : Shape := ⟨2, ![496, 1024]⟩
abbrev S256x280 : Shape := ⟨2, ![256, 280]⟩
abbrev S1x280x1024 : Shape := ⟨3, ![1, 280, 1024]⟩
abbrev S280x1024 : Shape := ⟨2, ![280, 1024]⟩
abbrev S256x712 : Shape := ⟨2, ![256, 712]⟩
abbrev S1x712x1024 : Shape := ⟨3, ![1, 712, 1024]⟩
abbrev S712x1024 : Shape := ⟨2, ![712, 1024]⟩
abbrev S256x64 : Shape := ⟨2, ![256, 64]⟩
abbrev S1x64x1024 : Shape := ⟨3, ![1, 64, 1024]⟩
abbrev S64x1024 : Shape := ⟨2, ![64, 1024]⟩

abbrev nBuf : Space → Nat
  | .hbm => 5
  | .vmem => 11
  | .smem => 0
  | _ => 0

abbrev bufTy : (tb : Table) → Fin (tcTables nBuf tb) → BufTy
  | .hbm, ⟨0, _⟩ => ⟨S2304x1024, .bf16⟩
  | .hbm, ⟨1, _⟩ => ⟨S2304x2048, .bf16⟩
  | .hbm, ⟨2, _⟩ => ⟨S2304x4096, .bf16⟩
  | .hbm, ⟨3, _⟩ => ⟨S2304x128, .bf16⟩
  | .hbm, ⟨4, _⟩ => ⟨S8x776x1024, .bf16⟩
  | .local _ .vmem, ⟨0, _⟩ => ⟨S256x1024, .bf16⟩
  | .local _ .vmem, ⟨1, _⟩ => ⟨S256x1024, .bf16⟩
  | .local _ .vmem, ⟨2, _⟩ => ⟨S256x2048, .bf16⟩
  | .local _ .vmem, ⟨3, _⟩ => ⟨S256x2048, .bf16⟩
  | .local _ .vmem, ⟨4, _⟩ => ⟨S256x4096, .bf16⟩
  | .local _ .vmem, ⟨5, _⟩ => ⟨S256x4096, .bf16⟩
  | .local _ .vmem, ⟨6, _⟩ => ⟨S256x128, .bf16⟩
  | .local _ .vmem, ⟨7, _⟩ => ⟨S256x128, .bf16⟩
  | .local _ .vmem, ⟨8, _⟩ => ⟨S4x776x1024, .bf16⟩
  | .local _ .vmem, ⟨9, _⟩ => ⟨S4x776x1024, .bf16⟩
  | .local _ .vmem, ⟨10, _⟩ => ⟨S4x776x1024, .f32⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 9], ![false, false]⟩

def k0_cond4 (i : grid0.Coords) : BitVec 1 :=
  let arg1 : BitVec 32 := BitVec.ofNat 32 (i 1).val
  let c8_i32 : BitVec 32 := 8#32
  let v10 : BitVec 1 := Scalar.cmpi .eq arg1 c8_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x776x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference27Ideal.lean ====
abbrev S2304x1024 : Shape := ⟨2, ![2304, 1024]⟩
abbrev S2304x2048 : Shape := ⟨2, ![2304, 2048]⟩
abbrev S2304x4096 : Shape := ⟨2, ![2304, 4096]⟩
abbrev S2304x128 : Shape := ⟨2, ![2304, 128]⟩
abbrev S2304x64 : Shape := ⟨2, ![2304, 64]⟩
abbrev S2304x6208 : Shape := ⟨2, ![2304, 6208]⟩
abbrev S6208x1024 : Shape := ⟨2, ![6208, 1024]⟩
abbrev S8x776x1024 : Shape := ⟨3, ![8, 776, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x2048, .bf16⟩
  | .hbm, ⟨2, _⟩ => ⟨S2304x4096, .bf16⟩
  | .hbm, ⟨3, _⟩ => ⟨S2304x128, .bf16⟩
  | .hbm, ⟨4, _⟩ => ⟨S2304x64, .bf16⟩
  | .hbm, ⟨5, _⟩ => ⟨S2304x6208, .bf16⟩
  | .hbm, ⟨6, _⟩ => ⟨S2304x6208, .f32⟩
  | .hbm, ⟨7, _⟩ => ⟨S2304x1024, .f32⟩
  | .hbm, ⟨8, _⟩ => ⟨S6208x1024, .f32⟩
  | .hbm, ⟨9, _⟩ => ⟨S8x776x1024, .f32⟩
  | .hbm, ⟨10, _⟩ => ⟨S8x776x1024, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel14.lean ====
abbrev S2304x4096 : Shape := ⟨2, ![2304, 4096]⟩
abbrev S2304x64 : Shape := ⟨2, ![2304, 64]⟩
abbrev S2x32 : Shape := ⟨2, ![2, 32]⟩
abbrev S2x18x8x256x128 : Shape := ⟨5, ![2, 18, 8, 256, 128]⟩
abbrev S2304x2048 : Shape := ⟨2, ![2304, 2048]⟩
abbrev S2304x2x8x4 : Shape := ⟨4, ![2304, 2, 8, 4]⟩
abbrev S2x8x2304x4 : Shape := ⟨4, ![2, 8, 2304, 4]⟩
abbrev S2x8x4x2304 : Shape := ⟨4, ![2, 8, 4, 2304]⟩
abbrev S2x8x4 : Shape := ⟨3, ![2, 8, 4]⟩
abbrev S2x8x1x4 : Shape := ⟨4, ![2, 8, 1, 4]⟩
abbrev S2x8x4x1 : Shape := ⟨4, ![2, 8, 4, 1]⟩
abbrev S2x2304x4096 : Shape := ⟨3, ![2, 2304, 4096]⟩
abbrev S128x4096 : Shape := ⟨2, ![128, 4096]⟩
abbrev S1x8x128x4 : Shape := ⟨4, ![1, 8, 128, 4]⟩
abbrev S1x8x4x128 : Shape := ⟨4, ![1, 8, 4, 128]⟩
abbrev S1x8x1x4 : Shape := ⟨4, ![1, 8, 1, 4]⟩
abbrev S1x8x4x1 : Shape := ⟨4, ![1, 8, 4, 1]⟩
abbrev S1x1x8x256x128 : Shape := ⟨5, ![1, 1, 8, 256, 128]⟩
abbrev S128x2048 : Shape := ⟨2, ![128, 2048]⟩
abbrev S1x128x4096 : Shape := ⟨3, ![1, 128, 4096]⟩
abbrev S8x256x128 : Shape := ⟨3, ![8, 256, 128]⟩
abbrev S8x1x4 : Shape := ⟨3, ![8, 1, 4]⟩
abbrev S8x4x1 : Shape := ⟨3, ![8, 4, 1]⟩
abbrev S128x256 : Shape := ⟨2, ![128, 256]⟩
abbrev S128x128 : Shape := ⟨2, ![128, 128]⟩
abbrev S1x1x128x4 : Shape := ⟨4, ![1, 1, 128, 4]⟩
abbrev S128x4 : Shape := ⟨2, ![128, 4]⟩
abbrev S1x1x4x128 : Shape := ⟨4, ![1, 1, 4, 128]⟩
abbrev S4x128 : Shape := ⟨2, ![4, 128]⟩
abbrev S1x1x1x4 : Shape := ⟨4, ![1, 1, 1, 4]⟩
abbrev S1x4 : Shape := ⟨2, ![1, 4]⟩
abbrev S1x1x4x1 : Shape := ⟨4, ![1, 1, 4, 1]⟩
abbrev S4x1 : Shape := ⟨2, ![4, 1]⟩
abbrev S1x1x1x256x128 : Shape := ⟨5, ![1, 1, 1, 256, 128]⟩
abbrev S256x128 : Shape := ⟨2, ![256, 128]⟩
abbrev S1x256 : Shape := ⟨2, ![1, 256]⟩
abbrev S4 : Shape := ⟨1, ![4]⟩
abbrev S128x1 : Shape := ⟨2, ![128, 1]⟩
abbrev S1x1 : Shape := ⟨2, ![1, 1]⟩
abbrev S1x128 : Shape := ⟨2, ![1, 128]⟩
abbrev S128x512 : Shape := ⟨2, ![128, 512]⟩
abbrev S512x256 : Shape := ⟨2, ![512, 256]⟩
abbrev S256x256 : Shape := ⟨2, ![256, 256]⟩
abbrev S256 : Shape := ⟨1, ![256]⟩
abbrev S256x1 : Shape := ⟨2, ![256, 1]⟩
abbrev S1x256x128 : Shape := ⟨3, ![1, 256, 128]⟩
abbrev S128 : Shape := ⟨1, ![128]⟩
abbrev S3x128 : Shape := ⟨2, ![3, 128]⟩
abbrev S128x3 : Shape := ⟨2, ![128, 3]⟩
abbrev S2x128 : Shape := ⟨2, ![2, 128]⟩
abbrev S128x2 : Shape := ⟨2, ![128, 2]⟩
abbrev S1x1x256 : Shape := ⟨3, ![1, 1, 256]⟩
abbrev S1 : Shape := ⟨1, ![1]⟩
abbrev S1x1x1 : Shape := ⟨3, ![1, 1, 1]⟩
abbrev S1x3 : Shape := ⟨2, ![1, 3]⟩
abbrev S1x2 : Shape := ⟨2, ![1, 2]⟩
abbrev S1x128x256 : Shape := ⟨3, ![1, 128, 256]⟩
abbrev S1x128x128 : Shape := ⟨3, ![1, 128, 128]⟩
abbrev S2x2304x1024 : Shape := ⟨3, ![2, 2304, 1024]⟩

abbrev nBuf : Space → Nat
  | .hbm => 23
  | .vmem => 33
  | .smem => 0
  | _ => 0

abbrev bufTy : (tb : Table) → Fin (tcTables nBuf tb) → BufTy
  | .hbm, ⟨0, _⟩ => ⟨S2304x4096, .f32⟩
  | .hbm, ⟨1, _⟩ => ⟨S2304x64, .f32⟩
  | .hbm, ⟨2, _⟩ => ⟨S2x32, .f32⟩
  | .hbm, ⟨3, _⟩ => ⟨S2x32, .f32⟩
  | .hbm, ⟨4, _⟩ => ⟨S2x18x8x256x128, .f32⟩
  | .hbm, ⟨5, _⟩ => ⟨S2304x2048, .f32⟩
  | .hbm, ⟨6, _⟩ => ⟨S2304x2x8x4, .f32⟩
  | .hbm, ⟨7, _⟩ => ⟨S2x8x2304x4, .f32⟩
  | .hbm, ⟨8, _⟩ => ⟨S2x8x4x2304, .f32⟩
  | .hbm, ⟨9, _⟩ => ⟨S2x8x4, .f32⟩
  | .hbm, ⟨10, _⟩ => ⟨S2x8x4, .f32⟩
  | .hbm, ⟨11, _⟩ => ⟨S2x8x1x4, .f32⟩
  | .hbm, ⟨12, _⟩ => ⟨S2x8x4x1, .f32⟩
  | .hbm, ⟨13, _⟩ => ⟨S2x8x1x4, .f32⟩
  | .hbm, ⟨14, _⟩ => ⟨S2x8x4x1, .f32⟩
  | .hbm, ⟨15, _⟩ => ⟨S2x2304x4096, .f32⟩
  | .hbm, ⟨16, _⟩ => ⟨S2x8x2304x4, .f32⟩
  | .hbm, ⟨17, _⟩ => ⟨S2x8x4x2304, .f32⟩
  | .hbm, ⟨18, _⟩ => ⟨S2x8x1x4, .f32⟩
  | .hbm, ⟨19, _⟩ => ⟨S2x8x4x1, .f32⟩
  | .hbm, ⟨20, _⟩ => ⟨S2x8x1x4, .f32⟩
  | .hbm, ⟨21, _⟩ => ⟨S2x8x4x1, .f32⟩
  | .hbm, ⟨22, _⟩ => ⟨S2x2304x1024, .f32⟩
  | .local _ .vmem, ⟨0, _⟩ => ⟨S128x4096, .f32⟩
  | .local _ .vmem, ⟨1, _⟩ => ⟨S128x4096, .f32⟩
  | .local _ .vmem, ⟨2, _⟩ => ⟨S1x8x128x4, .f32⟩
  | .local _ .vmem, ⟨3, _⟩ => ⟨S1x8x128x4, .f32⟩
  | .local _ .vmem, ⟨4, _⟩ => ⟨S1x8x4x128, .f32⟩
  | .local _ .vmem, ⟨5, _⟩ => ⟨S1x8x4x128, .f32⟩
  | .local _ .vmem, ⟨6, _⟩ => ⟨S1x8x1x4, .f32⟩
  | .local _ .vmem, ⟨7, _⟩ => ⟨S1x8x1x4, .f32⟩
  | .local _ .vmem, ⟨8, _⟩ => ⟨S1x8x4x1, .f32⟩
  | .local _ .vmem, ⟨9, _⟩ => ⟨S1x8x4x1, .f32⟩
  | .local _ .vmem, ⟨10, _⟩ => ⟨S1x8x1x4, .f32⟩
  | .local _ .vmem, ⟨11, _⟩ => ⟨S1x8x1x4, .f32⟩
  | .local _ .vmem, ⟨12, _⟩ => ⟨S1x8x4x1, .f32⟩
  | .local _ .vmem, ⟨13, _⟩ => ⟨S1x8x4x1, .f32⟩
  | .local _ .vmem, ⟨14, _⟩ => ⟨S1x1x8x256x128, .f32⟩
  | .local _ .vmem, ⟨15, _⟩ => ⟨S1x1x8x256x128, .f32⟩
  | .local _ .vmem, ⟨16, _⟩ => ⟨S128x2048, .f32⟩
  | .local _ .vmem, ⟨17, _⟩ => ⟨S128x2048, .f32⟩
  | .local _ .vmem, ⟨18, _⟩ => ⟨S1x128x4096, .f32⟩
  | .local _ .vmem, ⟨19, _⟩ => ⟨S1x128x4096, .f32⟩
  | .local _ .vmem, ⟨20, _⟩ => ⟨S1x8x128x4, .f32⟩
  | .local _ .vmem, ⟨21, _⟩ => ⟨S1x8x128x4, .f32⟩
  | .local _ .vmem, ⟨22, _⟩ => ⟨S1x8x4x128, .f32⟩
  | .local _ .vmem, ⟨23, _⟩ => ⟨S1x8x4x128, .f32⟩
  | .local _ .vmem, ⟨24, _⟩ => ⟨S1x8x1x4, .f32⟩
  | .local _ .vmem, ⟨25, _⟩ => ⟨S1x8x1x4, .f32⟩
  | .local _ .vmem, ⟨26, _⟩ => ⟨S1x8x4x1, .f32⟩
  | .local _ .vmem, ⟨27, _⟩ => ⟨S1x8x4x1, .f32⟩
  | .local _ .vmem, ⟨28, _⟩ => ⟨S1x8x1x4, .f32⟩
  | .local _ .vmem, ⟨29, _⟩ => ⟨S1x8x1x4, .f32⟩
  | .local _ .vmem, ⟨30, _⟩ => ⟨S1x8x4x1, .f32⟩
  | .local _ .vmem, ⟨31, _⟩ => ⟨S1x8x4x1, .f32⟩
  | .local _ .vmem, ⟨32, _⟩ => ⟨S8x256x128, .f32⟩
  | _, _ => ⟨S2304x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev main_v9_5 : Ref sig .tc := ⟨.hbm, 20, rfl⟩
abbrev main_v9_6 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![2, 18], ![false, false]⟩

def cc0_transform_0 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c2_i32 : BitVec 32 := 2#32
  let v1 : BitVec 1 := Scalar.cmpi .slt v0 c2_i32
  let c1_i32 : BitVec 32 := 1#32
  let v2 : BitVec 32 := Scalar.subi c1_i32 v0
  let c2_i32_0 : BitVec 32 := 2#32
  let v3 : BitVec 32 := Scalar.subi v0 c2_i32_0
  let c17_i32_1 : BitVec 32 := 17#32
  let v4 : BitVec 32 := Scalar.subi c17_i32_1 v3
  let v5 : BitVec 32 := Scalar.select v1 v2 v4
  let c0_i32 : BitVec 32 := 0#32
  let v6 : BitVec 1 := Scalar.cmpi .eq arg0 c0_i32
  let v7 : BitVec 32 := Scalar.select v6 v0 v5
  let c0_i32_2 : BitVec 32 := 0#32
  let c0_i32_3 : BitVec 32 := 0#32
  ![v7.toNat, c0_i32_2.toNat]

def cc0_transform_1 (i : grid0.Coords) : Fin 4 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c2_i32 : BitVec 32 := 2#32
  let v1 : BitVec 1 := Scalar.cmpi .slt v0 c2_i32
  let c1_i32 : BitVec 32 := 1#32
  let v2 : BitVec 32 := Scalar.subi c1_i32 v0
  let c2_i32_0 : BitVec 32 := 2#32
  let v3 : BitVec 32 := Scalar.subi v0 c2_i32_0
  let c17_i32_1 : BitVec 32 := 17#32
  let v4 : BitVec 32 := Scalar.subi c17_i32_1 v3
  let v5 : BitVec 32 := Scalar.select v1 v2 v4
  let c0_i32 : BitVec 32 := 0#32
  let v6 : BitVec 1 := Scalar.cmpi .eq arg0 c0_i32
  let v7 : BitVec 32 := Scalar.select v6 v0 v5
  let c0_i32_2 : BitVec 32 := 0#32
  let c0_i32_3 : BitVec 32 := 0#32
  let c0_i32_4 : BitVec 32 := 0#32
  ![arg0.toNat, c0_i32_2.toNat, v7.toNat, c0_i32_3.toNat]

def cc0_transform_2 (i : grid0.Coords) : Fin 4 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c2_i32 : BitVec 32 := 2#32
  let v1 : BitVec 1 := Scalar.cmpi .slt v0 c2_i32
  let c1_i32 : BitVec 32 := 1#32
  let v2 : BitVec 32 := Scalar.subi c1_i32 v0
  let c2_i32_0 : BitVec 32 := 2#32
  let v3 : BitVec 32 := Scalar.subi v0 c2_i32_0
  let c17_i32_1 : BitVec 32 := 17#32
  let v4 : BitVec 32 := Scalar.subi c17_i32_1 v3
  let v5 : BitVec 32 := Scalar.select v1 v2 v4
  let c0_i32 : BitVec 32 := 0#32
  let v6 : BitVec 1 := Scalar.cmpi .eq arg0 c0_i32
  let v7 : BitVec 32 := Scalar.select v6 v0 v5
  let c0_i32_2 : BitVec 32 := 0#32
  let c0_i32_3 : BitVec 32 := 0#32
  let c0_i32_4 : BitVec 32 := 0#32
  ![arg0.toNat, c0_i32_2.toNat, c0_i32_3.toNat, v7.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c2_i32 : BitVec 32 := 2#32
  let v1 : BitVec 1 := Scalar.cmpi .slt v0 c2_i32
  let c1_i32 : BitVec 32 := 1#32
  let v2 : BitVec 32 := Scalar.subi c1_i32 v0
  let c2_i32_0 : BitVec 32 := 2#32
  let v3 : BitVec 32 := Scalar.subi v0 c2_i32_0
  let c17_i32_1 : BitVec 32 := 17#32
  let v4 : BitVec 32 := Scalar.subi c17_i32_1 v3
  let v5 : BitVec 32 := Scalar.select v1 v2 v4
  let c0_i32 : BitVec 32 := 0#32
  let v6 : BitVec 1 := Scalar.cmpi .eq arg0 c0_i32
  let v7 : BitVec 32 := Scalar.select v6 v0 v5
  let c0_i32_2 : BitVec 32 := 0#32
  let c0_i32_3 : BitVec 32 := 0#32
  let c0_i32_4 : BitVec 32 := 0#32
  let c0_i32_5 : BitVec 32 := 0#32
  ![arg0.toNat, v7.toNat, c0_i32_2.toNat, c0_i32_3.toNat, c0_i32_4.toNat]

def cc0_transform_8 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c2_i32 : BitVec 32 := 2#32
  let v1 : BitVec 1 := Scalar.cmpi .slt v0 c2_i32
  let c1_i32 : BitVec 32 := 1#32
  let v2 : BitVec 32 := Scalar.subi c1_i32 v0
  let c2_i32_0 : BitVec 32 := 2#32
  let v3 : BitVec 32 := Scalar.subi v0 c2_i32_0
  let c17_i32_1 : BitVec 32 := 17#32
  let v4 : BitVec 32 := Scalar.subi c17_i32_1 v3
  let v5 : BitVec 32 := Scalar.select v1 v2 v4
  let c0_i32 : BitVec 32 := 0#32
  let v6 : BitVec 1 := Scalar.cmpi .eq arg0 c0_i32
  let v7 : BitVec 32 := Scalar.select v6 v0 v5
  let c0_i32_2 : BitVec 32 := 0#32
  let c0_i32_3 : BitVec 32 := 0#32
  ![v7.toNat, c0_i32_2.toNat]

def cc0_transform_9 (i : grid0.Coords) : Fin 3 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c2_i32 : BitVec 32 := 2#32
  let v1 : BitVec 1 := Scalar.cmpi .slt v0 c2_i32
  let c1_i32 : BitVec 32 := 1#32
  let v2 : BitVec 32 := Scalar.subi c1_i32 v0
  let c2_i32_0 : BitVec 32 := 2#32
  let v3 : BitVec 32 := Scalar.subi v0 c2_i32_0
  let c17_i32_1 : BitVec 32 := 17#32
  let v4 : BitVec 32 := Scalar.subi c17_i32_1 v3
  let v5 : BitVec 32 := Scalar.select v1 v2 v4
  let c0_i32 : BitVec 32 := 0#32
  let v6 : BitVec 1 := Scalar.cmpi .eq arg0 c0_i32
  let v7 : BitVec 32 := Scalar.select v6 v0 v5
  let c0_i32_2 : BitVec 32 := 0#32
  let c0_i32_3 : BitVec 32 := 0#32
  ![arg0.toNat, v7.toNat, c0_i32_2.toNat]

def cc0_transform_10 (i : grid0.Coords) : Fin 4 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c2_i32 : BitVec 32 := 2#32
  let v1 : BitVec 1 := Scalar.cmpi .slt v0 c2_i32
  let c1_i32 : BitVec 32 := 1#32
  let v2 : BitVec 32 := Scalar.subi c1_i32 v0
  let c2_i32_0 : BitVec 32 := 2#32
  let v3 : BitVec 32 := Scalar.subi v0 c2_i32_0
  let c17_i32_1 : BitVec 32 := 17#32
  let v4 : BitVec 32 := Scalar.subi c17_i32_1 v3
  let v5 : BitVec 32 := Scalar.select v1 v2 v4
  let c0_i32 : BitVec 32 := 0#32
  let v6 : BitVec 1 := Scalar.cmpi .eq arg0 c0_i32
  let v7 : BitVec 32 := Scalar.select v6 v0 v5
  let c0_i32_2 : BitVec 32 := 0#32
  let c0_i32_3 : BitVec 32 := 0#32
  let c0_i32_4 : BitVec 32 := 0#32
  ![arg0.toNat, c0_i32_2.toNat, v7.toNat, c0_i32_3.toNat]

def cc0_transform_11 (i : grid0.Coords) : Fin 4 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c2_i32 : BitVec 32 := 2#32
  let v1 : BitVec 1 := Scalar.cmpi .slt v0 c2_i32
  let c1_i32 : BitVec 32 := 1#32
  let v2 : BitVec 32 := Scalar.subi c1_i32 v0
  let c2_i32_0 : BitVec 32 := 2#32
  let v3 : BitVec 32 := Scalar.subi v0 c2_i32_0
  let c17_i32_1 : BitVec 32 := 17#32
  let v4 : BitVec 32 := Scalar.subi c17_i32_1 v3
  let v5 : BitVec 32 := Scalar.select v1 v2 v4
  let c0_i32 : BitVec 32 := 0#32
  let v6 : BitVec 1 := Scalar.cmpi .eq arg0 c0_i32
  let v7 : BitVec 32 := Scalar.select v6 v0 v5
  let c0_i32_2 : BitVec 32 := 0#32
  let c0_i32_3 : BitVec 32 := 0#32
  let c0_i32_4 : BitVec 32 := 0#32
  ![arg0.toNat, c0_i32_2.toNat, c0_i32_3.toNat, v7.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x4x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x1x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x4x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x8x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x128x4 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x4x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x1x4 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x8x4x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x8x1x4 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x8x4x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== Reference14Ideal.lean ====
abbrev S2304x4096 : Shape := ⟨2, ![2304, 4096]⟩
abbrev S2304x64 : Shape := ⟨2, ![2304, 64]⟩
abbrev S2x32 : Shape := ⟨2, ![2, 32]⟩
abbrev S2x18x8x256x128 : Shape := ⟨5, ![2, 18, 8, 256, 128]⟩
abbrev S2304x2048 : Shape := ⟨2, ![2304, 2048]⟩
abbrev S2304x1024 : Shape := ⟨2, ![2304, 1024]⟩
abbrev S1x2304x1024 : Shape := ⟨3, ![1, 2304, 1024]⟩
abbrev S2x2304x1024 : Shape := ⟨3, ![2, 2304, 1024]⟩
abbrev S18x128x8x4x64 : Shape := ⟨5, ![18, 128, 8, 4, 64]⟩
abbrev S1x18x128x8x4x64 : Shape := ⟨6, ![1, 18, 128, 8, 4, 64]⟩
abbrev S2x18x128x8x4x64 : Shape := ⟨6, ![2, 18, 128, 8, 4, 64]⟩
abbrev S18x128x8x128 : Shape := ⟨4, ![18, 128, 8, 128]⟩
abbrev S1x18x128x8x128 : Shape := ⟨5, ![1, 18, 128, 8, 128]⟩
abbrev S2x18x128x8x128 : Shape := ⟨5, ![2, 18, 128, 8, 128]⟩
abbrev S18x128x2x8x4 : Shape := ⟨5, ![18, 128, 2, 8, 4]⟩
abbrev S2x8x4 : Shape := ⟨3, ![2, 8, 4]⟩
abbrev S1x1x2x8x4 : Shape := ⟨5, ![1, 1, 2, 8, 4]⟩
abbrev S_ : Shape := ⟨0, ![]⟩
abbrev S18x128x1x8x4 : Shape := ⟨5, ![18, 128, 1, 8, 4]⟩
abbrev S18x128x8x4 : Shape := ⟨4, ![18, 128, 8, 4]⟩
abbrev S1x18x128x8x4 : Shape := ⟨5, ![1, 18, 128, 8, 4]⟩
abbrev S2x18x128x8x4 : Shape := ⟨5, ![2, 18, 128, 8, 4]⟩
abbrev S2x1x1x8x4 : Shape := ⟨5, ![2, 1, 1, 8, 4]⟩
abbrev S2x18x8x4x64x128 : Shape := ⟨6, ![2, 18, 8, 4, 64, 128]⟩
abbrev S2x18x128x8x4x1 : Shape := ⟨6, ![2, 18, 128, 8, 4, 1]⟩
abbrev S2x18x128x1x8x4 : Shape := ⟨6, ![2, 18, 128, 1, 8, 4]⟩
abbrev S2x18x1x128x8x4 : Shape := ⟨6, ![2, 18, 1, 128, 8, 4]⟩
abbrev S2x18x128x128x8x4 : Shape := ⟨6, ![2, 18, 128, 128, 8, 4]⟩
abbrev S128x128 : Shape := ⟨2, ![128, 128]⟩
abbrev S128x128x1x1 : Shape := ⟨4, ![128, 128, 1, 1]⟩
abbrev S2x18x8x128x128 : Shape := ⟨5, ![2, 18, 8, 128, 128]⟩
abbrev S2x18x128x128x8 : Shape := ⟨5, ![2, 18, 128, 128, 8]⟩
abbrev S2x18x128x128x8x1 : Shape := ⟨6, ![2, 18, 128, 128, 8, 1]⟩
abbrev S2x2304x2048 : Shape := ⟨3, ![2, 2304, 2048]⟩
abbrev S1x2304x2048 : Shape := ⟨3, ![1, 2304, 2048]⟩
abbrev S2x18x8x4x128x128 : Shape := ⟨6, ![2, 18, 8, 4, 128, 128]⟩

abbrev nBuf : Space → Nat
  | .hbm => 164
  | .vmem => 0
  | .smem => 0
  | _ => 0

abbrev hbmTy0_0 (i : Nat) : BufTy := match i % 128 with
  | 0 => ⟨S2304x4096, .f32⟩
  | 1 => ⟨S2304x64, .f32⟩
  | 2 => ⟨S2x32, .f32⟩
  | 3 => ⟨S2x32, .f32⟩
  | 4 => ⟨S2x18x8x256x128, .f32⟩
  | 5 => ⟨S2304x2048, .f32⟩
  | 6 => ⟨S2304x1024, .f32⟩
  | 7 => ⟨S2304x1024, .f32⟩
  | 8 => ⟨S1x2304x1024, .f32⟩
  | 9 => ⟨S1x2304x1024, .f32⟩
  | 10 => ⟨S2x2304x1024, .f32⟩
  | 11 => ⟨S2304x2048, .f32⟩
  | 12 => ⟨S18x128x8x4x64, .f32⟩
  | 13 => ⟨S18x128x8x4x64, .f32⟩
  | 14 => ⟨S1x18x128x8x4x64, .f32⟩
  | 15 => ⟨S1x18x128x8x4x64, .f32⟩
  | 16 => ⟨S2x18x128x8x4x64, .f32⟩
  | 17 => ⟨S2304x1024, .f32⟩
  | 18 => ⟨S18x128x8x128, .f32⟩
  | 19 => ⟨S18x128x8x128, .f32⟩
  | 20 => ⟨S1x18x128x8x128, .f32⟩
  | 21 => ⟨S1x18x128x8x128, .f32⟩
  | 22 => ⟨S2x18x128x8x128, .f32⟩
  | 23 => ⟨S2x18x128x8x128, .f32⟩
  | 24 => ⟨S1x18x128x8x128, .f32⟩
  | 25 => ⟨S18x128x8x128, .f32⟩
  | 26 => ⟨S1x18x128x8x128, .f32⟩
  | 27 => ⟨S18x128x8x128, .f32⟩
  | 28 => ⟨S18x128x8x128, .f32⟩
  | 29 => ⟨S1x18x128x8x128, .f32⟩
  | 30 => ⟨S1x18x128x8x128, .f32⟩
  | 31 => ⟨S2x18x128x8x128, .f32⟩
  | 32 => ⟨S18x128x2x8x4, .f32⟩
  | 33 => ⟨S2x8x4, .f32⟩
  | 34 => ⟨S1x1x2x8x4, .f32⟩
  | 35 => ⟨S18x128x2x8x4, .f32⟩
  | 36 => ⟨S18x128x2x8x4, .f32⟩
  | 37 => ⟨S_, .f32⟩
  | 38 => ⟨S18x128x2x8x4, .f32⟩
  | 39 => ⟨S18x128x2x8x4, .f32⟩
  | 40 => ⟨S18x128x2x8x4, .f32⟩
  | 41 => ⟨S18x128x2x8x4, .f32⟩
  | 42 => ⟨S18x128x2x8x4, .i1⟩
  | 43 => ⟨S18x128x2x8x4, .f32⟩
  | 44 => ⟨S18x128x2x8x4, .f32⟩
  | 45 => ⟨S18x128x2x8x4, .f32⟩
  | 46 => ⟨S18x128x2x8x4, .f32⟩
  | 47 => ⟨S18x128x2x8x4, .f32⟩
  | 48 => ⟨S18x128x2x8x4, .f32⟩
  | 49 => ⟨S18x128x2x8x4, .f32⟩
  | 50 => ⟨S18x128x2x8x4, .f32⟩
  | 51 => ⟨S18x128x1x8x4, .f32⟩
  | 52 => ⟨S18x128x8x4, .f32⟩
  | 53 => ⟨S18x128x1x8x4, .f32⟩
  | 54 => ⟨S18x128x8x4, .f32⟩
  | 55 => ⟨S18x128x8x4, .f32⟩
  | 56 => ⟨S1x18x128x8x4, .f32⟩
  | 57 => ⟨S1x18x128x8x4, .f32⟩
  | 58 => ⟨S2x18x128x8x4, .f32⟩
  | 59 => ⟨S2x32, .f32⟩
  | 60 => ⟨S2x1x1x8x4, .f32⟩
  | 61 => ⟨S2x1x1x8x4, .f32⟩
  | 62 => ⟨S2x18x8x4x64x128, .f32⟩
  | 63 => ⟨S2x18x128x8x4, .f32⟩
  | 64 => ⟨S2x18x128x8x4, .f32⟩
  | 65 => ⟨S_, .f32⟩
  | 66 => ⟨S_, .f32⟩
  | 67 => ⟨S2x18x128x8x4, .f32⟩
  | 68 => ⟨S2x18x128x8x4x1, .f32⟩
  | 69 => ⟨S2x18x128x8x4x64, .f32⟩
  | 70 => ⟨S2x18x128x8x4x64, .f32⟩
  | 71 => ⟨S2x18x128x1x8x4, .f32⟩
  | 72 => ⟨S2x18x1x128x8x4, .f32⟩
  | 73 => ⟨S2x18x128x128x8x4, .f32⟩
  | 74 => ⟨S2x18x128x128x8x4, .f32⟩
  | 75 => ⟨S2x18x128x128x8x4, .f32⟩
  | 76 => ⟨S_, .i1⟩
  | 77 => ⟨S128x128, .i1⟩
  | 78 => ⟨S128x128, .i32⟩
  | 79 => ⟨S_, .i32⟩
  | 80 => ⟨S128x128, .i32⟩
  | 81 => ⟨S128x128, .i32⟩
  | 82 => ⟨S128x128, .i32⟩
  | 83 => ⟨S128x128, .i1⟩
  | 84 => ⟨S_, .i1⟩
  | 85 => ⟨S128x128, .i1⟩
  | 86 => ⟨S128x128, .i1⟩
  | 87 => ⟨S128x128x1x1, .i1⟩
  | 88 => ⟨S_, .f32⟩
  | 89 => ⟨S_, .f32⟩
  | 90 => ⟨S2x18x128x128x8x4, .i1⟩
  | 91 => ⟨S2x18x128x128x8x4, .f32⟩
  | 92 => ⟨S2x18x128x128x8x4, .f32⟩
  | 93 => ⟨S2x18x128x128x8x4, .f32⟩
  | 94 => ⟨S2x18x8x128x128, .f32⟩
  | 95 => ⟨S2x18x128x128x8, .f32⟩
  | 96 => ⟨S2x18x128x128x8x1, .f32⟩
  | 97 => ⟨S2x18x128x128x8x4, .f32⟩
  | 98 => ⟨S2x18x128x128x8x4, .f32⟩
  | 99 => ⟨S2x18x8x4x64x128, .f32⟩
  | 100 => ⟨S2x18x128x8x4x64, .f32⟩
  | 101 => ⟨S2x18x8x4x64x128, .f32⟩
  | 102 => ⟨S2x18x128x8x4x64, .f32⟩
  | 103 => ⟨S2x18x128x8x4, .f32⟩
  | 104 => ⟨S2x18x128x8x4x1, .f32⟩
  | 105 => ⟨S2x18x128x8x4x64, .f32⟩
  | 106 => ⟨S2x18x128x8x4x64, .f32⟩
  | 107 => ⟨S2x18x128x8x4x64, .f32⟩
  | 108 => ⟨S1x18x128x8x4x64, .f32⟩
  | 109 => ⟨S18x128x8x4x64, .f32⟩
  | 110 => ⟨S1x18x128x8x4x64, .f32⟩
  | 111 => ⟨S18x128x8x4x64, .f32⟩
  | 112 => ⟨S18x128x8x4x64, .f32⟩
  | 113 => ⟨S1x18x128x8x4x64, .f32⟩
  | 114 => ⟨S1x18x128x8x4x64, .f32⟩
  | 115 => ⟨S2x18x128x8x4x64, .f32⟩
  | 116 => ⟨S2x2304x2048, .f32⟩
  | 117 => ⟨S1x2304x2048, .f32⟩
  | 118 => ⟨S1x2304x2048, .f32⟩
  | 119 => ⟨S2x2304x2048, .f32⟩
  | 120 => ⟨S2x18x128x8x4x64, .f32⟩
  | 121 => ⟨S1x18x128x8x4x64, .f32⟩
  | 122 => ⟨S18x128x8x4x64, .f32⟩
  | 123 => ⟨S1x18x128x8x4x64, .f32⟩
  | 124 => ⟨S18x128x8x4x64, .f32⟩
  | 125 => ⟨S18x128x8x4x64, .f32⟩
  | 126 => ⟨S1x18x128x8x4x64, .f32⟩
  | 127 => ⟨S_, .f32⟩
  | _ => ⟨S2304x4096, .f32⟩

abbrev hbmTy0_1 (i : Nat) : BufTy := match i % 128 with
  | 0 => ⟨S2x18x128x8x4x64, .f32⟩
  | 1 => ⟨S1x18x128x8x4x64, .f32⟩
  | 2 => ⟨S_, .f32⟩
  | 3 => ⟨S2x18x128x8x4x64, .f32⟩
  | 4 => ⟨S2x18x128x8x4x64, .f32⟩
  | 5 => ⟨S2x18x128x8x4x64, .f32⟩
  | 6 => ⟨S2x18x128x8x4x64, .f32⟩
  | 7 => ⟨S2x18x8x4x64x128, .f32⟩
  | 8 => ⟨S2x18x8x128x128, .f32⟩
  | 9 => ⟨S2x18x128x8x128, .f32⟩
  | 10 => ⟨S2x18x8x4x64x128, .f32⟩
  | 11 => ⟨S2x18x8x4x128x128, .f32⟩
  | 12 => ⟨S2x18x128x128x8x4, .f32⟩
  | 13 => ⟨S2x18x128x128x8x4, .f32⟩
  | 14 => ⟨S_, .f32⟩
  | 15 => ⟨S2x18x128x128x8, .f32⟩
  | 16 => ⟨S2x18x128x128x8x1, .f32⟩
  | 17 => ⟨S_, .f32⟩
  | 18 => ⟨S2x18x128x128x8, .f32⟩
  | 19 => ⟨S2x18x8x128x128, .f32⟩
  | 20 => ⟨S2x18x8x128x128, .f32⟩
  | 21 => ⟨S2x18x128x8x128, .f32⟩
  | 22 => ⟨S2x18x128x8x128, .f32⟩
  | 23 => ⟨S1x18x128x8x128, .f32⟩
  | 24 => ⟨S18x128x8x128, .f32⟩
  | 25 => ⟨S1x18x128x8x128, .f32⟩
  | 26 => ⟨S18x128x8x128, .f32⟩
  | 27 => ⟨S18x128x8x128, .f32⟩
  | 28 => ⟨S1x18x128x8x128, .f32⟩
  | 29 => ⟨S_, .f32⟩
  | 30 => ⟨S2x18x128x8x128, .f32⟩
  | 31 => ⟨S1x18x128x8x128, .f32⟩
  | 32 => ⟨S_, .f32⟩
  | 33 => ⟨S2x18x128x8x128, .f32⟩
  | 34 => ⟨S2x18x128x8x128, .f32⟩
  | 35 => ⟨S2x2304x1024, .f32⟩
  | _ => ⟨S2304x4096, .f32⟩

abbrev hbmTy (i : Nat) : BufTy := match i / 128 with
  | 0 => hbmTy0_0 i
  | 1 => hbmTy0_1 i
  | _ => ⟨S2304x4096, .f32⟩

abbrev bufTy : (tb : Table) → Fin (tcTables nBuf tb) → BufTy
  | .hbm, ⟨i, _⟩ => hbmTy i
  | _, _ => ⟨S2304x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_call3_cst : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_call3_v5 : Ref sig .tc := ⟨.hbm, 43, rfl⟩
abbrev main_call3_v6 : Ref sig .tc := ⟨.hbm, 44, rfl⟩
abbrev main_call3_v7 : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_v11 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call5_call0_cst : Ref sig .tc := ⟨.hbm, 65, rfl⟩
abbrev main_call5_call0_v0 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c : Ref sig .tc := ⟨.hbm, 76, rfl⟩
abbrev main_v55 : Ref sig .tc := ⟨.hbm, 77, rfl⟩
abbrev main_call6_v0 : Ref sig .tc := ⟨.hbm, 78, rfl⟩
abbrev main_call6_c : Ref sig .tc := ⟨.hbm, 79, rfl⟩
abbrev main_call6_v1 : Ref sig .tc := ⟨.hbm, 80, rfl⟩
abbrev main_call6_v2 : Ref sig .tc := ⟨.hbm, 81, rfl⟩
abbrev main_call6_v3 : Ref sig .tc := ⟨.hbm, 82, rfl⟩
abbrev main_call6_v4 : Ref sig .tc := ⟨.hbm, 83, rfl⟩
abbrev main_call6_c_0 : Ref sig .tc := ⟨.hbm, 84, rfl⟩
abbrev main_call6_v5 : Ref sig .tc := ⟨.hbm, 85, rfl⟩
abbrev main_v56 : Ref sig .tc := ⟨.hbm, 86, rfl⟩
abbrev main_v57 : Ref sig .tc := ⟨.hbm, 87, rfl⟩
abbrev main_cst : Ref sig .tc := ⟨.hbm, 88, rfl⟩
abbrev main_call7_v0 : Ref sig .tc := ⟨.hbm, 89, rfl⟩
abbrev main_call7_v1 : Ref sig .tc := ⟨.hbm, 90, rfl⟩
abbrev main_call7_v2 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_0 : Ref sig .tc := ⟨.hbm, 127, rfl⟩
abbrev main_v93 : Ref sig .tc := ⟨.hbm, 128, rfl⟩
abbrev main_v94 : Ref sig .tc := ⟨.hbm, 129, rfl⟩
abbrev main_cst_1 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_cst_2 : Ref sig .tc := ⟨.hbm, 142, rfl⟩
abbrev main_v106 : Ref sig .tc := ⟨.hbm, 143, rfl⟩
abbrev main_v107 : Ref sig .tc := ⟨.hbm, 144, rfl⟩
abbrev main_cst_3 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_4 : Ref sig .tc := ⟨.hbm, 157, rfl⟩
abbrev main_v119 : Ref sig .tc := ⟨.hbm, 158, rfl⟩
abbrev main_v120 : Ref sig .tc := ⟨.hbm, 159, rfl⟩
abbrev main_cst_5 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩

abbrev nD : Nat := 1
abbrev τ : Topo := Topo.v7x

variable {F : FTy → Type} [FloatOps F]
-- ==== Proof.Scalars.lean ====
/- Facts about the extended reals that several of the value proofs share: no program occurs here. -/
module

public import Idealize.ShloMosaic.PureOps.Ideal.Laws
public import Idealize.ShloMosaic.Lib.Pointwise

@[expose] public section

noncomputable section

open Idealize.ShloMosaic

namespace Cert.Scalars

/-- `0 - x` is the negation of `x`, at the infinities too. -/
theorem zero_sub' (x : EReal) : 0 - x = -x := by
  rw [sub_eq_add_neg, zero_add]

/-- The derivative of the logistic function, written with the exponential as a kernel has it, is
    `s * (1 - s)`, once it is multiplied by the argument (which settles the two infinities). -/
theorem sigma_prime (y : EReal) :
    y * (Ideal.div 1 ((1 + Ideal.exp (-y)) * (1 + Ideal.exp (-y))) * Ideal.exp (-y))
      = y * (Ideal.div 1 (1 + Ideal.exp (-y)) * (1 - Ideal.div 1 (1 + Ideal.exp (-y)))) := by
  induction y using EReal.rec with
  | bot =>
    have h : Ideal.exp (-⊥) = ⊤ := rfl
    have h1 : (1 : EReal) + ⊤ = ⊤ := rfl
    rw [h, h1, EReal.top_mul_top]
    have h2 : Ideal.div 1 ⊤ = 0 := by simp [Ideal.div]
    rw [h2]; simp
  | top =>
    have h : Ideal.exp (-⊤) = 0 := rfl
    rw [h]
    have h2 : Ideal.div 1 (1 + 0) = 1 := by simp [Ideal.div]
    rw [h2]
    have h3 : (1 : EReal) - 1 = 0 := by
      have : ((1 : ℝ) : EReal) - ((1 : ℝ) : EReal) = 0 := by rw [← EReal.coe_sub]; simp
      simpa using this
    rw [h3]; simp
  | coe r =>
    have h : Ideal.exp (-(r : EReal)) = ((Real.exp (-r) : ℝ) : EReal) := by
      rw [← EReal.coe_neg]; rfl
    have h0 : (0 : ℝ) < Real.exp (-r) := Real.exp_pos _
    rw [h]
    have h1 : (1 : EReal) + ((Real.exp (-r) : ℝ) : EReal) = ((1 + Real.exp (-r) : ℝ) : EReal) := by
      rw [EReal.coe_add]; rfl
    rw [h1, ← EReal.coe_mul, Ideal.div_coe (by positivity), Ideal.div_coe (by positivity)]
    have e1 : (1 : EReal) = ((1 : ℝ) : EReal) := rfl
    rw [e1]
    simp only [← EReal.coe_mul, ← EReal.coe_sub]
    congr 1
    field_simp
    ring

/-- The gradient of `silu` times the incoming gradient `d`: the form that differentiates
    `1 / (1 + exp (0 - y))` step by step against `d * s + y * d * (s * (1 - s))`. -/
theorem silu_grad (y d : EReal) :
    d * Ideal.div 1 (1 + Ideal.exp (0 - y))
        + (0 - (0 - y * d * Ideal.div 1 ((1 + Ideal.exp (0 - y)) * (1 + Ideal.exp (0 - y)))) * Ideal.exp (0 - y))
      = d * Ideal.div 1 (1 + Ideal.exp (-y))
        + y * d * (Ideal.div 1 (1 + Ideal.exp (-y)) * (1 - Ideal.div 1 (1 + Ideal.exp (-y)))) := by
  simp only [zero_sub', EReal.neg_mul, neg_neg]
  rw [mul_comm y d, mul_assoc (d * y), mul_assoc d y, sigma_prime, mul_assoc d y]

end Cert.Scalars

end
-- ==== Proof.Ln0.lean ====
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import proofs.«01_k».proof.Proof.Scalars

@[expose] public section

set_option maxRecDepth 16384

noncomputable section

open Idealize.ShloMosaic Idealize.ShloMosaic.TcCoe Idealize.SL.Sem
open scoped BigOperators

namespace Cert.Kernel2Ideal.Ln

open Cert.Kernel2Ideal Cert.Kernel2Ideal.Gen
open Cert.Reference2Ideal.Read

variable (x : FVec Ideal S256x1024 .f32) (ds : FVec Ideal S256x1024 .bf16) (w b : FVec Ideal S1x1024 .f32)
  (X : FVec Ideal S2048x1024 .f32) (DS : FVec Ideal S2048x1024 .bf16) (row : Fin 256 → Fin 2048)

/-- The gradient that reaches the layer norm: the block the kernel forms agrees with the reference's
    value at the same row. -/
theorem pay16_at (hx : ∀ p q, x (ix2 p q) = X (ix2 (row p) q)) (hd : ∀ p q, ds (ix2 p q) = DS (ix2 (row p) q))
    (p : Fin 256) (q : Fin 1024) :
    k0_pay16 (F := Ideal) (k0_pay11 x w b) (k0_pay14 x w b ds) (k0_pay15 x w b ds) (ix2 p q)
      = val_main_v25 (F := Ideal) X w b DS (ix2 (row p) q) := by
  pointwise [k0_pay16, k0_pay11, k0_pay14, k0_pay15, k0_pay13, k0_pay12, k0_pay10, k0_pay9, k0_pay8, k0_pay7, k0_pay6, k0_pay5, hx, hd,
    val_main_cst, val_main_v0, val_main_v1, val_main_cst_0, val_main_v2, val_main_v3, val_main_v4, val_main_v5, val_main_v6, val_main_cst_1, val_main_v7, val_main_v8, val_main_cst_2, val_main_v9, val_main_v10, val_main_cst_3, val_main_v11, val_main_v12, val_main_v13, val_main_v14, val_main_cst_4, val_main_v15, val_main_v16, val_main_v17, val_main_v18, val_main_v19, val_main_v20, val_main_v21, val_main_v22, val_main_call0_v0, val_main_call0_v1, val_main_call0_cst, val_main_call0_v2, val_main_call0_v3, val_main_call0_cst_0, val_main_call0_v4, val_main_v23_2, val_main_call0_cst_1, val_main_call0_v6, val_main_call0_v7, val_main_v23_1, val_main_v23_0, val_main_v24, val_main_call1_v0, val_main_call1_v1, val_main_call1_v2, val_main_v25]
  exact Cert.Scalars.silu_grad _ _

/-- The gradient with respect to the layer's input, at one row. -/
theorem dx_at (hx : ∀ p q, x (ix2 p q) = X (ix2 (row p) q)) (hd : ∀ p q, ds (ix2 p q) = DS (ix2 (row p) q))
    (p : Fin 256) (q : Fin 1024) :
    k0_pay19 (F := Ideal) w (k0_pay5 x) (k0_pay7 x) (k0_pay8 x) (k0_pay11 x w b) (k0_pay14 x w b ds) (k0_pay15 x w b ds) (ix2 p q)
      = val_main_v54 (F := Ideal) X w b DS (ix2 (row p) q) := by
  have h16 := pay16_at x ds w b X DS row hx hd
  pointwise [k0_pay19, k0_pay8, k0_pay7, k0_pay6, k0_pay5, hx, hd, h16,
    val_main_cst, val_main_v0, val_main_v1, val_main_cst_0, val_main_v2, val_main_v3, val_main_v4, val_main_v5, val_main_v6, val_main_cst_1, val_main_v7, val_main_v8, val_main_cst_2, val_main_v9, val_main_v10, val_main_cst_3, val_main_v11, val_main_v12, val_main_v13, val_main_v14, val_main_cst_4, val_main_v15, val_main_v16, val_main_v17, val_main_v18, val_main_v19, val_main_v20, val_main_v21, val_main_v22, val_main_v23_2, val_main_v23_1, val_main_v23_0, val_main_v24, val_main_cst_5, val_main_v26, val_main_v27, val_main_v28, val_main_cst_6, val_main_v29, val_main_v30, val_main_v31, val_main_v32, val_main_v33, val_main_cst_7, val_main_v34, val_main_v35, val_main_v36, val_main_v37, val_main_v38, val_main_cst_8, val_main_v39, val_main_v40, val_main_cst_9, val_main_v41, val_main_v42, val_main_v43, val_main_v44, val_main_v45, val_main_v46, val_main_v47, val_main_cst_10, val_main_v48, val_main_v49, val_main_cst_11, val_main_v50, val_main_v51, val_main_cst_12, val_main_v52, val_main_v53, val_main_v54]
  simp only [Fintype.sum_unique, Cert.Scalars.zero_sub']

/-- One point's share of the gradient of the scale. -/
theorem dw_at (hx : ∀ p q, x (ix2 p q) = X (ix2 (row p) q)) (hd : ∀ p q, ds (ix2 p q) = DS (ix2 (row p) q))
    (o : Fin 1) (q : Fin 1024) :
    k0_pay18 (F := Ideal) (k0_pay9 x) (k0_pay11 x w b) (k0_pay14 x w b ds) (k0_pay15 x w b ds) (ix2 o q)
      = ∑ p : Fin 256, val_main_v28 (F := Ideal) X w b DS (ix2 (row p) q) := by
  have h16 := pay16_at x ds w b X DS row hx hd
  pointwise [k0_pay18, k0_pay9, k0_pay7, k0_pay6, k0_pay5, hx, hd, h16,
    val_main_cst, val_main_v0, val_main_v1, val_main_cst_0, val_main_v2, val_main_v3, val_main_v4, val_main_v5, val_main_v6, val_main_cst_1, val_main_v7, val_main_v8, val_main_cst_2, val_main_v9, val_main_v10, val_main_cst_3, val_main_v11, val_main_v12, val_main_v13, val_main_v14, val_main_cst_4, val_main_v15, val_main_v16, val_main_v17, val_main_v18, val_main_v19, val_main_v20, val_main_v21, val_main_v22, val_main_v23_2, val_main_v23_1, val_main_v23_0, val_main_v24, val_main_v28]

/-- One point's share of the gradient of the shift. -/
theorem db_at (hx : ∀ p q, x (ix2 p q) = X (ix2 (row p) q)) (hd : ∀ p q, ds (ix2 p q) = DS (ix2 (row p) q))
    (o : Fin 1) (q : Fin 1024) :
    k0_pay17 (F := Ideal) (k0_pay11 x w b) (k0_pay14 x w b ds) (k0_pay15 x w b ds) (ix2 o q)
      = ∑ p : Fin 256, val_main_v25 (F := Ideal) X w b DS (ix2 (row p) q) := by
  have h16 := pay16_at x ds w b X DS row hx hd
  pointwise [k0_pay17, h16]

end Cert.Kernel2Ideal.Ln

end
-- ==== Proof.LnValue.lean ====
module

public import proofs.«01_k».proof.Proof.Ln0

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Ln

open Cert.Kernel2Ideal Cert.Kernel2Ideal.Gen
open Cert.Reference2Ideal.Read

variable (m : (ℓ : Loc nD τ sig) → Buf (Elt Ideal) ℓ)

/-- The block index of every window at every grid point. -/
theorem idx_val : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![0, 0]
    ∧ win0_6.index t = ![0, 0] :=
  (by decide +kernel : ∀ t : Fin grid0.N, _)

/-- The row of the whole array that row `p` of block `t` is. -/
def row (t : Fin cfg0.N) (p : Fin 256) : Fin 2048 :=
  ⟨t.val * 256 + p.val, by have := lt_of_lt_of_eq t.isLt N_0; omega⟩

abbrev A0 (c : Dev nD) : FVec Ideal S2048x1024 .f32 := m ((c : Thread nD τ).loc main_arg0)
abbrev A1 (c : Dev nD) : FVec Ideal S1x1024 .f32 := m ((c : Thread nD τ).loc main_arg1)
abbrev A2 (c : Dev nD) : FVec Ideal S1x1024 .f32 := m ((c : Thread nD τ).loc main_arg2)
abbrev A3 (c : Dev nD) : FVec Ideal S2048x1024 .bf16 := m ((c : Thread nD τ).loc main_arg3)

theorem blk_0 (c : Dev nD) (t : Fin cfg0.N) (p : Fin 256) (q : Fin 1024) :
    iblk m c 0 t (ix2 p q) = A0 m c (ix2 (row t p) q) := by
  unfold row
  blk_point [iblk, V, idx_val t]

theorem blk_3 (c : Dev nD) (t : Fin cfg0.N) (p : Fin 256) (q : Fin 1024) :
    iblk m c 3 t (ix2 p q) = A3 m c (ix2 (row t p) q) := by
  unfold row
  blk_point [iblk, V, idx_val t]

theorem blk_1 (c : Dev nD) (t : Fin cfg0.N) : iblk m c 1 t = A1 m c := by
  refine funext fun (i : S1x1024.Idx) => ?_
  idx_vars i
  blk_point [iblk, V, idx_val t]

theorem blk_2 (c : Dev nD) (t : Fin cfg0.N) : iblk m c 2 t = A2 m c := by
  refine funext fun (i : S1x1024.Idx) => ?_
  idx_vars i
  blk_point [iblk, V, idx_val t]

/-- The block a grid point writes is the reference's value at the rows of the block. -/
theorem point_4 (c : Dev nD) (t : Fin cfg0.N) (y : S256x1024.Idx) :
    k0_pay19 (F := Ideal) (iblk m c 1 t) (k0_pay5 (iblk m c 0 t)) (k0_pay7 (iblk m c 0 t)) (k0_pay8 (iblk m c 0 t))
      (k0_pay11 (iblk m c 0 t) (iblk m c 1 t) (iblk m c 2 t))
      (k0_pay14 (iblk m c 0 t) (iblk m c 1 t) (iblk m c 2 t) (iblk m c 3 t))
      (k0_pay15 (iblk m c 0 t) (iblk m c 1 t) (iblk m c 2 t) (iblk m c 3 t)) y =
    val_main_v54 (F := Ideal) (A0 m c) (A1 m c) (A2 m c) (A3 m c) (((View.whole main_v0_0).slice (win0_4.rect t)).emb y) := by
  idx_vars y
  rw [blk_1, blk_2, dx_at _ _ _ _ _ _ (row t) (blk_0 m c t) (blk_3 m c t) y0 y1]
  unfold row
  blk_point [iblk, V, idx_val t]

/-- The array of the gradient with respect to the layer's input. -/
theorem final_4 (c : Dev nD) : (dats m 0 c).arrAt 4 (cfgs 0).N
    = val_main_v54 (F := Ideal) (A0 m c) (A1 m c) (A2 m c) (A3 m c) := by
  refine (dats m 0 c).arrAt_eq_of_covers 4 _ (by decide +kernel) fun t hf y => ?_
  blk_simp; rw [after0_4]
  by_cases h : t.val % 8 = 0
  · rw [outsAt0_A m c t h]; dsimp only; frame_out
    exact point_4 m c t y
  · rw [outsAt0_B m c t h]; dsimp only; frame_out
    exact point_4 m c t y

theorem hzero_5 (j : S1x1024.Idx) : k0_pay1 (F := Ideal) j = 0 := by
  pointwise! [k0_pay1]
theorem hpay_5 (v53 : FVec Ideal S1x1024 .f32) (v85 : Vec Ideal S1x1024 .f32) (j : S1x1024.Idx) :
    k0_pay3 v53 v85 j = v85 j + v53 j := by
  pointwise [k0_pay3]

/-- The array of the gradient of the scale. -/
theorem final_5 (c : Dev nD) : (dats m 0 c).arrAt 5 (cfgs 0).N
    = val_main_v30 (F := Ideal) (A0 m c) (A1 m c) (A2 m c) (A3 m c) := by
  refine (dats m 0 c).arrAt_eq_of_after_last 5 t0_7 (by decide +kernel) _ fun j => ?_
  blk_simp
  rw [after0_5, Pipeline.eq_sum_fin_of_reset_step_apply_last (fun n h => (outsAt0 m c n h).2.1) 8 (fun _ => 0) _
    (fun t h j => by rw [outsAt0_A m c t h]; frame_out; rw [hpay_5, hzero_5])
    (fun t h j => by rw [outsAt0_B m c t h]; frame_out; rw [hpay_5])
    (le_of_eq N_0) t0_7 rfl j, zero_add]
  idx_vars j
  simp only [blk_1, blk_2]
  rw [Finset.sum_congr rfl fun t _ => dw_at _ _ _ _ _ _ (row t) (blk_0 m c t) (blk_3 m c t) j0 j1]
  unfold row
  pointwise [val_main_v30, val_main_v29, val_main_cst_6]
  refine Fin.sum_mul_add_congr fun s k hl => ?_
  rfl

theorem hzero_6 (j : S1x1024.Idx) : k0_pay2 (F := Ideal) j = 0 := by
  pointwise! [k0_pay2]
theorem hpay_6 (v50 : FVec Ideal S1x1024 .f32) (v89 : Vec Ideal S1x1024 .f32) (j : S1x1024.Idx) :
    k0_pay4 v50 v89 j = v89 j + v50 j := by
  pointwise [k0_pay4]

/-- The array of the gradient of the shift. -/
theorem final_6 (c : Dev nD) : (dats m 0 c).arrAt 6 (cfgs 0).N
    = val_main_v27 (F := Ideal) (A0 m c) (A1 m c) (A2 m c) (A3 m c) := by
  refine (dats m 0 c).arrAt_eq_of_after_last 6 t0_7 (by decide +kernel) _ fun j => ?_
  blk_simp
  rw [after0_6, Pipeline.eq_sum_fin_of_reset_step_apply_last (fun n h => (outsAt0 m c n h).2.2) 8 (fun _ => 0) _
    (fun t h j => by rw [outsAt0_A m c t h]; frame_out; rw [hpay_6, hzero_6])
    (fun t h j => by rw [outsAt0_B m c t h]; frame_out; rw [hpay_6])
    (le_of_eq N_0) t0_7 rfl j, zero_add]
  idx_vars j
  simp only [blk_1, blk_2]
  rw [Finset.sum_congr rfl fun t _ => db_at _ _ _ _ _ _ (row t) (blk_0 m c t) (blk_3 m c t) j0 j1]
  unfold row
  pointwise [val_main_v27, val_main_v26, val_main_cst_5]
  refine Fin.sum_mul_add_congr fun s k hl => ?_
  rfl

end Cert.Kernel2Ideal.Ln

end
-- ==== Proof.LnClaim.lean ====
module

public import proofs.«01_k».proof.Defs
public import proofs.«01_k».proof.Proof.LnValue
public import proofs.«01_k».proof.Proof.Gen.Reference2Ideal.Run
public import Idealize.ShloMosaic.Lib.Quiescent

@[expose] public section

set_option maxRecDepth 16384

noncomputable section

namespace Cert.Proof

open Idealize.ShloMosaic Idealize.SL.Sem

/-- The reference program leaves its arguments as they were and every counter at zero. -/
theorem frame_2 : Cert.quiescent_Reference2Ideal := fun m g _ =>
  (θ_run _ _ _).mono (fun r h => ⟨fun c => (h c).2.2.2, sem_eq_zero_of_no_sems (by decide) r.2⟩)
    (Cert.Reference2Ideal.Value.run m g)

/-- The backward call of the layer norm with its gate computes the three gradients the reference computes. -/
theorem algebraic_2 : Cert.algebraic_Kernel2Ideal_Reference2Ideal := fun m g m' g' _ hag =>
  ⟨fun c => (Cert.Kernel2Ideal.Gen.dats m 0 c).arrAt 4 Cert.Kernel2Ideal.cfg0.N,
   fun c => (Cert.Kernel2Ideal.Gen.dats m 0 c).arrAt 5 Cert.Kernel2Ideal.cfg0.N,
   fun c => (Cert.Kernel2Ideal.Gen.dats m 0 c).arrAt 6 Cert.Kernel2Ideal.cfg0.N,
   (θ_run _ _ _).mono (fun r h c => h c) (Cert.Kernel2Ideal.Value.run_blocks m g),
   (θ_run _ _ _).mono (fun r h c => by
      obtain ⟨h0, h1, h2, hk⟩ := h c
      obtain ⟨a0, a1, a2, a3⟩ := hag c
      refine ⟨h0.trans ?_, h1.trans ?_, h2.trans ?_, hk⟩
      · refine (Cert.Reference2Ideal.Read.val_main_v54_eq m' c).trans ?_
        rw [a0, a1, a2, a3]; exact (Cert.Kernel2Ideal.Ln.final_4 m c).symm
      · refine (Cert.Reference2Ideal.Read.val_main_v30_eq m' c).trans ?_
        rw [a0, a1, a2, a3]; exact (Cert.Kernel2Ideal.Ln.final_5 m c).symm
      · refine (Cert.Reference2Ideal.Read.val_main_v27_eq m' c).trans ?_
        rw [a0, a1, a2, a3]; exact (Cert.Kernel2Ideal.Ln.final_6 m c).symm)
     (Cert.Reference2Ideal.Value.run m' g')⟩

end Cert.Proof

end
-- ==== Proof.MmClaim.lean ====
module

public import proofs.«01_k».proof.Defs
public import proofs.«01_k».proof.Proof.Gen.Kernel8Ideal.Value
public import proofs.«01_k».proof.Proof.Gen.Reference8Ideal.Read
public import proofs.«01_k».proof.Proof.Gen.Reference8Ideal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.Kernel8Ideal.Product

open Idealize.ShloMosaic Idealize.ShloMosaic.TcCoe Idealize.SL.Sem
open Idealize.ShloMosaic.Pipeline (Dat)
open scoped BigOperators
open Cert.Kernel8Ideal Cert.Kernel8Ideal.Gen
open Cert.Reference8Ideal.Read

variable (m : (ℓ : Loc nD τ sig) → Buf (Elt Ideal) ℓ)

/-- The block index of every window at every grid point. -/
theorem idx_val : ∀ t : Fin cfg0.N, win0_0.index t = ![t.val, 0]
    ∧ win0_1.index t = ![t.val, 0]
    ∧ win0_2.index t = ![0, 0] :=
  (by decide +kernel : ∀ t : Fin grid0.N, _)

abbrev A0 (c : Dev nD) : FVec Ideal S2048x2816 .bf16 := m ((c : Thread nD τ).loc main_arg0)
abbrev A1 (c : Dev nD) : FVec Ideal S2048x1024 .bf16 := m ((c : Thread nD τ).loc main_arg1)

/-- The accumulator starts at zero. -/
theorem zero_at (j : S2816x1024.Idx) : k0_pay1 (F := Ideal) j = 0 := by
  pointwise! [k0_pay1]

/-- One grid point adds to the accumulator the product over its block of rows. -/
theorem step_at (v : Vec Ideal S2816x1024 .f32) (x : Vec Ideal S256x2816 .bf16) (y : Vec Ideal S256x1024 .bf16) (j : S2816x1024.Idx) :
    k0_pay2 (F := Ideal) v x y j = v j + k0_pay2 (F := Ideal) (fun _ => 0) x y j := by
  pointwise [k0_pay2]

/-- The array of the product. -/
theorem final (c : Dev nD) : (dats m 0 c).arrAt 2 (cfgs 0).N = val_main_v3 (F := Ideal) (A0 m c) (A1 m c) := by
  refine (dats m 0 c).arrAt_eq_of_after_last 2 t0_7 (by decide +kernel) _ fun j => ?_
  blk_simp
  rw [after0_2]
  have hl : (outsAt0 m c t0_7.val t0_7.isLt).1 j = (outsAt0 m c t0_7.val t0_7.isLt).2 j := by
    rw [outsAt0_C m c t0_7 (by decide) (by decide)]; frame_out; pointwise [k0_pay3]
  rw [hl, Pipeline.eq_sum_fin_of_reset_step_apply_last (fun n h => (outsAt0 m c n h).2) 8 (fun _ => 0) _
    (fun t h j => by rw [outsAt0_A m c t h (by omega)]; frame_out; rw [step_at, zero_at])
    (fun t h j => by
      by_cases h1 : t.val % 8 = 7
      · rw [outsAt0_C m c t h h1]; frame_out; rw [step_at, read_unread_whole]
      · rw [outsAt0_B m c t h h1]; frame_out; rw [step_at, read_unread_whole])
    (le_of_eq N_0) t0_7 rfl j, zero_add]
  idx_vars j
  pointwise [k0_pay2, val_main_v3, val_main_v2, val_main_v1, val_main_v0]
  refine Fin.sum_mul_add_congr fun s k hl => ?_
  blk_point [iblk, V, idx_val s]

end Cert.Kernel8Ideal.Product

namespace Cert.Proof

open Idealize.ShloMosaic Idealize.SL.Sem

/-- The reference program leaves its arguments as they were and every counter at zero. -/
theorem frame_8 : Cert.quiescent_Reference8Ideal := fun m g _ =>
  (θ_run _ _ _).mono (fun r h => ⟨fun c => (h c).2, sem_eq_zero_of_no_sems (by decide) r.2⟩)
    (Cert.Reference8Ideal.Value.run m g)

/-- The product over the tokens is the gradient of the weight. -/
theorem algebraic_8 : Cert.algebraic_Kernel8Ideal_Reference8Ideal := fun m g m' g' _ hag =>
  ⟨fun c => (Cert.Kernel8Ideal.Gen.dats m 0 c).arrAt 2 Cert.Kernel8Ideal.cfg0.N,
   (θ_run _ _ _).mono (fun r h c => h c) (Cert.Kernel8Ideal.Value.run_blocks m g),
   (θ_run _ _ _).mono (fun r h c => by
      obtain ⟨h0, hk⟩ := h c
      obtain ⟨a0, a1⟩ := hag c
      refine ⟨h0.trans ?_, hk⟩
      · refine (Cert.Reference8Ideal.Read.val_main_v3_eq _ _).trans ?_
        rw [a0, a1]; exact (Cert.Kernel8Ideal.Product.final m c).symm)
     (Cert.Reference8Ideal.Value.run m' g')⟩

end Cert.Proof

end
-- ==== Proof.MmntClaim.lean ====
module

public import proofs.«01_k».proof.Defs
public import proofs.«01_k».proof.Proof.Gen.Kernel9Ideal.Value
public import proofs.«01_k».proof.Proof.Gen.Reference9Ideal.Read
public import proofs.«01_k».proof.Proof.Gen.Reference9Ideal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.Kernel9Ideal.Product

open Idealize.ShloMosaic Idealize.ShloMosaic.TcCoe Idealize.SL.Sem
open Idealize.ShloMosaic.Pipeline (Dat)
open scoped BigOperators
open Cert.Kernel9Ideal Cert.Kernel9Ideal.Gen
open Cert.Reference9Ideal.Read

variable (m : (ℓ : Loc nD τ sig) → Buf (Elt Ideal) ℓ)

/-- The block index of every window at every grid point. -/
theorem idx_val : ∀ t : Fin cfg0.N, win0_0.index t = ![t.val, 0]
    ∧ win0_1.index t = ![0, 0]
    ∧ win0_2.index t = ![t.val, 0] :=
  (by decide +kernel : ∀ t : Fin grid0.N, _)

abbrev A0 (c : Dev nD) : FVec Ideal S2048x1024 .bf16 := m ((c : Thread nD τ).loc main_arg0)
abbrev A1 (c : Dev nD) : FVec Ideal S2816x1024 .bf16 := m ((c : Thread nD τ).loc main_arg1)

/-- The array of the product. -/
theorem final (c : Dev nD) : (dats m 0 c).arrAt 2 (cfgs 0).N = val_main_v3 (F := Ideal) (A0 m c) (A1 m c) := by
  refine (dats m 0 c).arrAt_eq_of_covers 2 _ (by decide +kernel) fun t hf y => ?_
  blk_simp; rw [after0_2]; unfold outsAt0; frame_out
  idx_vars y
  pointwise [k0_pay1, k0_pay2, k0_pay3, val_main_v3, val_main_v2, val_main_v1, val_main_v0]
  blk_point [iblk, V, idx_val t]

end Cert.Kernel9Ideal.Product

namespace Cert.Proof

open Idealize.ShloMosaic Idealize.SL.Sem

/-- The reference program leaves its arguments as they were and every counter at zero. -/
theorem frame_9 : Cert.quiescent_Reference9Ideal := fun m g _ =>
  (θ_run _ _ _).mono (fun r h => ⟨fun c => (h c).2, sem_eq_zero_of_no_sems (by decide) r.2⟩)
    (Cert.Reference9Ideal.Value.run m g)

/-- The blocked product is the gradient of the input. -/
theorem algebraic_9 : Cert.algebraic_Kernel9Ideal_Reference9Ideal := fun m g m' g' _ hag =>
  ⟨fun c => (Cert.Kernel9Ideal.Gen.dats m 0 c).arrAt 2 Cert.Kernel9Ideal.cfg0.N,
   (θ_run _ _ _).mono (fun r h c => h c) (Cert.Kernel9Ideal.Value.run_blocks m g),
   (θ_run _ _ _).mono (fun r h c => by
      obtain ⟨h0, hk⟩ := h c
      obtain ⟨a0, a1⟩ := hag c
      refine ⟨h0.trans ?_, hk⟩
      · refine (Cert.Reference9Ideal.Read.val_main_v3_eq _ _).trans ?_
        rw [a0, a1]; exact (Cert.Kernel9Ideal.Product.final m c).symm)
     (Cert.Reference9Ideal.Value.run m' g')⟩

end Cert.Proof

end
-- ==== Proof.DxClaim.lean ====
module

public import proofs.«01_k».proof.Defs
public import proofs.«01_k».proof.Proof.Gen.Kernel10Ideal.Value
public import proofs.«01_k».proof.Proof.Gen.Reference10Ideal.Read
public import proofs.«01_k».proof.Proof.Gen.Reference10Ideal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.Kernel10Ideal.Product

open Idealize.ShloMosaic Idealize.ShloMosaic.TcCoe Idealize.SL.Sem
open Idealize.ShloMosaic.Pipeline (Dat)
open scoped BigOperators
open Cert.Kernel10Ideal Cert.Kernel10Ideal.Gen
open Cert.Reference10Ideal.Read

variable (m : (ℓ : Loc nD τ sig) → Buf (Elt Ideal) ℓ)

/-- The block index of every window at every grid point. -/
theorem idx_val : ∀ t : Fin cfg0.N, win0_0.index t = ![t.val, 0]
    ∧ win0_1.index t = ![t.val, 0]
    ∧ win0_2.index t = ![0, 0, 0]
    ∧ win0_3.index t = ![t.val, 0] :=
  (by decide +kernel : ∀ t : Fin grid0.N, _)

abbrev A0 (c : Dev nD) : FVec Ideal S2048x2816 .bf16 := m ((c : Thread nD τ).loc main_arg0)
abbrev A1 (c : Dev nD) : FVec Ideal S2048x2816 .bf16 := m ((c : Thread nD τ).loc main_arg1)
abbrev A2 (c : Dev nD) : FVec Ideal S8x1024x704 .bf16 := m ((c : Thread nD τ).loc main_arg2)

theorem ix3_congr {a b c : ℕ} {i i' : Fin a} {j j' : Fin b} {k k' : Fin c} (h : i = i') (h' : j = j') (h'' : k = k') :
    ix3 i j k = ix3 i' j' k' := by subst h h' h''; rfl

/-- The first gradient's block at a point, read from the array. -/
theorem leaf_0 (c : Dev nD) (t : Fin cfg0.N) (y0 : Fin 256) (y1 : Fin 1024) (u : Fin 2816) : iblk m c 0 t (ix2 y0 u)
    = A0 m c (ix2 (((cfg0.win 3).blk t).view.emb (ix2 y0 y1) 0) u) := by
  blk_point [iblk, V, idx_val t]

/-- The second gradient's block at a point, read from the array. -/
theorem leaf_1 (c : Dev nD) (t : Fin cfg0.N) (y0 : Fin 256) (y1 : Fin 1024) (u : Fin 2816) : iblk m c 1 t (ix2 y0 u)
    = A1 m c (ix2 (((cfg0.win 3).blk t).view.emb (ix2 y0 y1) 0) u) := by
  blk_point [iblk, V, idx_val t]

/-- The weight is one block, the same at every point. -/
theorem leaf_2 (c : Dev nD) (t : Fin cfg0.N) (g : Fin 8) (d : Fin 1024) (k : Fin 704) : iblk m c 2 t (ix3 g d k)
    = A2 m c (ix3 g d k) := by
  blk_point [iblk, V, idx_val t]

/-- A sum over 2816 columns is the sum over four tiles of 704 columns. -/
theorem sum_tiles (f : Fin 2816 → EReal) : ∑ x, f x = ∑ x : Fin 704, f ⟨x.val, by omega⟩ + ∑ x : Fin 704, f ⟨704 + x.val, by omega⟩
    + ∑ x : Fin 704, f ⟨1408 + x.val, by omega⟩ + ∑ x : Fin 704, f ⟨2112 + x.val, by omega⟩ := by
  rw [Fin.sum_univ_tiles (N := 2816) 4 704 (by norm_num), Fin.sum_univ_four]
  refine congrArg₂ (· + ·) (congrArg₂ (· + ·) (congrArg₂ (· + ·) ?_ ?_) ?_) ?_ <;>
    exact Finset.sum_congr rfl fun x _ => congrArg f (Fin.ext (by simp))

theorem point (c : Dev nD) (t : Fin cfg0.N) (y) :
    k0_pay1 (k0_pay2 (View.ld (iblk m c 0 t) r0_0) (View.ld (iblk m c 2 t) r0_1) (View.ld (iblk m c 0 t) r0_2)
      (View.ld (iblk m c 2 t) r0_3) (View.ld (iblk m c 0 t) r0_4) (View.ld (iblk m c 2 t) r0_5) (View.ld (iblk m c 0 t)
      r0_6) (View.ld (iblk m c 2 t) r0_7) (View.ld (iblk m c 1 t) r0_0) (View.ld (iblk m c 2 t) r0_8)) (View.ld (iblk m
      c 1 t) r0_2) (View.ld (iblk m c 2 t) r0_9) (View.ld (iblk m c 1 t) r0_4) (View.ld (iblk m c 2 t) r0_10) (View.ld
      (iblk m c 1 t) r0_6) (View.ld (iblk m c 2 t) r0_11) y
      = val_main_v6 (F := Ideal) (A0 m c) (A1 m c) (A2 m c) (((cfg0.win 3).blk t).view.emb y) := by
  idx_vars y
  pointwise [k0_pay1, k0_pay2, val_main_v6, val_main_v5, val_main_v1, val_main_v0, val_main_v4, val_main_v3, val_main_v2]
  rw [sum_tiles, sum_tiles, ← add_assoc, ← add_assoc, ← add_assoc]
  simp only [leaf_2]
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_ <;>
    refine Finset.sum_congr rfl fun x _ => congrArg₂ (· * ·)
      (by first | exact leaf_0 m c t y0 y1 _ | exact leaf_1 m c t y0 y1 _) (congrArg (A2 m c) ?_) <;>
    have hx := x.isLt <;>
    refine ix3_congr ?_ ?_ ?_ <;> refine Fin.ext ?_ <;> try dsimp only
  all_goals first | omega | (show (0 : ℕ) = _; omega) | (show (1 : ℕ) = _; omega) | (blk_simp [idx_val t]; done)

/-- The array of the product. -/
theorem final (c : Dev nD) : (dats m 0 c).arrAt 3 (cfgs 0).N = val_main_v6 (F := Ideal) (A0 m c) (A1 m c) (A2 m c) := by
  refine (dats m 0 c).arrAt_eq_of_covers 3 _ (by decide +kernel) fun t hf y => ?_
  blk_simp; rw [after0_3]; frame_out
  exact point m c t y

end Cert.Kernel10Ideal.Product

namespace Cert.Proof

open Idealize.ShloMosaic Idealize.SL.Sem

/-- The reference program leaves its arguments as they were and every counter at zero. -/
theorem frame_10 : Cert.quiescent_Reference10Ideal := fun m g _ =>
  (θ_run _ _ _).mono (fun r h => ⟨fun c => (h c).2, sem_eq_zero_of_no_sems (by decide) r.2⟩)
    (Cert.Reference10Ideal.Value.run m g)

/-- The sum of the column tiles is the gradient of the input of the projection up. -/
theorem algebraic_10 : Cert.algebraic_Kernel10Ideal_Reference10Ideal := fun m g m' g' _ hag =>
  ⟨fun c => (Cert.Kernel10Ideal.Gen.dats m 0 c).arrAt 3 Cert.Kernel10Ideal.cfg0.N,
   (θ_run _ _ _).mono (fun r h c => h c) (Cert.Kernel10Ideal.Value.run_blocks m g),
   (θ_run _ _ _).mono (fun r h c => by
      obtain ⟨h0, hk⟩ := h c
      obtain ⟨a0, a1, a2⟩ := hag c
      refine ⟨h0.trans ?_, hk⟩
      · refine (Cert.Reference10Ideal.Read.val_main_v6_eq _ _ _).trans ?_
        rw [a0, a1, a2]; exact (Cert.Kernel10Ideal.Product.final m c).symm)
     (Cert.Reference10Ideal.Value.run m' g')⟩

end Cert.Proof

end
-- ==== Proof.DwClaim.lean ====
module

public import proofs.«01_k».proof.Defs
public import proofs.«01_k».proof.Proof.Gen.Kernel11Ideal.Value
public import proofs.«01_k».proof.Proof.Gen.Reference11Ideal.Read
public import proofs.«01_k».proof.Proof.Gen.Reference11Ideal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.Kernel11Ideal.Product

open Idealize.ShloMosaic Idealize.ShloMosaic.TcCoe Idealize.SL.Sem
open Idealize.ShloMosaic.Pipeline (Dat)
open scoped BigOperators
open Cert.Kernel11Ideal Cert.Kernel11Ideal.Gen
open Cert.Reference11Ideal.Read

variable (m : (ℓ : Loc nD τ sig) → Buf (Elt Ideal) ℓ)

/-- The block index of every window at every grid point. -/
theorem idx_val : ∀ t : Fin cfg0.N, win0_0.index t = ![t.val % 4, 0]
    ∧ win0_1.index t = ![t.val % 4, 0]
    ∧ win0_2.index t = ![t.val % 4, 0]
    ∧ win0_3.index t = ![t.val / 4, 0, 0] :=
  (by decide +kernel : ∀ t : Fin grid0.N, _)

abbrev A0 (c : Dev nD) : FVec Ideal S2048x1024 .bf16 := m ((c : Thread nD τ).loc main_arg0)
abbrev A1 (c : Dev nD) : FVec Ideal S2048x2816 .bf16 := m ((c : Thread nD τ).loc main_arg1)
abbrev A2 (c : Dev nD) : FVec Ideal S2048x2816 .bf16 := m ((c : Thread nD τ).loc main_arg2)

/-- What one grid point adds to the accumulators: four products over the point's 512 rows. -/
def upd (x : Vec Ideal S512x1024 .bf16) (y : Vec Ideal S512x2816 .bf16) (j : S4x704x1024.Idx) : EReal :=
  ∑ r : Fin 512, y (ix2 r ⟨(j 0).val * 704 + (j 1).val, by have h0 : (j 0).val < 4 := (j 0).isLt; have h1 : (j 1).val < 704 := (j 1).isLt; omega⟩) * x (ix2 r (j 2))

/-- An index lies in the slab of its first coordinate. -/
theorem mem_slab (g : ℕ) (inb : ∀ a, (![g, 0, 0] : Fin 3 → ℕ) a + S1x704x1024.size a ≤ S4x704x1024.size a) (j : S4x704x1024.Idx) (h : (j 0).val = g) :
    j ∈ (Rect.unit (s := S4x704x1024) ![g, 0, 0] S1x704x1024.size inb).set := by
  refine Rect.mem_set_unit.mpr ?_
  intro a
  match a with
  | ⟨0, _⟩ => exact ⟨le_of_eq h.symm, by show (j 0).val < g + 1; omega⟩
  | ⟨1, _⟩ => exact ⟨Nat.zero_le _, by have h1 : (j 1).val < 704 := (j 1).isLt; show (j 1).val < 0 + 704; omega⟩
  | ⟨2, _⟩ => exact ⟨Nat.zero_le _, by have h2 : (j 2).val < 1024 := (j 2).isLt; show (j 2).val < 0 + 1024; omega⟩

/-- The place of a slab's index in the whole buffer. -/
theorem slab_emb (g : ℕ) (g' : Fin 4) (inb : ∀ a, (![g, 0, 0] : Fin 3 → ℕ) a + S1x704x1024.size a ≤ S4x704x1024.size a) (b : Fin 704) (c : Fin 1024) (h : g = g'.val) :
    (ix3 g' b c : S4x704x1024.Idx) = (Rect.unit (s := S4x704x1024) ![g, 0, 0] S1x704x1024.size inb).emb (ix3 (0 : Fin 1) b c) := by
  subst h
  funext a
  match a with
  | ⟨0, _⟩ => exact Fin.ext (by show g'.val = g'.val + 1 * 0; omega)
  | ⟨1, _⟩ => exact Fin.ext (by show b.val = 0 + 1 * b.val; omega)
  | ⟨2, _⟩ => exact Fin.ext (by show c.val = 0 + 1 * c.val; omega)

/-- The four slabs, stored over a fill of the whole buffer, leave what they store. -/
theorem canon_slabs (G : S4x704x1024.Idx → EReal) (L' : List (View.Piece (Elt Ideal) S4x704x1024 .f32))
    (i3 : ∀ a, (![3, 0, 0] : Fin 3 → ℕ) a + S1x704x1024.size a ≤ S4x704x1024.size a) (i2 : ∀ a, (![2, 0, 0] : Fin 3 → ℕ) a + S1x704x1024.size a ≤ S4x704x1024.size a)
    (i1 : ∀ a, (![1, 0, 0] : Fin 3 → ℕ) a + S1x704x1024.size a ≤ S4x704x1024.size a) (i0 : ∀ a, (![0, 0, 0] : Fin 3 → ℕ) a + S1x704x1024.size a ≤ S4x704x1024.size a)
    (w3 w2 w1 w0 : Vec Ideal S1x704x1024 .f32)
    (h3 : ∀ a b, w3 (ix3 0 a b) = G (ix3 3 a b)) (h2 : ∀ a b, w2 (ix3 0 a b) = G (ix3 2 a b)) (h1 : ∀ a b, w1 (ix3 0 a b) = G (ix3 1 a b)) (h0 : ∀ a b, w0 (ix3 0 a b) = G (ix3 0 a b)) (j : S4x704x1024.Idx) :
    View.canon (Val := Elt Ideal) ([⟨Rect.unit (s := S4x704x1024) ![3, 0, 0] S1x704x1024.size i3, w3⟩, ⟨Rect.unit (s := S4x704x1024) ![2, 0, 0] S1x704x1024.size i2, w2⟩,
      ⟨Rect.unit (s := S4x704x1024) ![1, 0, 0] S1x704x1024.size i1, w1⟩, ⟨Rect.unit (s := S4x704x1024) ![0, 0, 0] S1x704x1024.size i0, w0⟩] ++ L') j = G j := by
  refine View.canon_append_of_piecesOf G L' _ ?_ j ?_
  · simp only [View.PiecesOf, and_true]
    refine ⟨?_, ?_, ?_, ?_⟩
    · intro x
      obtain ⟨a, b, c, rfl⟩ : ∃ (a : Fin 1) (b : Fin 704) (c : Fin 1024), x = ix3 a b c := ⟨x 0, x 1, x 2, eq_ix3 x⟩
      obtain rfl : a = 0 := Subsingleton.elim _ _
      exact (h3 b c).trans (congrArg G (slab_emb 3 3 i3 b c rfl))
    · intro x
      obtain ⟨a, b, c, rfl⟩ : ∃ (a : Fin 1) (b : Fin 704) (c : Fin 1024), x = ix3 a b c := ⟨x 0, x 1, x 2, eq_ix3 x⟩
      obtain rfl : a = 0 := Subsingleton.elim _ _
      exact (h2 b c).trans (congrArg G (slab_emb 2 2 i2 b c rfl))
    · intro x
      obtain ⟨a, b, c, rfl⟩ : ∃ (a : Fin 1) (b : Fin 704) (c : Fin 1024), x = ix3 a b c := ⟨x 0, x 1, x 2, eq_ix3 x⟩
      obtain rfl : a = 0 := Subsingleton.elim _ _
      exact (h1 b c).trans (congrArg G (slab_emb 1 1 i1 b c rfl))
    · intro x
      obtain ⟨a, b, c, rfl⟩ : ∃ (a : Fin 1) (b : Fin 704) (c : Fin 1024), x = ix3 a b c := ⟨x 0, x 1, x 2, eq_ix3 x⟩
      obtain rfl : a = 0 := Subsingleton.elim _ _
      exact (h0 b c).trans (congrArg G (slab_emb 0 0 i0 b c rfl))
  · have hj : (j 0).val < 4 := (j 0).isLt
    by_cases e3 : (j 0).val = 3
    · exact ⟨_, List.mem_cons_self, mem_slab 3 i3 j e3⟩
    by_cases e2 : (j 0).val = 2
    · exact ⟨_, List.mem_cons_of_mem _ List.mem_cons_self, mem_slab 2 i2 j e2⟩
    by_cases e1 : (j 0).val = 1
    · exact ⟨_, List.mem_cons_of_mem _ (List.mem_cons_of_mem _ List.mem_cons_self), mem_slab 1 i1 j e1⟩
    · exact ⟨_, List.mem_cons_of_mem _ (List.mem_cons_of_mem _ (List.mem_cons_of_mem _ List.mem_cons_self)), mem_slab 0 i0 j (by omega)⟩

/-- The first point of the first group. -/
theorem step_A (c : Dev nD) (t : Fin cfg0.N) (h0 : t.val % 4 = 0) (h1 : t.val < 4) (h2 : ¬4 ≤ t.val) (h3 : ¬t.val % 4 = 3) (j : S4x704x1024.Idx) :
   (outsAt0 m c t.val t.isLt).2 j = (k0_pay1 (F := Ideal)) j + upd (iblk m c 0 t) (iblk m c 1 t) j := by
  rw [outsAt0_A m c t h0 h1 h2 h3]; frame_out
  simp (disch := decide) only [↓View.readCov_skip, ↓View.readCov_cons_toLoadRect, ↓View.readCov_fill, read_unread_whole]
  refine canon_slabs (fun j => (k0_pay1 (F := Ideal)) j + upd (iblk m c 0 t) (iblk m c 1 t) j) [_] _ _ _ _ _ _ _ _ ?_ ?_ ?_ ?_ j <;> intro a b
  all_goals pointwise [k0_pay2, k0_pay5, k0_pay6, k0_pay7, k0_pay3, k0_pay8, k0_pay9, k0_pay10, upd]

/-- The first point of the second group. -/
theorem step_D (c : Dev nD) (t : Fin cfg0.N) (h0 : t.val % 4 = 0) (h1 : ¬t.val < 4) (h2 : 4 ≤ t.val) (h3 : ¬t.val % 4 = 3) (j : S4x704x1024.Idx) :
   (outsAt0 m c t.val t.isLt).2 j = (k0_pay1 (F := Ideal)) j + upd (iblk m c 0 t) (iblk m c 2 t) j := by
  rw [outsAt0_D m c t h0 h1 h2 h3]; frame_out
  simp (disch := decide) only [↓View.readCov_skip, ↓View.readCov_cons_toLoadRect, ↓View.readCov_fill, read_unread_whole]
  refine canon_slabs (fun j => (k0_pay1 (F := Ideal)) j + upd (iblk m c 0 t) (iblk m c 2 t) j) [_] _ _ _ _ _ _ _ _ ?_ ?_ ?_ ?_ j <;> intro a b
  all_goals pointwise [k0_pay2, k0_pay5, k0_pay6, k0_pay7, k0_pay3, k0_pay8, k0_pay9, k0_pay10, upd]

/-- A middle point of the first group. -/
theorem step_B (c : Dev nD) (t : Fin cfg0.N) (h0 : ¬t.val % 4 = 0) (h1 : t.val < 4) (h2 : ¬4 ≤ t.val) (h3 : ¬t.val % 4 = 3) (j : S4x704x1024.Idx) :
   (outsAt0 m c t.val t.isLt).2 j = (outsAt0 m c (t.val - 1) (Nat.lt_of_le_of_lt (Nat.sub_le _ _) t.isLt)).2 j + upd (iblk m c 0 t) (iblk m c 1 t) j := by
  rw [outsAt0_B m c t h0 h1 h2 h3]; frame_out
  simp (disch := decide) only [↓View.readCov_skip, ↓View.readCov_cons_toLoadRect, ↓View.readCov_fill, read_unread_whole]
  refine canon_slabs (fun j => (outsAt0 m c (t.val - 1) (Nat.lt_of_le_of_lt (Nat.sub_le _ _) t.isLt)).2 j + upd (iblk m c 0 t) (iblk m c 1 t) j) [] _ _ _ _ _ _ _ _ ?_ ?_ ?_ ?_ j <;> intro a b
  all_goals pointwise [k0_pay2, k0_pay5, k0_pay6, k0_pay7, k0_pay3, k0_pay8, k0_pay9, k0_pay10, upd]

/-- A middle point of the second group. -/
theorem step_E (c : Dev nD) (t : Fin cfg0.N) (h0 : ¬t.val % 4 = 0) (h1 : ¬t.val < 4) (h2 : 4 ≤ t.val) (h3 : ¬t.val % 4 = 3) (j : S4x704x1024.Idx) :
   (outsAt0 m c t.val t.isLt).2 j = (outsAt0 m c (t.val - 1) (Nat.lt_of_le_of_lt (Nat.sub_le _ _) t.isLt)).2 j + upd (iblk m c 0 t) (iblk m c 2 t) j := by
  rw [outsAt0_E m c t h0 h1 h2 h3]; frame_out
  simp (disch := decide) only [↓View.readCov_skip, ↓View.readCov_cons_toLoadRect, ↓View.readCov_fill, read_unread_whole]
  refine canon_slabs (fun j => (outsAt0 m c (t.val - 1) (Nat.lt_of_le_of_lt (Nat.sub_le _ _) t.isLt)).2 j + upd (iblk m c 0 t) (iblk m c 2 t) j) [] _ _ _ _ _ _ _ _ ?_ ?_ ?_ ?_ j <;> intro a b
  all_goals pointwise [k0_pay2, k0_pay5, k0_pay6, k0_pay7, k0_pay3, k0_pay8, k0_pay9, k0_pay10, upd]

/-- The last point of the first group. -/
theorem step_C (c : Dev nD) (t : Fin cfg0.N) (h0 : ¬t.val % 4 = 0) (h1 : t.val < 4) (h2 : ¬4 ≤ t.val) (h3 : t.val % 4 = 3) (j : S4x704x1024.Idx) :
   (outsAt0 m c t.val t.isLt).2 j = (outsAt0 m c (t.val - 1) (Nat.lt_of_le_of_lt (Nat.sub_le _ _) t.isLt)).2 j + upd (iblk m c 0 t) (iblk m c 1 t) j := by
  rw [outsAt0_C m c t h0 h1 h2 h3]; frame_out
  simp (disch := decide) only [↓View.readCov_skip, ↓View.readCov_cons_toLoadRect, ↓View.readCov_fill, read_unread_whole]
  refine canon_slabs (fun j => (outsAt0 m c (t.val - 1) (Nat.lt_of_le_of_lt (Nat.sub_le _ _) t.isLt)).2 j + upd (iblk m c 0 t) (iblk m c 1 t) j) [] _ _ _ _ _ _ _ _ ?_ ?_ ?_ ?_ j <;> intro a b
  all_goals pointwise [k0_pay2, k0_pay5, k0_pay6, k0_pay7, k0_pay3, k0_pay8, k0_pay9, k0_pay10, upd]

/-- The last point of the second group. -/
theorem step_F (c : Dev nD) (t : Fin cfg0.N) (h0 : ¬t.val % 4 = 0) (h1 : ¬t.val < 4) (h2 : 4 ≤ t.val) (h3 : t.val % 4 = 3) (j : S4x704x1024.Idx) :
   (outsAt0 m c t.val t.isLt).2 j = (outsAt0 m c (t.val - 1) (Nat.lt_of_le_of_lt (Nat.sub_le _ _) t.isLt)).2 j + upd (iblk m c 0 t) (iblk m c 2 t) j := by
  rw [outsAt0_F m c t h0 h1 h2 h3]; frame_out
  simp (disch := decide) only [↓View.readCov_skip, ↓View.readCov_cons_toLoadRect, ↓View.readCov_fill, read_unread_whole]
  refine canon_slabs (fun j => (outsAt0 m c (t.val - 1) (Nat.lt_of_le_of_lt (Nat.sub_le _ _) t.isLt)).2 j + upd (iblk m c 0 t) (iblk m c 2 t) j) [] _ _ _ _ _ _ _ _ ?_ ?_ ?_ ?_ j <;> intro a b
  all_goals pointwise [k0_pay2, k0_pay5, k0_pay6, k0_pay7, k0_pay3, k0_pay8, k0_pay9, k0_pay10, upd]

/-- The accumulators start at zero. -/
theorem zero_at (j : S4x704x1024.Idx) : k0_pay1 (F := Ideal) j = 0 := by
  pointwise! [k0_pay1]

/-- What each point adds: the first four points read the first gradient, the last four the second. -/
def term (c : Dev nD) (t : Fin cfg0.N) (j : S4x704x1024.Idx) : EReal :=
  upd (iblk m c 0 t) (if t.val < 4 then iblk m c 1 t else iblk m c 2 t) j

/-- The stored block at a group's last point is the sum over the group's four points. -/
theorem stored_at (c : Dev nD) (t : Fin cfg0.N) (hr : t.val % 4 = 3) (j : S4x704x1024.Idx) :
    (outsAt0 m c t.val t.isLt).1 j
      = ∑ s : Fin 4, term m c ⟨4 * (t.val / 4) + s.val, Pipeline.run_point_lt_of_flush t hr s⟩ j := by
  have hN : ∀ u : Fin cfg0.N, u.val < 8 := fun u => lt_of_lt_of_eq u.isLt N_0
  have hl : (outsAt0 m c t.val t.isLt).1 j = (outsAt0 m c t.val t.isLt).2 j := by
    by_cases h1 : t.val < 4
    · rw [outsAt0_C m c t (by omega) h1 (by omega) hr]; frame_out; pointwise [k0_pay4]; rw [View.readCov_eq_canon']; idx_vars j; pointwise
    · rw [outsAt0_F m c t (by omega) h1 (by omega) hr]; frame_out; pointwise [k0_pay4]; rw [View.readCov_eq_canon']; idx_vars j; pointwise
  rw [hl, Pipeline.eq_sum_fin_of_reset_step_apply_of_flush (fun n h => (outsAt0 m c n h).2) 4 (k0_pay1 (F := Ideal)) (term m c)
    (fun u h j => by
      unfold term
      by_cases h1 : u.val < 4
      · rw [if_pos h1]; exact step_A m c u h h1 (by omega) (by omega) j
      · rw [if_neg h1]; exact step_D m c u h h1 (by omega) (by omega) j)
    (fun u h j => by
      unfold term
      by_cases h1 : u.val < 4
      · rw [if_pos h1]
        by_cases h3 : u.val % 4 = 3
        · exact step_C m c u h h1 (by omega) h3 j
        · exact step_B m c u h h1 (by omega) h3 j
      · rw [if_neg h1]
        by_cases h3 : u.val % 4 = 3
        · exact step_F m c u h h1 (by omega) h3 j
        · exact step_E m c u h h1 (by omega) h3 j) t hr j]
  rw [zero_at, zero_add]

theorem ix2_congr {a b : ℕ} {i i' : Fin a} {j j' : Fin b} (h : i = i') (h' : j = j') : ix2 i j = ix2 i' j' := by
  subst h h'; rfl

/-- Window 0's block at a point is 512 rows of its array. -/
theorem leaf_0 (c : Dev nD) (u : Fin cfg0.N) (k : Fin 512) (f : Fin 1024) : iblk m c 0 u (ix2 k f)
    = A0 m c (ix2 ⟨u.val % 4 * 512 + k.val, by omega⟩ f) := by
  blk_point [iblk, V, idx_val u]

/-- Window 1's block at a point is 512 rows of its array. -/
theorem leaf_1 (c : Dev nD) (u : Fin cfg0.N) (k : Fin 512) (f : Fin 2816) : iblk m c 1 u (ix2 k f)
    = A1 m c (ix2 ⟨u.val % 4 * 512 + k.val, by omega⟩ f) := by
  blk_point [iblk, V, idx_val u]

/-- Window 2's block at a point is 512 rows of its array. -/
theorem leaf_2 (c : Dev nD) (u : Fin cfg0.N) (k : Fin 512) (f : Fin 2816) : iblk m c 2 u (ix2 k f)
    = A2 m c (ix2 ⟨u.val % 4 * 512 + k.val, by omega⟩ f) := by
  blk_point [iblk, V, idx_val u]

/-- The sum over a group's points is the reference's entry. -/
theorem entry (c : Dev nD) (g : ℕ) (hg : g < 2) (y0 : Fin 4) (y1 : Fin 704) (y2 : Fin 1024) :
    ∑ s : Fin 4, term m c ⟨4 * g + s.val, lt_of_lt_of_eq (by omega) N_0.symm⟩ (ix3 y0 y1 y2)
      = val_main_v5 (F := Ideal) (A0 m c) (A1 m c) (A2 m c) (ix3 ⟨g * 4 + y0.val, by omega⟩ y1 y2) := by
  pointwise [val_main_v5, val_main_v4, val_main_v3, val_main_v2, val_main_v1, val_main_v0, term, upd]
  refine Fin.sum_mul_add_congr fun s k hl => ?_
  have hs := s.isLt
  have hk := k.isLt
  have hy0 := y0.isLt
  have hy1 := y1.isLt
  refine congrArg₂ (· * ·) ?_ ?_
  · by_cases h4 : g = 0
    · subst h4
      rw [if_pos (show 4 * 0 + s.val < 4 by omega), dif_pos (show (0 * 4 + y0.val) * 704 + y1.val < 2816 by omega), leaf_1]
      exact congrArg (A1 m c) (ix2_congr (Fin.ext (by show (4 * 0 + s.val) % 4 * 512 + k.val = s.val * 512 + k.val; omega)) (Fin.ext (by show y0.val * 704 + y1.val = (0 * 4 + y0.val) * 704 + y1.val; omega)))
    · obtain rfl : g = 1 := by omega
      rw [if_neg (show ¬4 * 1 + s.val < 4 by omega), dif_neg (show ¬(1 * 4 + y0.val) * 704 + y1.val < 2816 by omega), leaf_2]
      exact congrArg (A2 m c) (ix2_congr (Fin.ext (by show (4 * 1 + s.val) % 4 * 512 + k.val = s.val * 512 + k.val; omega)) (Fin.ext (by show y0.val * 704 + y1.val = (1 * 4 + y0.val) * 704 + y1.val - 2816; omega)))
  · rw [leaf_0]
    exact congrArg (A0 m c) (ix2_congr (Fin.ext (by show (4 * g + s.val) % 4 * 512 + k.val = s.val * 512 + k.val; omega)) rfl)

/-- The place of a block's index in the array. -/
theorem emb_at (t : Fin cfg0.N) (y0 : Fin 4) (y1 : Fin 704) (y2 : Fin 1024) (h : t.val / 4 * 4 + y0.val < 8) :
    ((cfg0.win 3).blk t).view.emb (ix3 y0 y1 y2) = (ix3 ⟨t.val / 4 * 4 + y0.val, h⟩ y1 y2 : S8x704x1024.Idx) := by
  have ht := (idx_val t).2.2.2
  funext a
  match a with
  | ⟨0, _⟩ => exact Fin.ext (by show win0_3.index t (0 : Fin 3) * 4 + 1 * y0.val = t.val / 4 * 4 + y0.val; rw [ht, Nat.one_mul]; rfl)
  | ⟨1, _⟩ => exact Fin.ext (by show win0_3.index t (1 : Fin 3) * 704 + 1 * y1.val = y1.val; rw [ht]; show 0 * 704 + 1 * y1.val = _; omega)
  | ⟨2, _⟩ => exact Fin.ext (by show win0_3.index t (2 : Fin 3) * 1024 + 1 * y2.val = y2.val; rw [ht]; show 0 * 1024 + 1 * y2.val = _; omega)

/-- The array of the grouped products. -/
theorem final (c : Dev nD) : (dats m 0 c).arrAt 3 (cfgs 0).N = val_main_v5 (F := Ideal) (A0 m c) (A1 m c) (A2 m c) := by
  refine (dats m 0 c).arrAt_eq_of_covers 3 _ (by decide +kernel) fun t hf y => ?_
  have hr : t.val % 4 = 3 := (flush0_3 t).mp hf
  have hN : t.val < 8 := lt_of_lt_of_eq t.isLt N_0
  blk_simp; rw [after0_3]
  refine (stored_at m c t hr _).trans ?_
  idx_vars y
  have hy0 := y0.isLt
  exact (entry m c (t.val / 4) (by omega) y0 y1 y2).trans
    (congrArg (val_main_v5 (F := Ideal) (A0 m c) (A1 m c) (A2 m c)) (emb_at t y0 y1 y2 (by omega)).symm)

end Cert.Kernel11Ideal.Product

namespace Cert.Proof

open Idealize.ShloMosaic Idealize.SL.Sem

/-- The reference program leaves its arguments as they were and every counter at zero. -/
theorem frame_11 : Cert.quiescent_Reference11Ideal := fun m g _ =>
  (θ_run _ _ _).mono (fun r h => ⟨fun c => (h c).2, sem_eq_zero_of_no_sems (by decide) r.2⟩)
    (Cert.Reference11Ideal.Value.run m g)

/-- The grouped products over the tokens are the gradient of the weight. -/
theorem algebraic_11 : Cert.algebraic_Kernel11Ideal_Reference11Ideal := fun m g m' g' _ hag =>
  ⟨fun c => (Cert.Kernel11Ideal.Gen.dats m 0 c).arrAt 3 Cert.Kernel11Ideal.cfg0.N,
   (θ_run _ _ _).mono (fun r h c => h c) (Cert.Kernel11Ideal.Value.run_blocks m g),
   (θ_run _ _ _).mono (fun r h c => by
      obtain ⟨h0, hk⟩ := h c
      obtain ⟨a0, a1, a2⟩ := hag c
      refine ⟨h0.trans ?_, hk⟩
      · refine (Cert.Reference11Ideal.Read.val_main_v5_eq _ _ _).trans ?_
        rw [a0, a1, a2]; exact (Cert.Kernel11Ideal.Product.final m c).symm)
     (Cert.Reference11Ideal.Value.run m' g')⟩

end Cert.Proof

end
-- ==== Proof.NnClaim.lean ====
module

public import proofs.«01_k».proof.Defs
public import proofs.«01_k».proof.Proof.Gen.Kernel12Ideal.Value
public import proofs.«01_k».proof.Proof.Gen.Reference12Ideal.Read
public import proofs.«01_k».proof.Proof.Gen.Reference12Ideal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.Kernel12Ideal.Product

open Idealize.ShloMosaic Idealize.ShloMosaic.TcCoe Idealize.SL.Sem
open Idealize.ShloMosaic.Pipeline (Dat)
open scoped BigOperators
open Cert.Kernel12Ideal Cert.Kernel12Ideal.Gen
open Cert.Reference12Ideal.Read

variable (m : (ℓ : Loc nD τ sig) → Buf (Elt Ideal) ℓ)

/-- The block index of every window at every grid point. -/
theorem idx_val : ∀ t : Fin cfg0.N, win0_0.index t = ![t.val, 0]
    ∧ win0_1.index t = ![0, 0]
    ∧ win0_2.index t = ![t.val, 0] :=
  (by decide +kernel : ∀ t : Fin grid0.N, _)

abbrev A0 (c : Dev nD) : FVec Ideal S2048x2816 .bf16 := m ((c : Thread nD τ).loc main_arg0)
abbrev A1 (c : Dev nD) : FVec Ideal S2816x1024 .bf16 := m ((c : Thread nD τ).loc main_arg1)

/-- The array of the product. -/
theorem final (c : Dev nD) : (dats m 0 c).arrAt 2 (cfgs 0).N = val_main_v2 (F := Ideal) (A0 m c) (A1 m c) := by
  refine (dats m 0 c).arrAt_eq_of_covers 2 _ (by decide +kernel) fun t hf y => ?_
  blk_simp; rw [after0_2]; unfold outsAt0; frame_out
  idx_vars y
  pointwise [k0_pay1, k0_pay2, val_main_v2, val_main_v1, val_main_v0]
  blk_point [iblk, V, idx_val t]

end Cert.Kernel12Ideal.Product

namespace Cert.Proof

open Idealize.ShloMosaic Idealize.SL.Sem

/-- The reference program leaves its arguments as they were and every counter at zero. -/
theorem frame_12 : Cert.quiescent_Reference12Ideal := fun m g _ =>
  (θ_run _ _ _).mono (fun r h => ⟨fun c => (h c).2, sem_eq_zero_of_no_sems (by decide) r.2⟩)
    (Cert.Reference12Ideal.Value.run m g)

/-- The blocked product is the projection. -/
theorem algebraic_12 : Cert.algebraic_Kernel12Ideal_Reference12Ideal := fun m g m' g' _ hag =>
  ⟨fun c => (Cert.Kernel12Ideal.Gen.dats m 0 c).arrAt 2 Cert.Kernel12Ideal.cfg0.N,
   (θ_run _ _ _).mono (fun r h c => h c) (Cert.Kernel12Ideal.Value.run_blocks m g),
   (θ_run _ _ _).mono (fun r h c => by
      obtain ⟨h0, hk⟩ := h c
      obtain ⟨a0, a1⟩ := hag c
      refine ⟨h0.trans ?_, hk⟩
      · refine (Cert.Reference12Ideal.Read.val_main_v2_eq _ _).trans ?_
        rw [a0, a1]; exact (Cert.Kernel12Ideal.Product.final m c).symm)
     (Cert.Reference12Ideal.Value.run m' g')⟩

end Cert.Proof

end
-- ==== Proof.UpClaim.lean ====
module

public import proofs.«01_k».proof.Defs
public import proofs.«01_k».proof.Proof.Gen.Kernel13Ideal.Value
public import proofs.«01_k».proof.Proof.Gen.Reference13Ideal.Read
public import proofs.«01_k».proof.Proof.Gen.Reference13Ideal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.Kernel13Ideal.Product

open Idealize.ShloMosaic Idealize.ShloMosaic.TcCoe Idealize.SL.Sem
open Idealize.ShloMosaic.Pipeline (Dat)
open scoped BigOperators
open Cert.Kernel13Ideal Cert.Kernel13Ideal.Gen
open Cert.Reference13Ideal.Read

variable (m : (ℓ : Loc nD τ sig) → Buf (Elt Ideal) ℓ)

/-- The block index of every window at every grid point. -/
theorem idx_val : ∀ t : Fin cfg0.N, win0_0.index t = ![t.val, 0]
    ∧ win0_1.index t = ![0, 0, 0]
    ∧ win0_2.index t = ![t.val, 0]
    ∧ win0_3.index t = ![t.val, 0] :=
  (by decide +kernel : ∀ t : Fin grid0.N, _)

abbrev A0 (c : Dev nD) : FVec Ideal S2048x1024 .bf16 := m ((c : Thread nD τ).loc main_arg0)
abbrev A1 (c : Dev nD) : FVec Ideal S8x1024x704 .bf16 := m ((c : Thread nD τ).loc main_arg1)

set_option maxHeartbeats 1600000 in
/-- The four tiles stored at a point are the reference's block. -/
theorem point_2 (c : Dev nD) (t : Fin cfg0.N) (y) :
    out0_2 (iblk m c 0 t) (iblk m c 1 t) y
      = val_main_v5 (F := Ideal) (A0 m c) (A1 m c) (((cfg0.win 2).blk t).view.emb y) := by
  canon_tiles x h
  all_goals open_payloads
  all_goals pointwise [val_main_v5, val_main_v4, val_main_v3, val_main_v2, val_main_v1, val_main_v0]
  all_goals refine Finset.sum_congr rfl fun k _ => ?_
  all_goals blk_point [iblk, V, idx_val t]

/-- The array of the first half of the columns. -/
theorem final_2 (c : Dev nD) : (dats m 0 c).arrAt 2 (cfgs 0).N = val_main_v5 (F := Ideal) (A0 m c) (A1 m c) := by
  refine (dats m 0 c).arrAt_eq_of_covers 2 _ (by decide +kernel) fun t hf y => ?_
  blk_simp; rw [after0_2]
  exact point_2 m c t y

set_option maxHeartbeats 1600000 in
/-- The four tiles stored at a point are the reference's block. -/
theorem point_3 (c : Dev nD) (t : Fin cfg0.N) (y) :
    out0_3 (iblk m c 0 t) (iblk m c 1 t) y
      = val_main_v6 (F := Ideal) (A0 m c) (A1 m c) (((cfg0.win 3).blk t).view.emb y) := by
  canon_tiles x h
  all_goals open_payloads
  all_goals pointwise [val_main_v6, val_main_v4, val_main_v3, val_main_v2, val_main_v1, val_main_v0]
  all_goals refine Finset.sum_congr rfl fun k _ => ?_
  all_goals blk_point [iblk, V, idx_val t]

/-- The array of the second half of the columns. -/
theorem final_3 (c : Dev nD) : (dats m 0 c).arrAt 3 (cfgs 0).N = val_main_v6 (F := Ideal) (A0 m c) (A1 m c) := by
  refine (dats m 0 c).arrAt_eq_of_covers 3 _ (by decide +kernel) fun t hf y => ?_
  blk_simp; rw [after0_3]
  exact point_3 m c t y

end Cert.Kernel13Ideal.Product

namespace Cert.Proof

open Idealize.ShloMosaic Idealize.SL.Sem

/-- The reference program leaves its arguments as they were and every counter at zero. -/
theorem frame_13 : Cert.quiescent_Reference13Ideal := fun m g _ =>
  (θ_run _ _ _).mono (fun r h => ⟨fun c => (h c).2.2, sem_eq_zero_of_no_sems (by decide) r.2⟩)
    (Cert.Reference13Ideal.Value.run m g)

/-- The column tiles are the two halves of the projection up. -/
theorem algebraic_13 : Cert.algebraic_Kernel13Ideal_Reference13Ideal := fun m g m' g' _ hag =>
  ⟨fun c => (Cert.Kernel13Ideal.Gen.dats m 0 c).arrAt 2 Cert.Kernel13Ideal.cfg0.N,
   fun c => (Cert.Kernel13Ideal.Gen.dats m 0 c).arrAt 3 Cert.Kernel13Ideal.cfg0.N,
   (θ_run _ _ _).mono (fun r h c => h c) (Cert.Kernel13Ideal.Value.run_blocks m g),
   (θ_run _ _ _).mono (fun r h c => by
      obtain ⟨h0, h1, hk⟩ := h c
      obtain ⟨a0, a1⟩ := hag c
      refine ⟨h0.trans ?_, h1.trans ?_, hk⟩
      · refine (Cert.Reference13Ideal.Read.val_main_v5_eq _ _).trans ?_
        rw [a0, a1]; exact (Cert.Kernel13Ideal.Product.final_2 m c).symm
      · refine (Cert.Reference13Ideal.Read.val_main_v6_eq _ _).trans ?_
        rw [a0, a1]; exact (Cert.Kernel13Ideal.Product.final_3 m c).symm)
     (Cert.Reference13Ideal.Value.run m' g')⟩

end Cert.Proof

end
-- ==== Proof.SonnClaim.lean ====
module

public import proofs.«01_k».proof.Defs
public import proofs.«01_k».proof.Proof.Gen.Kernel16Ideal.Value
public import proofs.«01_k».proof.Proof.Gen.Reference16Ideal.Read
public import proofs.«01_k».proof.Proof.Gen.Reference16Ideal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.Kernel16Ideal.Product

open Idealize.ShloMosaic Idealize.ShloMosaic.TcCoe Idealize.SL.Sem
open Idealize.ShloMosaic.Pipeline (Dat)
open scoped BigOperators
open Cert.Kernel16Ideal Cert.Kernel16Ideal.Gen
open Cert.Reference16Ideal.Read

variable (m : (ℓ : Loc nD τ sig) → Buf (Elt Ideal) ℓ)

/-- The block index of every window at every grid point. -/
theorem idx_val : ∀ t : Fin cfg0.N, win0_0.index t = ![t.val, 0]
    ∧ win0_1.index t = ![0, 0]
    ∧ win0_2.index t = ![t.val, 0] :=
  (by decide +kernel : ∀ t : Fin grid0.N, _)

abbrev A0 (c : Dev nD) : FVec Ideal S2048x2048 .bf16 := m ((c : Thread nD τ).loc main_arg0)
abbrev A1 (c : Dev nD) : FVec Ideal S2048x1024 .bf16 := m ((c : Thread nD τ).loc main_arg1)

/-- The array of the product. -/
theorem final (c : Dev nD) : (dats m 0 c).arrAt 2 (cfgs 0).N = val_main_v2 (F := Ideal) (A0 m c) (A1 m c) := by
  refine (dats m 0 c).arrAt_eq_of_covers 2 _ (by decide +kernel) fun t hf y => ?_
  blk_simp; rw [after0_2]; unfold outsAt0; frame_out
  idx_vars y
  pointwise [k0_pay1, k0_pay2, val_main_v2, val_main_v1, val_main_v0]
  blk_point [iblk, V, idx_val t]

end Cert.Kernel16Ideal.Product

namespace Cert.Proof

open Idealize.ShloMosaic Idealize.SL.Sem

/-- The reference program leaves its arguments as they were and every counter at zero. -/
theorem frame_16 : Cert.quiescent_Reference16Ideal := fun m g _ =>
  (θ_run _ _ _).mono (fun r h => ⟨fun c => (h c).2, sem_eq_zero_of_no_sems (by decide) r.2⟩)
    (Cert.Reference16Ideal.Value.run m g)

/-- The blocked product is the projection out of the mixer. -/
theorem algebraic_16 : Cert.algebraic_Kernel16Ideal_Reference16Ideal := fun m g m' g' _ hag =>
  ⟨fun c => (Cert.Kernel16Ideal.Gen.dats m 0 c).arrAt 2 Cert.Kernel16Ideal.cfg0.N,
   (θ_run _ _ _).mono (fun r h c => h c) (Cert.Kernel16Ideal.Value.run_blocks m g),
   (θ_run _ _ _).mono (fun r h c => by
      obtain ⟨h0, hk⟩ := h c
      obtain ⟨a0, a1⟩ := hag c
      refine ⟨h0.trans ?_, hk⟩
      · refine (Cert.Reference16Ideal.Read.val_main_v2_eq _ _).trans ?_
        rw [a0, a1]; exact (Cert.Kernel16Ideal.Product.final m c).symm)
     (Cert.Reference16Ideal.Value.run m' g')⟩

end Cert.Proof

end
-- ==== Proof.SotnClaim.lean ====
module

public import proofs.«01_k».proof.Defs
public import proofs.«01_k».proof.Proof.Gen.Kernel17Ideal.Value
public import proofs.«01_k».proof.Proof.Gen.Reference17Ideal.Read
public import proofs.«01_k».proof.Proof.Gen.Reference17Ideal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.Kernel17Ideal.Product

open Idealize.ShloMosaic Idealize.ShloMosaic.TcCoe Idealize.SL.Sem
open Idealize.ShloMosaic.Pipeline (Dat)
open scoped BigOperators
open Cert.Kernel17Ideal Cert.Kernel17Ideal.Gen
open Cert.Reference17Ideal.Read

variable (m : (ℓ : Loc nD τ sig) → Buf (Elt Ideal) ℓ)

/-- The block index of every window at every grid point. -/
theorem idx_val : ∀ t : Fin cfg0.N, win0_0.index t = ![t.val, 0]
    ∧ win0_1.index t = ![t.val, 0]
    ∧ win0_2.index t = ![0, 0] :=
  (by decide +kernel : ∀ t : Fin grid0.N, _)

abbrev A0 (c : Dev nD) : FVec Ideal S2048x2048 .bf16 := m ((c : Thread nD τ).loc main_arg0)
abbrev A1 (c : Dev nD) : FVec Ideal S2048x1024 .bf16 := m ((c : Thread nD τ).loc main_arg1)

/-- The accumulator starts at zero. -/
theorem zero_at (j : S2048x1024.Idx) : k0_pay1 (F := Ideal) j = 0 := by
  pointwise! [k0_pay1]

/-- One grid point adds to the accumulator the product over its block of rows. -/
theorem step_at (v : Vec Ideal S2048x1024 .f32) (x : Vec Ideal S256x2048 .bf16) (y : Vec Ideal S256x1024 .bf16) (j : S2048x1024.Idx) :
    k0_pay2 (F := Ideal) v x y j = v j + k0_pay2 (F := Ideal) (fun _ => 0) x y j := by
  pointwise [k0_pay2]

/-- The array of the product. -/
theorem final (c : Dev nD) : (dats m 0 c).arrAt 2 (cfgs 0).N = val_main_v3 (F := Ideal) (A0 m c) (A1 m c) := by
  refine (dats m 0 c).arrAt_eq_of_after_last 2 t0_7 (by decide +kernel) _ fun j => ?_
  blk_simp
  rw [after0_2]
  have hl : (outsAt0 m c t0_7.val t0_7.isLt).1 j = (outsAt0 m c t0_7.val t0_7.isLt).2 j := by
    rw [outsAt0_C m c t0_7 (by decide) (by decide)]; frame_out; pointwise [k0_pay3]
  rw [hl, Pipeline.eq_sum_fin_of_reset_step_apply_last (fun n h => (outsAt0 m c n h).2) 8 (fun _ => 0) _
    (fun t h j => by rw [outsAt0_A m c t h (by omega)]; frame_out; rw [step_at, zero_at])
    (fun t h j => by
      by_cases h1 : t.val % 8 = 7
      · rw [outsAt0_C m c t h h1]; frame_out; rw [step_at, read_unread_whole]
      · rw [outsAt0_B m c t h h1]; frame_out; rw [step_at, read_unread_whole])
    (le_of_eq N_0) t0_7 rfl j, zero_add]
  idx_vars j
  pointwise [k0_pay2, val_main_v3, val_main_v2, val_main_v1, val_main_v0]
  refine Fin.sum_mul_add_congr fun s k hl => ?_
  blk_point [iblk, V, idx_val s]

end Cert.Kernel17Ideal.Product

namespace Cert.Proof

open Idealize.ShloMosaic Idealize.SL.Sem

/-- The reference program leaves its arguments as they were and every counter at zero. -/
theorem frame_17 : Cert.quiescent_Reference17Ideal := fun m g _ =>
  (θ_run _ _ _).mono (fun r h => ⟨fun c => (h c).2, sem_eq_zero_of_no_sems (by decide) r.2⟩)
    (Cert.Reference17Ideal.Value.run m g)

/-- The product over the tokens is the gradient of the weight of the projection out of the mixer. -/
theorem algebraic_17 : Cert.algebraic_Kernel17Ideal_Reference17Ideal := fun m g m' g' _ hag =>
  ⟨fun c => (Cert.Kernel17Ideal.Gen.dats m 0 c).arrAt 2 Cert.Kernel17Ideal.cfg0.N,
   (θ_run _ _ _).mono (fun r h c => h c) (Cert.Kernel17Ideal.Value.run_blocks m g),
   (θ_run _ _ _).mono (fun r h c => by
      obtain ⟨h0, hk⟩ := h c
      obtain ⟨a0, a1⟩ := hag c
      refine ⟨h0.trans ?_, hk⟩
      · refine (Cert.Reference17Ideal.Read.val_main_v3_eq _ _).trans ?_
        rw [a0, a1]; exact (Cert.Kernel17Ideal.Product.final m c).symm)
     (Cert.Reference17Ideal.Value.run m' g')⟩

end Cert.Proof

end
-- ==== Proof.SontClaim.lean ====
module

public import proofs.«01_k».proof.Defs
public import proofs.«01_k».proof.Proof.Gen.Kernel18Ideal.Value
public import proofs.«01_k».proof.Proof.Gen.Reference18Ideal.Read
public import proofs.«01_k».proof.Proof.Gen.Reference18Ideal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.Kernel18Ideal.Product

open Idealize.ShloMosaic Idealize.ShloMosaic.TcCoe Idealize.SL.Sem
open Idealize.ShloMosaic.Pipeline (Dat)
open scoped BigOperators
open Cert.Kernel18Ideal Cert.Kernel18Ideal.Gen
open Cert.Reference18Ideal.Read

variable (m : (ℓ : Loc nD τ sig) → Buf (Elt Ideal) ℓ)

/-- The block index of every window at every grid point. -/
theorem idx_val : ∀ t : Fin cfg0.N, win0_0.index t = ![t.val, 0]
    ∧ win0_1.index t = ![0, 0]
    ∧ win0_2.index t = ![t.val, 0] :=
  (by decide +kernel : ∀ t : Fin grid0.N, _)

abbrev A0 (c : Dev nD) : FVec Ideal S2048x1024 .bf16 := m ((c : Thread nD τ).loc main_arg0)
abbrev A1 (c : Dev nD) : FVec Ideal S2048x1024 .bf16 := m ((c : Thread nD τ).loc main_arg1)

/-- The array of the product. -/
theorem final (c : Dev nD) : (dats m 0 c).arrAt 2 (cfgs 0).N = val_main_v3 (F := Ideal) (A0 m c) (A1 m c) := by
  refine (dats m 0 c).arrAt_eq_of_covers 2 _ (by decide +kernel) fun t hf y => ?_
  blk_simp; rw [after0_2]; unfold outsAt0; frame_out
  idx_vars y
  pointwise [k0_pay1, k0_pay2, k0_pay3, val_main_v3, val_main_v2, val_main_v1, val_main_v0]
  blk_point [iblk, V, idx_val t]

end Cert.Kernel18Ideal.Product

namespace Cert.Proof

open Idealize.ShloMosaic Idealize.SL.Sem

/-- The reference program leaves its arguments as they were and every counter at zero. -/
theorem frame_18 : Cert.quiescent_Reference18Ideal := fun m g _ =>
  (θ_run _ _ _).mono (fun r h => ⟨fun c => (h c).2, sem_eq_zero_of_no_sems (by decide) r.2⟩)
    (Cert.Reference18Ideal.Value.run m g)

/-- The blocked product is the gradient of the input of the projection out of the mixer. -/
theorem algebraic_18 : Cert.algebraic_Kernel18Ideal_Reference18Ideal := fun m g m' g' _ hag =>
  ⟨fun c => (Cert.Kernel18Ideal.Gen.dats m 0 c).arrAt 2 Cert.Kernel18Ideal.cfg0.N,
   (θ_run _ _ _).mono (fun r h c => h c) (Cert.Kernel18Ideal.Value.run_blocks m g),
   (θ_run _ _ _).mono (fun r h c => by
      obtain ⟨h0, hk⟩ := h c
      obtain ⟨a0, a1⟩ := hag c
      refine ⟨h0.trans ?_, hk⟩
      · refine (Cert.Reference18Ideal.Read.val_main_v3_eq _ _).trans ?_
        rw [a0, a1]; exact (Cert.Kernel18Ideal.Product.final m c).symm)
     (Cert.Reference18Ideal.Value.run m' g')⟩

end Cert.Proof

end
-- ==== Proof.PtnnClaim.lean ====
module

public import proofs.«01_k».proof.Defs
public import proofs.«01_k».proof.Proof.Gen.Kernel19Ideal.Value
public import proofs.«01_k».proof.Proof.Gen.Reference19Ideal.Read
public import proofs.«01_k».proof.Proof.Gen.Reference19Ideal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.Kernel19Ideal.Product

open Idealize.ShloMosaic Idealize.ShloMosaic.TcCoe Idealize.SL.Sem
open Idealize.ShloMosaic.Pipeline (Dat)
open scoped BigOperators
open Cert.Kernel19Ideal Cert.Kernel19Ideal.Gen
open Cert.Reference19Ideal.Read

variable (m : (ℓ : Loc nD τ sig) → Buf (Elt Ideal) ℓ)

/-- The block index of every window at every grid point. -/
theorem idx_val : ∀ t : Fin cfg0.N, win0_0.index t = ![t.val, 0]
    ∧ win0_1.index t = ![0, 0]
    ∧ win0_2.index t = ![t.val, 0] :=
  (by decide +kernel : ∀ t : Fin grid0.N, _)

abbrev A0 (c : Dev nD) : FVec Ideal S2048x1024 .bf16 := m ((c : Thread nD τ).loc main_arg0)
abbrev A1 (c : Dev nD) : FVec Ideal S1024x1024 .bf16 := m ((c : Thread nD τ).loc main_arg1)

/-- The array of the product. -/
theorem final (c : Dev nD) : (dats m 0 c).arrAt 2 (cfgs 0).N = val_main_v2 (F := Ideal) (A0 m c) (A1 m c) := by
  refine (dats m 0 c).arrAt_eq_of_covers 2 _ (by decide +kernel) fun t hf y => ?_
  blk_simp; rw [after0_2]; unfold outsAt0; frame_out
  idx_vars y
  pointwise [k0_pay1, k0_pay2, val_main_v2, val_main_v1, val_main_v0]
  blk_point [iblk, V, idx_val t]

end Cert.Kernel19Ideal.Product

namespace Cert.Proof

open Idealize.ShloMosaic Idealize.SL.Sem

/-- The reference program leaves its arguments as they were and every counter at zero. -/
theorem frame_19 : Cert.quiescent_Reference19Ideal := fun m g _ =>
  (θ_run _ _ _).mono (fun r h => ⟨fun c => (h c).2, sem_eq_zero_of_no_sems (by decide) r.2⟩)
    (Cert.Reference19Ideal.Value.run m g)

/-- The blocked product is the second pointwise projection. -/
theorem algebraic_19 : Cert.algebraic_Kernel19Ideal_Reference19Ideal := fun m g m' g' _ hag =>
  ⟨fun c => (Cert.Kernel19Ideal.Gen.dats m 0 c).arrAt 2 Cert.Kernel19Ideal.cfg0.N,
   (θ_run _ _ _).mono (fun r h c => h c) (Cert.Kernel19Ideal.Value.run_blocks m g),
   (θ_run _ _ _).mono (fun r h c => by
      obtain ⟨h0, hk⟩ := h c
      obtain ⟨a0, a1⟩ := hag c
      refine ⟨h0.trans ?_, hk⟩
      · refine (Cert.Reference19Ideal.Read.val_main_v2_eq _ _).trans ?_
        rw [a0, a1]; exact (Cert.Kernel19Ideal.Product.final m c).symm)
     (Cert.Reference19Ideal.Value.run m' g')⟩

end Cert.Proof

end
-- ==== Proof.PttnClaim.lean ====
module

public import proofs.«01_k».proof.Defs
public import proofs.«01_k».proof.Proof.Gen.Kernel20Ideal.Value
public import proofs.«01_k».proof.Proof.Gen.Reference20Ideal.Read
public import proofs.«01_k».proof.Proof.Gen.Reference20Ideal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.Kernel20Ideal.Product

open Idealize.ShloMosaic Idealize.ShloMosaic.TcCoe Idealize.SL.Sem
open Idealize.ShloMosaic.Pipeline (Dat)
open scoped BigOperators
open Cert.Kernel20Ideal Cert.Kernel20Ideal.Gen
open Cert.Reference20Ideal.Read

variable (m : (ℓ : Loc nD τ sig) → Buf (Elt Ideal) ℓ)

/-- The block index of every window at every grid point. -/
theorem idx_val : ∀ t : Fin cfg0.N, win0_0.index t = ![t.val, 0]
    ∧ win0_1.index t = ![t.val, 0]
    ∧ win0_2.index t = ![0, 0] :=
  (by decide +kernel : ∀ t : Fin grid0.N, _)

abbrev A0 (c : Dev nD) : FVec Ideal S2048x1024 .bf16 := m ((c : Thread nD τ).loc main_arg0)
abbrev A1 (c : Dev nD) : FVec Ideal S2048x1024 .bf16 := m ((c : Thread nD τ).loc main_arg1)

/-- The accumulator starts at zero. -/
theorem zero_at (j : S1024x1024.Idx) : k0_pay1 (F := Ideal) j = 0 := by
  pointwise! [k0_pay1]

/-- One grid point adds to the accumulator the product over its block of rows. -/
theorem step_at (v : Vec Ideal S1024x1024 .f32) (x : Vec Ideal S256x1024 .bf16) (y : Vec Ideal S256x1024 .bf16) (j : S1024x1024.Idx) :
    k0_pay2 (F := Ideal) v x y j = v j + k0_pay2 (F := Ideal) (fun _ => 0) x y j := by
  pointwise [k0_pay2]

/-- The array of the product. -/
theorem final (c : Dev nD) : (dats m 0 c).arrAt 2 (cfgs 0).N = val_main_v3 (F := Ideal) (A0 m c) (A1 m c) := by
  refine (dats m 0 c).arrAt_eq_of_after_last 2 t0_7 (by decide +kernel) _ fun j => ?_
  blk_simp
  rw [after0_2]
  have hl : (outsAt0 m c t0_7.val t0_7.isLt).1 j = (outsAt0 m c t0_7.val t0_7.isLt).2 j := by
    rw [outsAt0_C m c t0_7 (by decide) (by decide)]; frame_out; pointwise [k0_pay3]
  rw [hl, Pipeline.eq_sum_fin_of_reset_step_apply_last (fun n h => (outsAt0 m c n h).2) 8 (fun _ => 0) _
    (fun t h j => by rw [outsAt0_A m c t h (by omega)]; frame_out; rw [step_at, zero_at])
    (fun t h j => by
      by_cases h1 : t.val % 8 = 7
      · rw [outsAt0_C m c t h h1]; frame_out; rw [step_at, read_unread_whole]
      · rw [outsAt0_B m c t h h1]; frame_out; rw [step_at, read_unread_whole])
    (le_of_eq N_0) t0_7 rfl j, zero_add]
  idx_vars j
  pointwise [k0_pay2, val_main_v3, val_main_v2, val_main_v1, val_main_v0]
  refine Fin.sum_mul_add_congr fun s k hl => ?_
  blk_point [iblk, V, idx_val s]

end Cert.Kernel20Ideal.Product

namespace Cert.Proof

open Idealize.ShloMosaic Idealize.SL.Sem

/-- The reference program leaves its arguments as they were and every counter at zero. -/
theorem frame_20 : Cert.quiescent_Reference20Ideal := fun m g _ =>
  (θ_run _ _ _).mono (fun r h => ⟨fun c => (h c).2, sem_eq_zero_of_no_sems (by decide) r.2⟩)
    (Cert.Reference20Ideal.Value.run m g)

/-- The product over the tokens is the gradient of the weight of the second pointwise projection. -/
theorem algebraic_20 : Cert.algebraic_Kernel20Ideal_Reference20Ideal := fun m g m' g' _ hag =>
  ⟨fun c => (Cert.Kernel20Ideal.Gen.dats m 0 c).arrAt 2 Cert.Kernel20Ideal.cfg0.N,
   (θ_run _ _ _).mono (fun r h c => h c) (Cert.Kernel20Ideal.Value.run_blocks m g),
   (θ_run _ _ _).mono (fun r h c => by
      obtain ⟨h0, hk⟩ := h c
      obtain ⟨a0, a1⟩ := hag c
      refine ⟨h0.trans ?_, hk⟩
      · refine (Cert.Reference20Ideal.Read.val_main_v3_eq _ _).trans ?_
        rw [a0, a1]; exact (Cert.Kernel20Ideal.Product.final m c).symm)
     (Cert.Reference20Ideal.Value.run m' g')⟩

end Cert.Proof

end
-- ==== Proof.PtntClaim.lean ====
module

public import proofs.«01_k».proof.Defs
public import proofs.«01_k».proof.Proof.Gen.Kernel21Ideal.Value
public import proofs.«01_k».proof.Proof.Gen.Reference21Ideal.Read
public import proofs.«01_k».proof.Proof.Gen.Reference21Ideal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.Kernel21Ideal.Product

open Idealize.ShloMosaic Idealize.ShloMosaic.TcCoe Idealize.SL.Sem
open Idealize.ShloMosaic.Pipeline (Dat)
open scoped BigOperators
open Cert.Kernel21Ideal Cert.Kernel21Ideal.Gen
open Cert.Reference21Ideal.Read

variable (m : (ℓ : Loc nD τ sig) → Buf (Elt Ideal) ℓ)

/-- The block index of every window at every grid point. -/
theorem idx_val : ∀ t : Fin cfg0.N, win0_0.index t = ![t.val, 0]
    ∧ win0_1.index t = ![0, 0]
    ∧ win0_2.index t = ![t.val, 0] :=
  (by decide +kernel : ∀ t : Fin grid0.N, _)

abbrev A0 (c : Dev nD) : FVec Ideal S2048x1024 .bf16 := m ((c : Thread nD τ).loc main_arg0)
abbrev A1 (c : Dev nD) : FVec Ideal S1024x1024 .bf16 := m ((c : Thread nD τ).loc main_arg1)

/-- The array of the product. -/
theorem final (c : Dev nD) : (dats m 0 c).arrAt 2 (cfgs 0).N = val_main_v3 (F := Ideal) (A0 m c) (A1 m c) := by
  refine (dats m 0 c).arrAt_eq_of_covers 2 _ (by decide +kernel) fun t hf y => ?_
  blk_simp; rw [after0_2]; unfold outsAt0; frame_out
  idx_vars y
  pointwise [k0_pay1, k0_pay2, k0_pay3, val_main_v3, val_main_v2, val_main_v1, val_main_v0]
  blk_point [iblk, V, idx_val t]

end Cert.Kernel21Ideal.Product

namespace Cert.Proof

open Idealize.ShloMosaic Idealize.SL.Sem

/-- The reference program leaves its arguments as they were and every counter at zero. -/
theorem frame_21 : Cert.quiescent_Reference21Ideal := fun m g _ =>
  (θ_run _ _ _).mono (fun r h => ⟨fun c => (h c).2, sem_eq_zero_of_no_sems (by decide) r.2⟩)
    (Cert.Reference21Ideal.Value.run m g)

/-- The blocked product is the gradient of the input of the second pointwise projection. -/
theorem algebraic_21 : Cert.algebraic_Kernel21Ideal_Reference21Ideal := fun m g m' g' _ hag =>
  ⟨fun c => (Cert.Kernel21Ideal.Gen.dats m 0 c).arrAt 2 Cert.Kernel21Ideal.cfg0.N,
   (θ_run _ _ _).mono (fun r h c => h c) (Cert.Kernel21Ideal.Value.run_blocks m g),
   (θ_run _ _ _).mono (fun r h c => by
      obtain ⟨h0, hk⟩ := h c
      obtain ⟨a0, a1⟩ := hag c
      refine ⟨h0.trans ?_, hk⟩
      · refine (Cert.Reference21Ideal.Read.val_main_v3_eq _ _).trans ?_
        rw [a0, a1]; exact (Cert.Kernel21Ideal.Product.final m c).symm)
     (Cert.Reference21Ideal.Value.run m' g')⟩

end Cert.Proof

end
-- ==== Proof.PuClaim.lean ====
module

public import proofs.«01_k».proof.Defs
public import proofs.«01_k».proof.Proof.Gen.Kernel22Ideal.Value
public import proofs.«01_k».proof.Proof.Gen.Reference22Ideal.Read
public import proofs.«01_k».proof.Proof.Gen.Reference22Ideal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.Kernel22Ideal.Product

open Idealize.ShloMosaic Idealize.ShloMosaic.TcCoe Idealize.SL.Sem
open Idealize.ShloMosaic.Pipeline (Dat)
open scoped BigOperators
open Cert.Kernel22Ideal Cert.Kernel22Ideal.Gen
open Cert.Reference22Ideal.Read

variable (m : (ℓ : Loc nD τ sig) → Buf (Elt Ideal) ℓ)

/-- The block index of every window at every grid point. -/
theorem idx_val : ∀ t : Fin cfg0.N, win0_0.index t = ![t.val, 0]
    ∧ win0_1.index t = ![0, 0, 0]
    ∧ win0_2.index t = ![t.val, 0]
    ∧ win0_3.index t = ![t.val, 0] :=
  (by decide +kernel : ∀ t : Fin grid0.N, _)

abbrev A0 (c : Dev nD) : FVec Ideal S2048x1024 .bf16 := m ((c : Thread nD τ).loc main_arg0)
abbrev A1 (c : Dev nD) : FVec Ideal S8x1024x256 .bf16 := m ((c : Thread nD τ).loc main_arg1)

set_option maxHeartbeats 1600000 in
/-- The four tiles stored at a point are the reference's block. -/
theorem point_2 (c : Dev nD) (t : Fin cfg0.N) (y) :
    out0_2 (iblk m c 0 t) (iblk m c 1 t) y
      = val_main_v5 (F := Ideal) (A0 m c) (A1 m c) (((cfg0.win 2).blk t).view.emb y) := by
  canon_tiles x h
  all_goals open_payloads
  all_goals pointwise [val_main_v5, val_main_v4, val_main_v3, val_main_v2, val_main_v1, val_main_v0]
  all_goals refine Finset.sum_congr rfl fun k _ => ?_
  all_goals blk_point [iblk, V, idx_val t]

/-- The array of the first half of the columns. -/
theorem final_2 (c : Dev nD) : (dats m 0 c).arrAt 2 (cfgs 0).N = val_main_v5 (F := Ideal) (A0 m c) (A1 m c) := by
  refine (dats m 0 c).arrAt_eq_of_covers 2 _ (by decide +kernel) fun t hf y => ?_
  blk_simp; rw [after0_2]
  exact point_2 m c t y

set_option maxHeartbeats 1600000 in
/-- The four tiles stored at a point are the reference's block. -/
theorem point_3 (c : Dev nD) (t : Fin cfg0.N) (y) :
    out0_3 (iblk m c 0 t) (iblk m c 1 t) y
      = val_main_v6 (F := Ideal) (A0 m c) (A1 m c) (((cfg0.win 3).blk t).view.emb y) := by
  canon_tiles x h
  all_goals open_payloads
  all_goals pointwise [val_main_v6, val_main_v4, val_main_v3, val_main_v2, val_main_v1, val_main_v0]
  all_goals refine Finset.sum_congr rfl fun k _ => ?_
  all_goals blk_point [iblk, V, idx_val t]

/-- The array of the second half of the columns. -/
theorem final_3 (c : Dev nD) : (dats m 0 c).arrAt 3 (cfgs 0).N = val_main_v6 (F := Ideal) (A0 m c) (A1 m c) := by
  refine (dats m 0 c).arrAt_eq_of_covers 3 _ (by decide +kernel) fun t hf y => ?_
  blk_simp; rw [after0_3]
  exact point_3 m c t y

end Cert.Kernel22Ideal.Product

namespace Cert.Proof

open Idealize.ShloMosaic Idealize.SL.Sem

/-- The reference program leaves its arguments as they were and every counter at zero. -/
theorem frame_22 : Cert.quiescent_Reference22Ideal := fun m g _ =>
  (θ_run _ _ _).mono (fun r h => ⟨fun c => (h c).2.2, sem_eq_zero_of_no_sems (by decide) r.2⟩)
    (Cert.Reference22Ideal.Value.run m g)

/-- The column tiles are the two halves of the first pointwise projection. -/
theorem algebraic_22 : Cert.algebraic_Kernel22Ideal_Reference22Ideal := fun m g m' g' _ hag =>
  ⟨fun c => (Cert.Kernel22Ideal.Gen.dats m 0 c).arrAt 2 Cert.Kernel22Ideal.cfg0.N,
   fun c => (Cert.Kernel22Ideal.Gen.dats m 0 c).arrAt 3 Cert.Kernel22Ideal.cfg0.N,
   (θ_run _ _ _).mono (fun r h c => h c) (Cert.Kernel22Ideal.Value.run_blocks m g),
   (θ_run _ _ _).mono (fun r h c => by
      obtain ⟨h0, h1, hk⟩ := h c
      obtain ⟨a0, a1⟩ := hag c
      refine ⟨h0.trans ?_, h1.trans ?_, hk⟩
      · refine (Cert.Reference22Ideal.Read.val_main_v5_eq _ _).trans ?_
        rw [a0, a1]; exact (Cert.Kernel22Ideal.Product.final_2 m c).symm
      · refine (Cert.Reference22Ideal.Read.val_main_v6_eq _ _).trans ?_
        rw [a0, a1]; exact (Cert.Kernel22Ideal.Product.final_3 m c).symm)
     (Cert.Reference22Ideal.Value.run m' g')⟩

end Cert.Proof

end
-- ==== Proof.PxClaim.lean ====
module

public import proofs.«01_k».proof.Defs
public import proofs.«01_k».proof.Proof.Gen.Kernel23Ideal.Value
public import proofs.«01_k».proof.Proof.Gen.Reference23Ideal.Read
public import proofs.«01_k».proof.Proof.Gen.Reference23Ideal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.Kernel23Ideal.Product

open Idealize.ShloMosaic Idealize.ShloMosaic.TcCoe Idealize.SL.Sem
open Idealize.ShloMosaic.Pipeline (Dat)
open scoped BigOperators
open Cert.Kernel23Ideal Cert.Kernel23Ideal.Gen
open Cert.Reference23Ideal.Read

variable (m : (ℓ : Loc nD τ sig) → Buf (Elt Ideal) ℓ)

/-- The block index of every window at every grid point. -/
theorem idx_val : ∀ t : Fin cfg0.N, win0_0.index t = ![t.val, 0]
    ∧ win0_1.index t = ![t.val, 0]
    ∧ win0_2.index t = ![0, 0, 0]
    ∧ win0_3.index t = ![t.val, 0] :=
  (by decide +kernel : ∀ t : Fin grid0.N, _)

abbrev A0 (c : Dev nD) : FVec Ideal S2048x1024 .bf16 := m ((c : Thread nD τ).loc main_arg0)
abbrev A1 (c : Dev nD) : FVec Ideal S2048x1024 .bf16 := m ((c : Thread nD τ).loc main_arg1)
abbrev A2 (c : Dev nD) : FVec Ideal S8x1024x256 .bf16 := m ((c : Thread nD τ).loc main_arg2)

theorem ix3_congr {a b c : ℕ} {i i' : Fin a} {j j' : Fin b} {k k' : Fin c} (h : i = i') (h' : j = j') (h'' : k = k') :
    ix3 i j k = ix3 i' j' k' := by subst h h' h''; rfl

/-- The first gradient's block at a point, read from the array. -/
theorem leaf_0 (c : Dev nD) (t : Fin cfg0.N) (y0 : Fin 256) (y1 : Fin 1024) (u : Fin 1024) : iblk m c 0 t (ix2 y0 u)
    = A0 m c (ix2 (((cfg0.win 3).blk t).view.emb (ix2 y0 y1) 0) u) := by
  blk_point [iblk, V, idx_val t]

/-- The second gradient's block at a point, read from the array. -/
theorem leaf_1 (c : Dev nD) (t : Fin cfg0.N) (y0 : Fin 256) (y1 : Fin 1024) (u : Fin 1024) : iblk m c 1 t (ix2 y0 u)
    = A1 m c (ix2 (((cfg0.win 3).blk t).view.emb (ix2 y0 y1) 0) u) := by
  blk_point [iblk, V, idx_val t]

/-- The weight is one block, the same at every point. -/
theorem leaf_2 (c : Dev nD) (t : Fin cfg0.N) (g : Fin 8) (d : Fin 1024) (k : Fin 256) : iblk m c 2 t (ix3 g d k)
    = A2 m c (ix3 g d k) := by
  blk_point [iblk, V, idx_val t]

/-- A sum over 1024 columns is the sum over four tiles of 256 columns. -/
theorem sum_tiles (f : Fin 1024 → EReal) : ∑ x, f x = ∑ x : Fin 256, f ⟨x.val, by omega⟩ + ∑ x : Fin 256, f ⟨256 + x.val, by omega⟩
    + ∑ x : Fin 256, f ⟨512 + x.val, by omega⟩ + ∑ x : Fin 256, f ⟨768 + x.val, by omega⟩ := by
  rw [Fin.sum_univ_tiles (N := 1024) 4 256 (by norm_num), Fin.sum_univ_four]
  refine congrArg₂ (· + ·) (congrArg₂ (· + ·) (congrArg₂ (· + ·) ?_ ?_) ?_) ?_ <;>
    exact Finset.sum_congr rfl fun x _ => congrArg f (Fin.ext (by simp))

theorem point (c : Dev nD) (t : Fin cfg0.N) (y) :
    k0_pay1 (k0_pay2 (View.ld (iblk m c 0 t) r0_0) (View.ld (iblk m c 2 t) r0_1) (View.ld (iblk m c 0 t) r0_2)
      (View.ld (iblk m c 2 t) r0_3) (View.ld (iblk m c 0 t) r0_4) (View.ld (iblk m c 2 t) r0_5) (View.ld (iblk m c 0 t)
      r0_6) (View.ld (iblk m c 2 t) r0_7) (View.ld (iblk m c 1 t) r0_0) (View.ld (iblk m c 2 t) r0_8)) (View.ld (iblk m
      c 1 t) r0_2) (View.ld (iblk m c 2 t) r0_9) (View.ld (iblk m c 1 t) r0_4) (View.ld (iblk m c 2 t) r0_10) (View.ld
      (iblk m c 1 t) r0_6) (View.ld (iblk m c 2 t) r0_11) y
      = val_main_v6 (F := Ideal) (A0 m c) (A1 m c) (A2 m c) (((cfg0.win 3).blk t).view.emb y) := by
  idx_vars y
  pointwise [k0_pay1, k0_pay2, val_main_v6, val_main_v5, val_main_v1, val_main_v0, val_main_v4, val_main_v3, val_main_v2]
  rw [sum_tiles, sum_tiles, ← add_assoc, ← add_assoc, ← add_assoc]
  simp only [leaf_2]
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_ <;>
    refine Finset.sum_congr rfl fun x _ => congrArg₂ (· * ·)
      (by first | exact leaf_0 m c t y0 y1 _ | exact leaf_1 m c t y0 y1 _) (congrArg (A2 m c) ?_) <;>
    have hx := x.isLt <;>
    refine ix3_congr ?_ ?_ ?_ <;> refine Fin.ext ?_ <;> try dsimp only
  all_goals first | omega | (show (0 : ℕ) = _; omega) | (show (1 : ℕ) = _; omega) | (blk_simp [idx_val t]; done)

/-- The array of the product. -/
theorem final (c : Dev nD) : (dats m 0 c).arrAt 3 (cfgs 0).N = val_main_v6 (F := Ideal) (A0 m c) (A1 m c) (A2 m c) := by
  refine (dats m 0 c).arrAt_eq_of_covers 3 _ (by decide +kernel) fun t hf y => ?_
  blk_simp; rw [after0_3]; frame_out
  exact point m c t y

end Cert.Kernel23Ideal.Product

namespace Cert.Proof

open Idealize.ShloMosaic Idealize.SL.Sem

/-- The reference program leaves its arguments as they were and every counter at zero. -/
theorem frame_23 : Cert.quiescent_Reference23Ideal := fun m g _ =>
  (θ_run _ _ _).mono (fun r h => ⟨fun c => (h c).2, sem_eq_zero_of_no_sems (by decide) r.2⟩)
    (Cert.Reference23Ideal.Value.run m g)

/-- The sum of the column tiles is the gradient of the input of the first pointwise projection. -/
theorem algebraic_23 : Cert.algebraic_Kernel23Ideal_Reference23Ideal := fun m g m' g' _ hag =>
  ⟨fun c => (Cert.Kernel23Ideal.Gen.dats m 0 c).arrAt 3 Cert.Kernel23Ideal.cfg0.N,
   (θ_run _ _ _).mono (fun r h c => h c) (Cert.Kernel23Ideal.Value.run_blocks m g),
   (θ_run _ _ _).mono (fun r h c => by
      obtain ⟨h0, hk⟩ := h c
      obtain ⟨a0, a1, a2⟩ := hag c
      refine ⟨h0.trans ?_, hk⟩
      · refine (Cert.Reference23Ideal.Read.val_main_v6_eq _ _ _).trans ?_
        rw [a0, a1, a2]; exact (Cert.Kernel23Ideal.Product.final m c).symm)
     (Cert.Reference23Ideal.Value.run m' g')⟩

end Cert.Proof

end
-- ==== Proof.PwClaim.lean ====
module

public import proofs.«01_k».proof.Defs
public import proofs.«01_k».proof.Proof.Gen.Kernel24Ideal.Value
public import proofs.«01_k».proof.Proof.Gen.Reference24Ideal.Read
public import proofs.«01_k».proof.Proof.Gen.Reference24Ideal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.Kernel24Ideal.Product

open Idealize.ShloMosaic Idealize.ShloMosaic.TcCoe Idealize.SL.Sem
open Idealize.ShloMosaic.Pipeline (Dat)
open scoped BigOperators
open Cert.Kernel24Ideal Cert.Kernel24Ideal.Gen
open Cert.Reference24Ideal.Read

variable (m : (ℓ : Loc nD τ sig) → Buf (Elt Ideal) ℓ)

/-- The block index of every window at every grid point. -/
theorem idx_val : ∀ t : Fin cfg0.N, win0_0.index t = ![t.val % 4, 0]
    ∧ win0_1.index t = ![t.val % 4, 0]
    ∧ win0_2.index t = ![t.val % 4, 0]
    ∧ win0_3.index t = ![t.val / 4, 0, 0] :=
  (by decide +kernel : ∀ t : Fin grid0.N, _)

abbrev A0 (c : Dev nD) : FVec Ideal S2048x1024 .bf16 := m ((c : Thread nD τ).loc main_arg0)
abbrev A1 (c : Dev nD) : FVec Ideal S2048x1024 .bf16 := m ((c : Thread nD τ).loc main_arg1)
abbrev A2 (c : Dev nD) : FVec Ideal S2048x1024 .bf16 := m ((c : Thread nD τ).loc main_arg2)

/-- A row of the two gradients' blocks side by side. -/
def side (y1 : Vec Ideal S512x1024 .bf16) (y2 : Vec Ideal S512x1024 .bf16) (r : Fin 512) (x : Fin 2048) : EReal :=
  if h : x.val < 1024 then y1 (ix2 r ⟨x.val, h⟩) else y2 (ix2 r ⟨x.val - 1024, by omega⟩)

theorem side_1 {y1 : Vec Ideal S512x1024 .bf16} {y2 : Vec Ideal S512x1024 .bf16} {r : Fin 512} (x : Fin 2048) (k : Fin 1024) (e : k.val = x.val) : y1 (ix2 r k) = side y1 y2 r x := by
  have hk := k.isLt
  unfold side
  rw [dif_pos (by omega)]
  exact congrArg (fun u => y1 (ix2 r u)) (Fin.ext (by dsimp only; omega))

theorem side_2 {y1 : Vec Ideal S512x1024 .bf16} {y2 : Vec Ideal S512x1024 .bf16} {r : Fin 512} (x : Fin 2048) (k : Fin 1024) (e : 1024 + k.val = x.val) : y2 (ix2 r k) = side y1 y2 r x := by
  have hk := k.isLt
  unfold side
  rw [dif_neg (by omega)]
  exact congrArg (fun u => y2 (ix2 r u)) (Fin.ext (by dsimp only; omega))

/-- What one grid point adds to the accumulators. -/
def term (c : Dev nD) (t : Fin cfg0.N) (j : S8x1024x256.Idx) : EReal :=
  ∑ r : Fin 512, HMul.hMul (α := EReal) (β := EReal) (γ := EReal) (iblk m c 0 t (ix2 r (j 1))) (side (iblk m c 1 t) (iblk m c 2 t) r ⟨(j 0).val * 256 + (j 2).val, by have h0 : (j 0).val < 8 := (j 0).isLt; have h2 : (j 2).val < 256 := (j 2).isLt; omega⟩)

/-- An index lies in the rows `o` to `o + K` of the slab of its first coordinate. -/
theorem mem_slab {K : ℕ} (g o : ℕ) (inb : ∀ a, (![g, o, 0] : Fin 3 → ℕ) a + (⟨3, ![1, K, 256]⟩ : Shape).size a ≤ S8x1024x256.size a) (j : S8x1024x256.Idx) (h : (j 0).val = g)
    (h1 : o ≤ (j 1).val) (h2 : (j 1).val < o + K) : j ∈ (Rect.unit (s := S8x1024x256) ![g, o, 0] (⟨3, ![1, K, 256]⟩ : Shape).size inb).set := by
  refine Rect.mem_set_unit.mpr ?_
  intro a
  match a with
  | ⟨0, _⟩ => exact ⟨le_of_eq h.symm, by show (j 0).val < g + 1; omega⟩
  | ⟨1, _⟩ => exact ⟨h1, h2⟩
  | ⟨2, _⟩ => exact ⟨Nat.zero_le _, by have h2 : (j 2).val < 256 := (j 2).isLt; show (j 2).val < 0 + 256; omega⟩

/-- Rows of a slab hold a function of the buffer's index when they do so entry by entry. -/
theorem piece {K : ℕ} (g : Fin 8) (o : ℕ) (ho : o + K ≤ 1024) (inb : ∀ a, (![g.val, o, 0] : Fin 3 → ℕ) a + (⟨3, ![1, K, 256]⟩ : Shape).size a ≤ S8x1024x256.size a)
    (w : (⟨3, ![1, K, 256]⟩ : Shape).Idx → EReal) (G : S8x1024x256.Idx → EReal) (h : ∀ (a : Fin K) (b : Fin 256), w (ix3 0 a b) = G (ix3 g ⟨o + a.val, by omega⟩ b))
    (x : (⟨3, ![1, K, 256]⟩ : Shape).Idx) : w x = G ((Rect.unit (s := S8x1024x256) ![g.val, o, 0] (⟨3, ![1, K, 256]⟩ : Shape).size inb).emb x) := by
  obtain ⟨z, a, b, rfl⟩ : ∃ (z : Fin 1) (a : Fin K) (b : Fin 256), x = ix3 z a b := ⟨x 0, x 1, x 2, eq_ix3 x⟩
  obtain rfl : z = 0 := Subsingleton.elim _ _
  refine (h a b).trans (congrArg G ?_)
  funext i
  match i with
  | ⟨0, _⟩ => exact Fin.ext (by show g.val = g.val + 1 * 0; omega)
  | ⟨1, _⟩ => exact Fin.ext (by show o + a.val = o + 1 * a.val; omega)
  | ⟨2, _⟩ => exact Fin.ext (by show b.val = 0 + 1 * b.val; omega)

/-- The eight slabs, stored over earlier writes, leave what they store. -/
theorem slabs (G : S8x1024x256.Idx → EReal) (L' : List (View.Piece (Elt Ideal) S8x1024x256 .f32))
    (i0 : ∀ a, (![7, 0, 0] : Fin 3 → ℕ) a + S1x1024x256.size a ≤ S8x1024x256.size a) (w0 : Vec Ideal S1x1024x256 .f32) (h0 : ∀ (a : Fin 1024) (b : Fin 256), w0 (ix3 0 a b) = G (ix3 7 ⟨0 + a.val, by omega⟩ b))
    (i1 : ∀ a, (![6, 0, 0] : Fin 3 → ℕ) a + S1x1024x256.size a ≤ S8x1024x256.size a) (w1 : Vec Ideal S1x1024x256 .f32) (h1 : ∀ (a : Fin 1024) (b : Fin 256), w1 (ix3 0 a b) = G (ix3 6 ⟨0 + a.val, by omega⟩ b))
    (i2 : ∀ a, (![5, 0, 0] : Fin 3 → ℕ) a + S1x1024x256.size a ≤ S8x1024x256.size a) (w2 : Vec Ideal S1x1024x256 .f32) (h2 : ∀ (a : Fin 1024) (b : Fin 256), w2 (ix3 0 a b) = G (ix3 5 ⟨0 + a.val, by omega⟩ b))
    (i3 : ∀ a, (![4, 0, 0] : Fin 3 → ℕ) a + S1x1024x256.size a ≤ S8x1024x256.size a) (w3 : Vec Ideal S1x1024x256 .f32) (h3 : ∀ (a : Fin 1024) (b : Fin 256), w3 (ix3 0 a b) = G (ix3 4 ⟨0 + a.val, by omega⟩ b))
    (i4 : ∀ a, (![3, 0, 0] : Fin 3 → ℕ) a + S1x1024x256.size a ≤ S8x1024x256.size a) (w4 : Vec Ideal S1x1024x256 .f32) (h4 : ∀ (a : Fin 1024) (b : Fin 256), w4 (ix3 0 a b) = G (ix3 3 ⟨0 + a.val, by omega⟩ b))
    (i5 : ∀ a, (![2, 0, 0] : Fin 3 → ℕ) a + S1x1024x256.size a ≤ S8x1024x256.size a) (w5 : Vec Ideal S1x1024x256 .f32) (h5 : ∀ (a : Fin 1024) (b : Fin 256), w5 (ix3 0 a b) = G (ix3 2 ⟨0 + a.val, by omega⟩ b))
    (i6 : ∀ a, (![1, 0, 0] : Fin 3 → ℕ) a + S1x1024x256.size a ≤ S8x1024x256.size a) (w6 : Vec Ideal S1x1024x256 .f32) (h6 : ∀ (a : Fin 1024) (b : Fin 256), w6 (ix3 0 a b) = G (ix3 1 ⟨0 + a.val, by omega⟩ b))
    (i7 : ∀ a, (![0, 0, 0] : Fin 3 → ℕ) a + S1x1024x256.size a ≤ S8x1024x256.size a) (w7 : Vec Ideal S1x1024x256 .f32) (h7 : ∀ (a : Fin 1024) (b : Fin 256), w7 (ix3 0 a b) = G (ix3 0 ⟨0 + a.val, by omega⟩ b))
    (j : S8x1024x256.Idx) : View.canon (Val := Elt Ideal) ([⟨Rect.unit (s := S8x1024x256) ![7, 0, 0] S1x1024x256.size i0, w0⟩, ⟨Rect.unit (s := S8x1024x256) ![6, 0, 0] S1x1024x256.size i1, w1⟩, ⟨Rect.unit (s := S8x1024x256) ![5, 0, 0] S1x1024x256.size i2, w2⟩, ⟨Rect.unit (s := S8x1024x256) ![4, 0, 0] S1x1024x256.size i3, w3⟩, ⟨Rect.unit (s := S8x1024x256) ![3, 0, 0] S1x1024x256.size i4, w4⟩, ⟨Rect.unit (s := S8x1024x256) ![2, 0, 0] S1x1024x256.size i5, w5⟩, ⟨Rect.unit (s := S8x1024x256) ![1, 0, 0] S1x1024x256.size i6, w6⟩, ⟨Rect.unit (s := S8x1024x256) ![0, 0, 0] S1x1024x256.size i7, w7⟩] ++ L') j = G j := by
  refine View.canon_append_of_piecesOf G L' _ ?_ j ?_
  · simp only [View.PiecesOf, and_true]
    exact ⟨piece 7 0 (by norm_num) i0 w0 G h0, piece 6 0 (by norm_num) i1 w1 G h1, piece 5 0 (by norm_num) i2 w2 G h2, piece 4 0 (by norm_num) i3 w3 G h3, piece 3 0 (by norm_num) i4 w4 G h4, piece 2 0 (by norm_num) i5 w5 G h5, piece 1 0 (by norm_num) i6 w6 G h6, piece 0 0 (by norm_num) i7 w7 G h7⟩
  · have hj : (j 0).val < 8 := (j 0).isLt
    have hj1 : (j 1).val < 1024 := (j 1).isLt
    by_cases e0 : (j 0).val = 7
    · exact ⟨_, List.mem_cons_self, mem_slab 7 0 i0 j (by omega) (by omega) (by omega)⟩
    by_cases e1 : (j 0).val = 6
    · exact ⟨_, (List.mem_cons_of_mem _ List.mem_cons_self), mem_slab 6 0 i1 j (by omega) (by omega) (by omega)⟩
    by_cases e2 : (j 0).val = 5
    · exact ⟨_, (List.mem_cons_of_mem _ (List.mem_cons_of_mem _ List.mem_cons_self)), mem_slab 5 0 i2 j (by omega) (by omega) (by omega)⟩
    by_cases e3 : (j 0).val = 4
    · exact ⟨_, (List.mem_cons_of_mem _ (List.mem_cons_of_mem _ (List.mem_cons_of_mem _ List.mem_cons_self))), mem_slab 4 0 i3 j (by omega) (by omega) (by omega)⟩
    by_cases e4 : (j 0).val = 3
    · exact ⟨_, (List.mem_cons_of_mem _ (List.mem_cons_of_mem _ (List.mem_cons_of_mem _ (List.mem_cons_of_mem _ List.mem_cons_self)))), mem_slab 3 0 i4 j (by omega) (by omega) (by omega)⟩
    by_cases e5 : (j 0).val = 2
    · exact ⟨_, (List.mem_cons_of_mem _ (List.mem_cons_of_mem _ (List.mem_cons_of_mem _ (List.mem_cons_of_mem _ (List.mem_cons_of_mem _ List.mem_cons_self))))), mem_slab 2 0 i5 j (by omega) (by omega) (by omega)⟩
    by_cases e6 : (j 0).val = 1
    · exact ⟨_, (List.mem_cons_of_mem _ (List.mem_cons_of_mem _ (List.mem_cons_of_mem _ (List.mem_cons_of_mem _ (List.mem_cons_of_mem _ (List.mem_cons_of_mem _ List.mem_cons_self)))))), mem_slab 1 0 i6 j (by omega) (by omega) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_slab 0 0 i7 j (by omega) (by omega) (by omega)⟩

/-- The first point leaves the fill and what the point adds. -/
theorem step_start (c : Dev nD) (t : Fin cfg0.N) (h0 : t.val % 4 = 0) (j : S8x1024x256.Idx) :
    (outsAt0 m c t.val t.isLt).2 j = (k0_pay1 (F := Ideal)) j + term m c t j := by
  · rw [outsAt0_A m c t h0 (by omega)]; frame_out
    simp (disch := decide) only [↓View.readCov_skip, ↓View.readCov_cons_toLoadRect, ↓View.readCov_fill, read_unread_whole]
    refine slabs (fun j => (k0_pay1 (F := Ideal)) j + term m c t j) [_] _ _ ?_ _ _ ?_ _ _ ?_ _ _ ?_ _ _ ?_ _ _ ?_ _ _ ?_ _ _ ?_ j <;> intro a b
    all_goals
      pointwise [k0_pay5, k0_pay6, k0_pay7, k0_pay8, k0_pay9, k0_pay10, k0_pay11, k0_pay2, k0_pay3, term]
      refine congrArg₂ (· + ·) rfl (Finset.sum_congr rfl fun r _ => congrArg₂ (· * ·) rfl ?_)
      have ha := a.isLt
      have hb := b.isLt
      first
      | exact side_1 _ _ (by dsimp only; omega)
      | exact side_1 _ _ rfl
      | exact side_2 _ _ (by dsimp only; omega)
      | exact side_2 _ _ rfl

/-- Every other point adds to what the point before left. -/
theorem step_next (c : Dev nD) (t : Fin cfg0.N) (h0 : ¬t.val % 4 = 0) (j : S8x1024x256.Idx) :
    (outsAt0 m c t.val t.isLt).2 j = (outsAt0 m c (t.val - 1) (Nat.lt_of_le_of_lt (Nat.sub_le _ _) t.isLt)).2 j + term m c t j := by
  by_cases h3 : t.val % 4 = 3
  · rw [outsAt0_C m c t h0 h3]; frame_out
    simp (disch := decide) only [↓View.readCov_skip, ↓View.readCov_cons_toLoadRect, ↓View.readCov_fill, read_unread_whole]
    refine slabs (fun j => (outsAt0 m c (t.val - 1) (Nat.lt_of_le_of_lt (Nat.sub_le _ _) t.isLt)).2 j + term m c t j) [] _ _ ?_ _ _ ?_ _ _ ?_ _ _ ?_ _ _ ?_ _ _ ?_ _ _ ?_ _ _ ?_ j <;> intro a b
    all_goals
      pointwise [k0_pay5, k0_pay6, k0_pay7, k0_pay8, k0_pay9, k0_pay10, k0_pay11, k0_pay2, k0_pay3, term]
      refine congrArg₂ (· + ·) rfl (Finset.sum_congr rfl fun r _ => congrArg₂ (· * ·) rfl ?_)
      have ha := a.isLt
      have hb := b.isLt
      first
      | exact side_1 _ _ (by dsimp only; omega)
      | exact side_1 _ _ rfl
      | exact side_2 _ _ (by dsimp only; omega)
      | exact side_2 _ _ rfl
  · rw [outsAt0_B m c t h0 h3]; frame_out
    simp (disch := decide) only [↓View.readCov_skip, ↓View.readCov_cons_toLoadRect, ↓View.readCov_fill, read_unread_whole]
    refine slabs (fun j => (outsAt0 m c (t.val - 1) (Nat.lt_of_le_of_lt (Nat.sub_le _ _) t.isLt)).2 j + term m c t j) [] _ _ ?_ _ _ ?_ _ _ ?_ _ _ ?_ _ _ ?_ _ _ ?_ _ _ ?_ _ _ ?_ j <;> intro a b
    all_goals
      pointwise [k0_pay5, k0_pay6, k0_pay7, k0_pay8, k0_pay9, k0_pay10, k0_pay11, k0_pay2, k0_pay3, term]
      refine congrArg₂ (· + ·) rfl (Finset.sum_congr rfl fun r _ => congrArg₂ (· * ·) rfl ?_)
      have ha := a.isLt
      have hb := b.isLt
      first
      | exact side_1 _ _ (by dsimp only; omega)
      | exact side_1 _ _ rfl
      | exact side_2 _ _ (by dsimp only; omega)
      | exact side_2 _ _ rfl

/-- The accumulators start at zero. -/
theorem zero_at (j : S8x1024x256.Idx) : k0_pay1 (F := Ideal) j = 0 := by
  idx_vars j
  pointwise! [k0_pay1]

/-- The stored block at a group's last point is the sum over the group's points. -/
theorem stored_at (c : Dev nD) (t : Fin cfg0.N) (hr : t.val % 4 = 3) (j : S8x1024x256.Idx) :
    (outsAt0 m c t.val t.isLt).1 j
      = ∑ s : Fin 4, term m c ⟨4 * (t.val / 4) + s.val, Pipeline.run_point_lt_of_flush t hr s⟩ j := by
  have hN : ∀ u : Fin cfg0.N, u.val < 4 := fun u => lt_of_lt_of_eq u.isLt N_0
  have hl : (outsAt0 m c t.val t.isLt).1 j = (outsAt0 m c t.val t.isLt).2 j := by
    rw [outsAt0_C m c t (by omega) hr]; frame_out; pointwise [k0_pay4]; rw [View.readCov_eq_canon']; idx_vars j; pointwise
  rw [hl, Pipeline.eq_sum_fin_of_reset_step_apply_of_flush (fun n h => (outsAt0 m c n h).2) 4 (k0_pay1 (F := Ideal)) (term m c)
    (fun u h j => step_start m c u h j) (fun u h j => step_next m c u h j) t hr j]
  rw [zero_at, zero_add]

theorem ix2_congr {a b : ℕ} {i i' : Fin a} {j j' : Fin b} (h : i = i') (h' : j = j') : ix2 i j = ix2 i' j' := by
  subst h h'; rfl

/-- Window 0's block at a point is 512 rows of its array. -/
theorem leaf_0 (c : Dev nD) (u : Fin cfg0.N) (k : Fin 512) (f : Fin 1024) : iblk m c 0 u (ix2 k f)
    = A0 m c (ix2 ⟨u.val % 4 * 512 + k.val, by omega⟩ f) := by
  blk_point [iblk, V, idx_val u]

/-- Window 1's block at a point is 512 rows of its array. -/
theorem leaf_1 (c : Dev nD) (u : Fin cfg0.N) (k : Fin 512) (f : Fin 1024) : iblk m c 1 u (ix2 k f)
    = A1 m c (ix2 ⟨u.val % 4 * 512 + k.val, by omega⟩ f) := by
  blk_point [iblk, V, idx_val u]

/-- Window 2's block at a point is 512 rows of its array. -/
theorem leaf_2 (c : Dev nD) (u : Fin cfg0.N) (k : Fin 512) (f : Fin 1024) : iblk m c 2 u (ix2 k f)
    = A2 m c (ix2 ⟨u.val % 4 * 512 + k.val, by omega⟩ f) := by
  blk_point [iblk, V, idx_val u]

/-- A row of the blocks side by side is a row of the arrays side by side. -/
theorem side_at (c : Dev nD) (u : Fin cfg0.N) (k : Fin 512) (x : Fin 2048) (q : Fin 2048) (e : u.val % 4 * 512 + k.val = q.val) :
    side (iblk m c 1 u) (iblk m c 2 u) k x = if h : x.val < 1024 then A1 m c (ix2 q ⟨x.val, h⟩) else A2 m c (ix2 q ⟨x.val - 1024, by omega⟩) := by
  have hq : ∀ h, (⟨u.val % 4 * 512 + k.val, h⟩ : Fin 2048) = q := fun h => Fin.ext e
  simp only [side, leaf_1, leaf_2, hq]

/-- The sum over a group's points is the reference's entry. -/
theorem entry (c : Dev nD) (g : ℕ) (hg : g < 1) (y0 : Fin 8) (y1 : Fin 1024) (y2 : Fin 256) :
    ∑ s : Fin 4, term m c ⟨4 * g + s.val, lt_of_lt_of_eq (by omega) N_0.symm⟩ (ix3 y0 y1 y2)
      = val_main_v6 (F := Ideal) (A0 m c) (A1 m c) (A2 m c) (ix3 ⟨g * 8 + y0.val, by omega⟩ y1 y2) := by
  obtain rfl : g = 0 := by omega
  pointwise [val_main_v6, val_main_v5, val_main_v4, val_main_v3, val_main_v2, val_main_v1, val_main_v0, term]
  refine Fin.sum_mul_add_congr fun s k hl => ?_
  have hs := s.isLt
  have hk := k.isLt
  have hy0 := y0.isLt
  have hy1 := y1.isLt
  refine congrArg₂ (· * ·) ?_ ?_
  · rw [leaf_0]
    exact congrArg (A0 m c) (ix2_congr (Fin.ext (by show (4 * 0 + s.val) % 4 * 512 + k.val = s.val * 512 + k.val; omega)) rfl)
  · exact side_at m c _ k _ _ (by show (4 * 0 + s.val) % 4 * 512 + k.val = s.val * 512 + k.val; omega)

/-- The place of a block's index in the array. -/
theorem emb_at (t : Fin cfg0.N) (y0 : Fin 8) (y1 : Fin 1024) (y2 : Fin 256) (h : t.val / 4 * 8 + y0.val < 8) :
    ((cfg0.win 3).blk t).view.emb (ix3 y0 y1 y2) = (ix3 ⟨t.val / 4 * 8 + y0.val, h⟩ y1 y2 : S8x1024x256.Idx) := by
  have ht := (idx_val t).2.2.2
  funext a
  match a with
  | ⟨0, _⟩ => exact Fin.ext (by show win0_3.index t (0 : Fin 3) * 8 + 1 * y0.val = t.val / 4 * 8 + y0.val; rw [ht, Nat.one_mul]; rfl)
  | ⟨1, _⟩ => exact Fin.ext (by show win0_3.index t (1 : Fin 3) * 1024 + 1 * y1.val = y1.val; rw [ht]; show 0 * 1024 + 1 * y1.val = _; omega)
  | ⟨2, _⟩ => exact Fin.ext (by show win0_3.index t (2 : Fin 3) * 256 + 1 * y2.val = y2.val; rw [ht]; show 0 * 256 + 1 * y2.val = _; omega)

/-- The array of the grouped products. -/
theorem final (c : Dev nD) : (dats m 0 c).arrAt 3 (cfgs 0).N = val_main_v6 (F := Ideal) (A0 m c) (A1 m c) (A2 m c) := by
  refine (dats m 0 c).arrAt_eq_of_covers 3 _ (by decide +kernel) fun t hf y => ?_
  have hr : t.val % 4 = 3 := (flush0_3 t).mp hf
  have hN : t.val < 4 := lt_of_lt_of_eq t.isLt N_0
  blk_simp; rw [after0_3]
  refine (stored_at m c t hr _).trans ?_
  idx_vars y
  have hy0 := y0.isLt
  exact (entry m c (t.val / 4) (by omega) y0 y1 y2).trans
    (congrArg (val_main_v6 (F := Ideal) (A0 m c) (A1 m c) (A2 m c)) (emb_at t y0 y1 y2 (by omega)).symm)

end Cert.Kernel24Ideal.Product

namespace Cert.Proof

open Idealize.ShloMosaic Idealize.SL.Sem

/-- The reference program leaves its arguments as they were and every counter at zero. -/
theorem frame_24 : Cert.quiescent_Reference24Ideal := fun m g _ =>
  (θ_run _ _ _).mono (fun r h => ⟨fun c => (h c).2, sem_eq_zero_of_no_sems (by decide) r.2⟩)
    (Cert.Reference24Ideal.Value.run m g)

/-- The grouped products over the tokens are the gradient of the weight. -/
theorem algebraic_24 : Cert.algebraic_Kernel24Ideal_Reference24Ideal := fun m g m' g' _ hag =>
  ⟨fun c => (Cert.Kernel24Ideal.Gen.dats m 0 c).arrAt 3 Cert.Kernel24Ideal.cfg0.N,
   (θ_run _ _ _).mono (fun r h c => h c) (Cert.Kernel24Ideal.Value.run_blocks m g),
   (θ_run _ _ _).mono (fun r h c => by
      obtain ⟨h0, hk⟩ := h c
      obtain ⟨a0, a1, a2⟩ := hag c
      refine ⟨h0.trans ?_, hk⟩
      · refine (Cert.Reference24Ideal.Read.val_main_v6_eq _ _ _).trans ?_
        rw [a0, a1, a2]; exact (Cert.Kernel24Ideal.Product.final m c).symm)
     (Cert.Reference24Ideal.Value.run m' g')⟩

end Cert.Proof

end
-- ==== Proof.IuClaim.lean ====
module

public import proofs.«01_k».proof.Defs
public import proofs.«01_k».proof.Proof.Gen.Kernel25Ideal.Value
public import proofs.«01_k».proof.Proof.Gen.Reference25Ideal.Read
public import proofs.«01_k».proof.Proof.Gen.Reference25Ideal.Run
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Lib.Quiescent

@[expose] public section

set_option maxRecDepth 16384

noncomputable section

namespace Cert.Kernel25Ideal.Product

open Idealize.ShloMosaic Idealize.ShloMosaic.TcCoe Idealize.SL.Sem
open Idealize.ShloMosaic.Pipeline (Dat)
open scoped BigOperators
open Cert.Kernel25Ideal Cert.Kernel25Ideal.Gen
open Cert.Reference25Ideal.Read

variable (m : (ℓ : Loc nD τ sig) → Buf (Elt Ideal) ℓ)

/-- The block index of every window at every grid point. -/
theorem idx_val : ∀ t : Fin cfg0.N, win0_0.index t = ![t.val, 0]
    ∧ win0_1.index t = ![0, 0, 0]
    ∧ win0_2.index t = ![t.val, 0]
    ∧ win0_3.index t = ![t.val, 0]
    ∧ win0_4.index t = ![t.val, 0] :=
  (by decide +kernel : ∀ t : Fin grid0.N, _)

abbrev A0 (c : Dev nD) : FVec Ideal S2304x1024 .bf16 := m ((c : Thread nD τ).loc main_arg0)
abbrev A1 (c : Dev nD) : FVec Ideal S8x1024x776 .bf16 := m ((c : Thread nD τ).loc main_arg1)

set_option maxHeartbeats 1600000 in
/-- The tiles stored at a point are the reference's block of the first part. -/
theorem point_2 (c : Dev nD) (t : Fin cfg0.N) (y) :
    (outsAt0 m c t).1 y
      = val_main_v5 (F := Ideal) (A0 m c) (A1 m c) (((cfg0.win 2).blk t).view.emb y) := by
  unfold outsAt0
  frame_out
  canon_tiles x h using View.cover_of_tiledBy _ ![256, 8] (by sl_kernel_rfl) y
  all_goals open_payloads
  all_goals pointwise [val_main_v5, val_main_v4, val_main_v3, val_main_v2, val_main_v1, val_main_v0]
  all_goals refine Finset.sum_congr rfl fun k _ => ?_
  all_goals blk_point [iblk, V, idx_val t]

/-- The array of the first part. -/
theorem final_2 (c : Dev nD) : (dats m 0 c).arrAt 2 (cfgs 0).N = val_main_v5 (F := Ideal) (A0 m c) (A1 m c) := by
  refine (dats m 0 c).arrAt_eq_of_covers 2 _ (by decide +kernel) fun t hf y => ?_
  blk_simp; rw [after0_2]
  exact point_2 m c t y

set_option maxHeartbeats 1600000 in
/-- The tiles stored at a point are the reference's block of the second part. -/
theorem point_3 (c : Dev nD) (t : Fin cfg0.N) (y) :
    (outsAt0 m c t).2.1 y
      = val_main_v6 (F := Ideal) (A0 m c) (A1 m c) (((cfg0.win 3).blk t).view.emb y) := by
  unfold outsAt0
  frame_out
  canon_tiles x h using View.cover_of_tiledBy _ ![256, 8] (by sl_kernel_rfl) y
  all_goals open_payloads
  all_goals pointwise [val_main_v6, val_main_v4, val_main_v3, val_main_v2, val_main_v1, val_main_v0]
  all_goals refine Finset.sum_congr rfl fun k _ => ?_
  all_goals blk_point [iblk, V, idx_val t]

/-- The array of the second part. -/
theorem final_3 (c : Dev nD) : (dats m 0 c).arrAt 3 (cfgs 0).N = val_main_v6 (F := Ideal) (A0 m c) (A1 m c) := by
  refine (dats m 0 c).arrAt_eq_of_covers 3 _ (by decide +kernel) fun t hf y => ?_
  blk_simp; rw [after0_3]
  exact point_3 m c t y

/-- The third part's first 64 columns are the projection's last. -/
theorem ref_inside (x0 : FVec Ideal S2304x1024 .bf16) (x1 : FVec Ideal S8x1024x776 .bf16) (i : Fin 2304) (j : Fin 128) (h : j.val < 64) :
    val_main_v8 (F := Ideal) x0 x1 (ix2 i j) = val_main_v7 (F := Ideal) x0 x1 (ix2 i ⟨j.val, h⟩) := by
  unfold val_main_v8
  refine pad_apply_of_inside _ _ _ _ _ _ _ _ (ix2 i ⟨j.val, h⟩ : (⟨2, ![2304, 64]⟩ : Shape).Idx) fun a => ?_
  match a with
  | ⟨0, _⟩ => show i.val = 0 + i.val * (0 + 1); omega
  | ⟨1, _⟩ => show j.val = 0 + j.val * (0 + 1); omega

/-- Its other columns are zero. -/
theorem ref_outside (x0 : FVec Ideal S2304x1024 .bf16) (x1 : FVec Ideal S8x1024x776 .bf16) (i : Fin 2304) (j : Fin 128) (h : ¬j.val < 64) :
    val_main_v8 (F := Ideal) x0 x1 (ix2 i j) = 0 := by
  unfold val_main_v8
  refine (pad_apply_of_not_inside _ _ _ _ _ _ _ _ (1 : Fin 2) fun ha => ?_).trans ?_
  · have h2 : (j.val - 0) / (0 + 1) < 64 := ha.2.2
    omega
  · pointwise [val_main_call0_v0, val_main_c]
    show (((0#32 : BitVec 32).toInt : ℝ) : EReal) = 0
    simp

/-- The place of a block's index in the third part. -/
theorem emb_4 (t : Fin cfg0.N) (y0 : Fin 256) (y1 : Fin 128) (h : t.val * 256 + y0.val < 2304) :
    ((cfg0.win 4).blk t).view.emb (ix2 y0 y1) = (ix2 ⟨t.val * 256 + y0.val, h⟩ y1 : S2304x128.Idx) := by
  have ht := (idx_val t).2.2.2.2
  funext a
  match a with
  | ⟨0, _⟩ => exact Fin.ext (by show win0_4.index t (0 : Fin 2) * 256 + 1 * y0.val = t.val * 256 + y0.val; rw [ht, Nat.one_mul]; rfl)
  | ⟨1, _⟩ => exact Fin.ext (by show win0_4.index t (1 : Fin 2) * 128 + 1 * y1.val = y1.val; rw [ht]; show 0 * 128 + 1 * y1.val = _; omega)

/-- Window 0's block at a point is 256 rows of its array. -/
theorem leaf_0 (c : Dev nD) (t : Fin cfg0.N) (k : Fin 256) (f : Fin 1024) (h : t.val * 256 + k.val < 2304) : iblk m c 0 t (ix2 k f)
    = A0 m c (ix2 ⟨t.val * 256 + k.val, h⟩ f) := by
  blk_point [iblk, V, idx_val t]

/-- Window 1's block is its array. -/
theorem leaf_1 (c : Dev nD) (t : Fin cfg0.N) (g : Fin 8) (k : Fin 1024) (f : Fin 776) : iblk m c 1 t (ix3 g k f) = A1 m c (ix3 g k f) := by
  blk_point [iblk, V, idx_val t]

theorem ix3_congr {a b d : ℕ} {i i' : Fin a} {j j' : Fin b} {k k' : Fin d} (h : i = i') (h' : j = j') (h'' : k = k') : ix3 i j k = ix3 i' j' k' := by
  subst h h' h''; rfl

/-- The tile stored at a point is the reference's block of the third part, and the fill beside it is zero. -/
theorem point_4 (c : Dev nD) (t : Fin cfg0.N) (y) :
    (outsAt0 m c t).2.2 y
      = val_main_v8 (F := Ideal) (A0 m c) (A1 m c) (((cfg0.win 4).blk t).view.emb y) := by
  have ht : t.val < 9 := lt_of_lt_of_eq t.isLt N_0
  idx_vars y
  have hy0 := y0.isLt
  rw [emb_4 t y0 y1 (by omega)]
  unfold outsAt0
  frame_out
  by_cases hy : y1.val < 64
  · rw [ref_inside _ _ _ _ hy]
    refine (congrArg _ (show (ix2 y0 y1 : S256x128.Idx) = (Rect.unit (s := S256x128) ![0, 0] S256x64.size inb_S256x128_S256x64_0_0).emb (ix2 y0 ⟨y1.val, hy⟩) from ?_)).trans
      ((View.canon_cons_emb _ _ _ _).trans ?_)
    · funext a
      match a with
      | ⟨0, _⟩ => exact Fin.ext (by show y0.val = 0 + 1 * y0.val; omega)
      | ⟨1, _⟩ => exact Fin.ext (by show y1.val = 0 + 1 * y1.val; omega)
    · pointwise [k0_pay12, val_main_v7, val_main_v4, val_main_v3, val_main_v2, val_main_v1, val_main_v0]
      refine Finset.sum_congr rfl fun k _ => ?_
      rw [leaf_0 m c t y0 k (by omega), leaf_1]
      exact congrArg₂ (· * ·) rfl (congrArg (A1 m c) (ix3_congr (Fin.ext (by dsimp only; omega)) rfl (Fin.ext (by dsimp only; omega))))
  · rw [ref_outside _ _ _ _ hy]
    refine (View.canon_cons_of_not_mem _ _ fun hm => ?_).trans ?_
    · have h2 := (Rect.mem_set_unit.mp (show (ix2 y0 y1 : S256x128.Idx) ∈ (Rect.unit (s := S256x128) ![0, 0] S256x64.size inb_S256x128_S256x64_0_0).set from hm) 1).2
      exact hy (by have h3 : y1.val < 0 + 64 := h2; omega)
    · rw [View.canon_unit_zero (by decide)]; pointwise! [k0_pay1]

/-- The array of the third part. -/
theorem final_4 (c : Dev nD) : (dats m 0 c).arrAt 4 (cfgs 0).N = val_main_v8 (F := Ideal) (A0 m c) (A1 m c) := by
  refine (dats m 0 c).arrAt_eq_of_covers 4 _ (by decide +kernel) fun t hf y => ?_
  blk_simp; rw [after0_4]
  exact point_4 m c t y

end Cert.Kernel25Ideal.Product

namespace Cert.Proof

open Idealize.ShloMosaic Idealize.SL.Sem

/-- The reference program leaves its arguments as they were and every counter at zero. -/
theorem frame_25 : Cert.quiescent_Reference25Ideal := fun m g _ =>
  (θ_run _ _ _).mono (fun r h => ⟨fun c => (h c).2.2.2, sem_eq_zero_of_no_sems (by decide) r.2⟩)
    (Cert.Reference25Ideal.Value.run m g)

/-- The column tiles are the three parts of the projection, the last padded by zeros. -/
theorem algebraic_25 : Cert.algebraic_Kernel25Ideal_Reference25Ideal := fun m g m' g' _ hag =>
  ⟨fun c => (Cert.Kernel25Ideal.Gen.dats m 0 c).arrAt 2 Cert.Kernel25Ideal.cfg0.N,
   fun c => (Cert.Kernel25Ideal.Gen.dats m 0 c).arrAt 3 Cert.Kernel25Ideal.cfg0.N,
   fun c => (Cert.Kernel25Ideal.Gen.dats m 0 c).arrAt 4 Cert.Kernel25Ideal.cfg0.N,
   (θ_run _ _ _).mono (fun r h c => h c) (Cert.Kernel25Ideal.Value.run_blocks m g),
   (θ_run _ _ _).mono (fun r h c => by
      obtain ⟨h0, h1, h2, hk⟩ := h c
      obtain ⟨a0, a1⟩ := hag c
      refine ⟨h0.trans ?_, h1.trans ?_, h2.trans ?_, hk⟩
      · refine (Cert.Reference25Ideal.Read.val_main_v5_eq _ _).trans ?_
        rw [a0, a1]; exact (Cert.Kernel25Ideal.Product.final_2 m c).symm
      · refine (Cert.Reference25Ideal.Read.val_main_v6_eq _ _).trans ?_
        rw [a0, a1]; exact (Cert.Kernel25Ideal.Product.final_3 m c).symm
      · refine (Cert.Reference25Ideal.Read.val_main_v8_eq _ _).trans ?_
        rw [a0, a1]; exact (Cert.Kernel25Ideal.Product.final_4 m c).symm)
     (Cert.Reference25Ideal.Value.run m' g')⟩

end Cert.Proof

end
-- ==== Proof.IxClaim.lean ====
module

public import proofs.«01_k».proof.Defs
public import proofs.«01_k».proof.Proof.Gen.Kernel26Ideal.Value
public import proofs.«01_k».proof.Proof.Gen.Reference26Ideal.Read
public import proofs.«01_k».proof.Proof.Gen.Reference26Ideal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.Kernel26Ideal.Product

open Idealize.ShloMosaic Idealize.ShloMosaic.TcCoe Idealize.SL.Sem
open Idealize.ShloMosaic.Pipeline (Dat)
open scoped BigOperators
open Cert.Kernel26Ideal Cert.Kernel26Ideal.Gen
open Cert.Reference26Ideal.Read

variable (m : (ℓ : Loc nD τ sig) → Buf (Elt Ideal) ℓ)

/-- The block index of every window at every grid point. -/
theorem idx_val : ∀ t : Fin cfg0.N, win0_0.index t = ![t.val, 0]
    ∧ win0_1.index t = ![t.val, 0]
    ∧ win0_2.index t = ![t.val, 0]
    ∧ win0_3.index t = ![0, 0, 0]
    ∧ win0_4.index t = ![t.val, 0] :=
  (by decide +kernel : ∀ t : Fin grid0.N, _)

abbrev A0 (c : Dev nD) : FVec Ideal S2304x2048 .bf16 := m ((c : Thread nD τ).loc main_arg0)
abbrev A1 (c : Dev nD) : FVec Ideal S2304x4096 .bf16 := m ((c : Thread nD τ).loc main_arg1)
abbrev A2 (c : Dev nD) : FVec Ideal S2304x128 .bf16 := m ((c : Thread nD τ).loc main_arg2)
abbrev A3 (c : Dev nD) : FVec Ideal S8x1024x776 .bf16 := m ((c : Thread nD τ).loc main_arg3)

theorem ix3_congr {a b c : ℕ} {i i' : Fin a} {j j' : Fin b} {k k' : Fin c} (h : i = i') (h' : j = j') (h'' : k = k') :
    ix3 i j k = ix3 i' j' k' := by subst h h' h''; rfl

theorem ix2_congr {a b : ℕ} {i i' : Fin a} {j j' : Fin b} (h : i = i') (h' : j = j') : ix2 i j = ix2 i' j' := by
  subst h h'; rfl

/-- The first gradient's block at a point, read from the array. -/
theorem leaf_0 (c : Dev nD) (t : Fin cfg0.N) (y0 : Fin 256) (y1 : Fin 1024) (u : Fin 2048) : iblk m c 0 t (ix2 y0 u)
    = A0 m c (ix2 (((cfg0.win 4).blk t).view.emb (ix2 y0 y1) 0) u) := by
  blk_point [iblk, V, idx_val t]

/-- The second gradient's block at a point, read from the array. -/
theorem leaf_1 (c : Dev nD) (t : Fin cfg0.N) (y0 : Fin 256) (y1 : Fin 1024) (u : Fin 4096) : iblk m c 1 t (ix2 y0 u)
    = A1 m c (ix2 (((cfg0.win 4).blk t).view.emb (ix2 y0 y1) 0) u) := by
  blk_point [iblk, V, idx_val t]

/-- The third gradient's block at a point, read from the array. -/
theorem leaf_2 (c : Dev nD) (t : Fin cfg0.N) (y0 : Fin 256) (y1 : Fin 1024) (u : Fin 128) : iblk m c 2 t (ix2 y0 u)
    = A2 m c (ix2 (((cfg0.win 4).blk t).view.emb (ix2 y0 y1) 0) u) := by
  blk_point [iblk, V, idx_val t]

/-- The weight is one block, the same at every point. -/
theorem leaf_3 (c : Dev nD) (t : Fin cfg0.N) (g : Fin 8) (d : Fin 1024) (k : Fin 776) : iblk m c 3 t (ix3 g d k)
    = A3 m c (ix3 g d k) := by
  blk_point [iblk, V, idx_val t]

/-- A sum over an axis is the sum over its first entries and the sum over the rest. -/
theorem sum_split {n : ℕ} (a b : ℕ) (h : n = a + b) (f : Fin n → EReal) :
    ∑ x, f x = ∑ x : Fin a, f ⟨x.val, by omega⟩ + ∑ x : Fin b, f ⟨a + x.val, by omega⟩ := by
  subst h; exact Fin.sum_univ_add f

/-- The second coordinate of a block's index in the array. -/
theorem emb_1 (t : Fin cfg0.N) (y0 : Fin 256) (y1 : Fin 1024) : ((cfg0.win 4).blk t).view.emb (ix2 y0 y1) 1 = y1 :=
  Fin.ext (by blk_simp [idx_val t])

/-- The three gradients side by side. -/
def side (a : Fin 2048 → EReal) (b : Fin 4096 → EReal) (d : Fin 128 → EReal) (x : Fin 6208) : EReal :=
  if h : x.val < 2048 then a ⟨x.val, h⟩ else if h : x.val - 2048 < 4096 then b ⟨x.val - 2048, h⟩ else d ⟨x.val - 2048 - 4096, by omega⟩

theorem side_first {a : Fin 2048 → EReal} {b : Fin 4096 → EReal} {d : Fin 128 → EReal} (x : Fin 6208) (k : Fin 2048) (e : k.val = x.val) :
    a k = side a b d x := by
  have hk := k.isLt
  unfold side; rw [dif_pos (by omega)]
  exact congrArg a (Fin.ext e)

theorem side_second {a : Fin 2048 → EReal} {b : Fin 4096 → EReal} {d : Fin 128 → EReal} (x : Fin 6208) (k : Fin 4096) (e : 2048 + k.val = x.val) :
    b k = side a b d x := by
  have hk := k.isLt
  unfold side
  rw [dif_neg (by omega), dif_pos (by omega)]
  exact congrArg b (Fin.ext (by dsimp only; omega))

theorem side_third {a : Fin 2048 → EReal} {b : Fin 4096 → EReal} {d : Fin 128 → EReal} (x : Fin 6208) (k : Fin 128) (e : 6144 + k.val = x.val) :
    d k = side a b d x := by
  have hk := k.isLt
  unfold side
  rw [dif_neg (by omega), dif_neg (by omega)]
  exact congrArg d (Fin.ext (by dsimp only; omega))

/-- The shards' entry in one row of 6208 columns. -/
theorem shard {w : Fin 8 → Fin 776 → EReal} (x : Fin 6208) (g : Fin 8) (k : Fin 776) (e : g.val * 776 + k.val = x.val) :
    w g k = w ⟨x.val / 776, by omega⟩ ⟨x.val % 776, Nat.mod_lt _ (by norm_num)⟩ := by
  have hk := k.isLt
  exact congrArg₂ w (Fin.ext (by dsimp only; omega)) (Fin.ext (by dsimp only; omega))

/-- The ten tiles' sums are the sum over the 6208 columns. -/
theorem row (a : Fin 2048 → EReal) (b : Fin 4096 → EReal) (d : Fin 128 → EReal) (w : Fin 8 → Fin 776 → EReal) :
    ∑ x : Fin 776, a ⟨x.val, by omega⟩ * w 0 x + ∑ x : Fin 776, a ⟨776 + x.val, by omega⟩ * w 1 x
      + ∑ x : Fin 496, a ⟨1552 + x.val, by omega⟩ * w 2 ⟨x.val, by omega⟩ + ∑ x : Fin 280, b ⟨x.val, by omega⟩ * w 2 ⟨496 + x.val, by omega⟩
      + ∑ x : Fin 776, b ⟨280 + x.val, by omega⟩ * w 3 x + ∑ x : Fin 776, b ⟨1056 + x.val, by omega⟩ * w 4 x
      + ∑ x : Fin 776, b ⟨1832 + x.val, by omega⟩ * w 5 x + ∑ x : Fin 776, b ⟨2608 + x.val, by omega⟩ * w 6 x
      + ∑ x : Fin 712, b ⟨3384 + x.val, by omega⟩ * w 7 ⟨x.val, by omega⟩ + ∑ x : Fin 64, d ⟨x.val, by omega⟩ * w 7 ⟨712 + x.val, by omega⟩
    = ∑ x : Fin 6208, side a b d x * w ⟨x.val / 776, by omega⟩ ⟨x.val % 776, Nat.mod_lt _ (by norm_num)⟩ := by
  rw [sum_split 6144 64 (n := 6208) rfl, sum_split 5432 712 (n := 6144) rfl, sum_split 4656 776 (n := 5432) rfl,
    sum_split 3880 776 (n := 4656) rfl, sum_split 3104 776 (n := 3880) rfl, sum_split 2328 776 (n := 3104) rfl,
    sum_split 2048 280 (n := 2328) rfl, sum_split 1552 496 (n := 2048) rfl, sum_split 776 776 (n := 1552) rfl]
  refine congrArg₂ (· + ·) (congrArg₂ (· + ·) (congrArg₂ (· + ·) (congrArg₂ (· + ·) (congrArg₂ (· + ·) (congrArg₂ (· + ·)
    (congrArg₂ (· + ·) (congrArg₂ (· + ·) (congrArg₂ (· + ·) ?_ ?_) ?_) ?_) ?_) ?_) ?_) ?_) ?_) ?_ <;>
    refine Finset.sum_congr rfl fun x _ => congrArg₂ (· * ·) ?_ (shard (w := w) _ _ _ ?_) <;> have hx := x.isLt
  all_goals first
    | exact side_first _ _ rfl
    | exact side_first _ _ (by dsimp only; omega)
    | exact side_second _ _ rfl
    | exact side_second _ _ (by dsimp only; omega)
    | exact side_third _ _ rfl
    | exact side_third _ _ (by dsimp only; omega)
    | rfl
    | (show _ = x.val; omega)
    | (dsimp only; omega)

/-- The block computed at a point is the block of the reference. -/
theorem point (c : Dev nD) (t : Fin cfg0.N) (y) :
    k0_pay1 (k0_pay2 (View.ld (iblk m c 0 t) r0_0) (View.ld (iblk m c 3 t) r0_1) (View.ld (iblk m c 0 t) r0_2) (View.ld (iblk m c 3 t) r0_3) (View.ld (iblk m c 0 t) r0_4) (View.ld (iblk m c 3 t) r0_5) (View.ld (iblk m c 1 t) r0_6) (View.ld (iblk m c 3 t) r0_7) (View.ld (iblk m c 1 t) r0_8) (View.ld (iblk m c 3 t) r0_9)) (View.ld (iblk m c 1 t) r0_10) (View.ld (iblk m c 3 t) r0_11) (View.ld (iblk m c 1 t) r0_12) (View.ld (iblk m c 3 t) r0_13) (View.ld (iblk m c 1 t) r0_14) (View.ld (iblk m c 3 t) r0_15) (View.ld (iblk m c 1 t) r0_16) (View.ld (iblk m c 3 t) r0_17) (View.ld (iblk m c 2 t) r0_18) (View.ld (iblk m c 3 t) r0_19) y
      = val_main_v6 (F := Ideal) (A0 m c) (A1 m c) (A2 m c) (A3 m c) (((cfg0.win 4).blk t).view.emb y) := by
  idx_vars y
  pointwise [k0_pay1, k0_pay2, val_main_v6, val_main_v5, val_main_v1, val_main_v0, val_main_v4, val_main_v3, val_main_v2]
  simp only [leaf_3, leaf_0 m c t y0 y1, leaf_1 m c t y0 y1, leaf_2 m c t y0 y1]
  refine (row (fun u => A0 m c (ix2 (((cfg0.win 4).blk t).view.emb (ix2 y0 y1) 0) u)) (fun u => A1 m c (ix2 (((cfg0.win 4).blk t).view.emb (ix2 y0 y1) 0) u))
    (fun u => A2 m c (ix2 (((cfg0.win 4).blk t).view.emb (ix2 y0 y1) 0) u)) (fun g k => A3 m c (ix3 g y1 k))).trans ?_
  refine Finset.sum_congr rfl fun x _ => congrArg₂ (· * ·) rfl (congrArg (A3 m c) (ix3_congr rfl (emb_1 t y0 y1).symm rfl))

/-- The array of the product. -/
theorem final (c : Dev nD) : (dats m 0 c).arrAt 4 (cfgs 0).N = val_main_v6 (F := Ideal) (A0 m c) (A1 m c) (A2 m c) (A3 m c) := by
  refine (dats m 0 c).arrAt_eq_of_covers 4 _ (by decide +kernel) fun t hf y => ?_
  blk_simp; rw [after0_4]; frame_out
  exact point m c t y

end Cert.Kernel26Ideal.Product

namespace Cert.Proof

open Idealize.ShloMosaic Idealize.SL.Sem

/-- The reference program leaves its arguments as they were and every counter at zero. -/
theorem frame_26 : Cert.quiescent_Reference26Ideal := fun m g _ =>
  (θ_run _ _ _).mono (fun r h => ⟨fun c => (h c).2, sem_eq_zero_of_no_sems (by decide) r.2⟩)
    (Cert.Reference26Ideal.Value.run m g)

/-- The sum of the column tiles is the gradient of the input. -/
theorem algebraic_26 : Cert.algebraic_Kernel26Ideal_Reference26Ideal := fun m g m' g' _ hag =>
  ⟨fun c => (Cert.Kernel26Ideal.Gen.dats m 0 c).arrAt 4 Cert.Kernel26Ideal.cfg0.N,
   (θ_run _ _ _).mono (fun r h c => h c) (Cert.Kernel26Ideal.Value.run_blocks m g),
   (θ_run _ _ _).mono (fun r h c => by
      obtain ⟨h0, hk⟩ := h c
      obtain ⟨a0, a1, a2, a3⟩ := hag c
      refine ⟨h0.trans ?_, hk⟩
      · refine (Cert.Reference26Ideal.Read.val_main_v6_eq _ _ _ _).trans ?_
        rw [a0, a1, a2, a3]; exact (Cert.Kernel26Ideal.Product.final m c).symm)
     (Cert.Reference26Ideal.Value.run m' g')⟩

end Cert.Proof

end
-- ==== Proof.IwClaim.lean ====
module

public import proofs.«01_k».proof.Defs
public import proofs.«01_k».proof.Proof.Gen.Kernel27Ideal.Value
public import proofs.«01_k».proof.Proof.Gen.Reference27Ideal.Read
public import proofs.«01_k».proof.Proof.Gen.Reference27Ideal.Run
public import Idealize.ShloMosaic.Lib.Pipeline.ValueKit
public import Idealize.ShloMosaic.Lib.Pipeline.ReadBack
public import Idealize.ShloMosaic.Lib.Pointwise
public import Idealize.ShloMosaic.Lib.Quiescent

@[expose] public section

set_option maxRecDepth 16384

noncomputable section

namespace Cert.Kernel27Ideal.Product

open Idealize.ShloMosaic Idealize.ShloMosaic.TcCoe Idealize.SL.Sem
open Idealize.ShloMosaic.Pipeline (Dat)
open scoped BigOperators
open Cert.Kernel27Ideal Cert.Kernel27Ideal.Gen
open Cert.Reference27Ideal.Read

variable (m : (ℓ : Loc nD τ sig) → Buf (Elt Ideal) ℓ)

/-- The block index of every window at every grid point. -/
theorem idx_val : ∀ t : Fin cfg0.N, win0_0.index t = ![t.val % 9, 0]
    ∧ win0_1.index t = ![t.val % 9, 0]
    ∧ win0_2.index t = ![t.val % 9, 0]
    ∧ win0_3.index t = ![t.val % 9, 0]
    ∧ win0_4.index t = ![t.val / 9, 0, 0] :=
  (by decide +kernel : ∀ t : Fin grid0.N, _)

abbrev A0 (c : Dev nD) : FVec Ideal S2304x1024 .bf16 := m ((c : Thread nD τ).loc main_arg0)
abbrev A1 (c : Dev nD) : FVec Ideal S2304x2048 .bf16 := m ((c : Thread nD τ).loc main_arg1)
abbrev A2 (c : Dev nD) : FVec Ideal S2304x4096 .bf16 := m ((c : Thread nD τ).loc main_arg2)
abbrev A3 (c : Dev nD) : FVec Ideal S2304x128 .bf16 := m ((c : Thread nD τ).loc main_arg3)

/-- A row of the three gradients' blocks side by side. -/
def side (y1 : Vec Ideal S256x2048 .bf16) (y2 : Vec Ideal S256x4096 .bf16) (y3 : Vec Ideal S256x128 .bf16) (r : Fin 256) (x : Fin 6208) : EReal :=
  if h : x.val < 2048 then y1 (ix2 r ⟨x.val, h⟩) else if h : x.val - 2048 < 4096 then y2 (ix2 r ⟨x.val - 2048, h⟩) else y3 (ix2 r ⟨x.val - 2048 - 4096, by omega⟩)

theorem side_1 {y1 : Vec Ideal S256x2048 .bf16} {y2 : Vec Ideal S256x4096 .bf16} {y3 : Vec Ideal S256x128 .bf16} {r : Fin 256} (x : Fin 6208) (k : Fin 2048) (e : k.val = x.val) : y1 (ix2 r k) = side y1 y2 y3 r x := by
  have hk := k.isLt
  unfold side
  rw [dif_pos (by omega)]
  exact congrArg (fun u => y1 (ix2 r u)) (Fin.ext (by dsimp only; omega))

theorem side_2 {y1 : Vec Ideal S256x2048 .bf16} {y2 : Vec Ideal S256x4096 .bf16} {y3 : Vec Ideal S256x128 .bf16} {r : Fin 256} (x : Fin 6208) (k : Fin 4096) (e : 2048 + k.val = x.val) : y2 (ix2 r k) = side y1 y2 y3 r x := by
  have hk := k.isLt
  unfold side
  rw [dif_neg (by omega), dif_pos (by omega)]
  exact congrArg (fun u => y2 (ix2 r u)) (Fin.ext (by dsimp only; omega))

theorem side_3 {y1 : Vec Ideal S256x2048 .bf16} {y2 : Vec Ideal S256x4096 .bf16} {y3 : Vec Ideal S256x128 .bf16} {r : Fin 256} (x : Fin 6208) (k : Fin 128) (e : 6144 + k.val = x.val) : y3 (ix2 r k) = side y1 y2 y3 r x := by
  have hk := k.isLt
  unfold side
  rw [dif_neg (by omega), dif_neg (by omega)]
  exact congrArg (fun u => y3 (ix2 r u)) (Fin.ext (by dsimp only; omega))

/-- What one grid point adds to the accumulators. -/
def term (c : Dev nD) (t : Fin cfg0.N) (j : S4x776x1024.Idx) : EReal :=
  ∑ r : Fin 256, side (iblk m c 1 t) (iblk m c 2 t) (iblk m c 3 t) r ⟨(t.val / 9 * 4 + (j 0).val) * 776 + (j 1).val, by have h0 : (j 0).val < 4 := (j 0).isLt; have h1 : (j 1).val < 776 := (j 1).isLt; have ht : t.val < 18 := lt_of_lt_of_eq t.isLt N_0; omega⟩ * iblk m c 0 t (ix2 r (j 2))

/-- An index lies in the rows `o` to `o + K` of the slab of its first coordinate. -/
theorem mem_slab {K : ℕ} (g o : ℕ) (inb : ∀ a, (![g, o, 0] : Fin 3 → ℕ) a + (⟨3, ![1, K, 1024]⟩ : Shape).size a ≤ S4x776x1024.size a) (j : S4x776x1024.Idx) (h : (j 0).val = g)
    (h1 : o ≤ (j 1).val) (h2 : (j 1).val < o + K) : j ∈ (Rect.unit (s := S4x776x1024) ![g, o, 0] (⟨3, ![1, K, 1024]⟩ : Shape).size inb).set := by
  refine Rect.mem_set_unit.mpr ?_
  intro a
  match a with
  | ⟨0, _⟩ => exact ⟨le_of_eq h.symm, by show (j 0).val < g + 1; omega⟩
  | ⟨1, _⟩ => exact ⟨h1, h2⟩
  | ⟨2, _⟩ => exact ⟨Nat.zero_le _, by have h2 : (j 2).val < 1024 := (j 2).isLt; show (j 2).val < 0 + 1024; omega⟩

/-- Rows of a slab hold a function of the buffer's index when they do so entry by entry. -/
theorem piece {K : ℕ} (g : Fin 4) (o : ℕ) (ho : o + K ≤ 776) (inb : ∀ a, (![g.val, o, 0] : Fin 3 → ℕ) a + (⟨3, ![1, K, 1024]⟩ : Shape).size a ≤ S4x776x1024.size a)
    (w : (⟨3, ![1, K, 1024]⟩ : Shape).Idx → EReal) (G : S4x776x1024.Idx → EReal) (h : ∀ (a : Fin K) (b : Fin 1024), w (ix3 0 a b) = G (ix3 g ⟨o + a.val, by omega⟩ b))
    (x : (⟨3, ![1, K, 1024]⟩ : Shape).Idx) : w x = G ((Rect.unit (s := S4x776x1024) ![g.val, o, 0] (⟨3, ![1, K, 1024]⟩ : Shape).size inb).emb x) := by
  obtain ⟨z, a, b, rfl⟩ : ∃ (z : Fin 1) (a : Fin K) (b : Fin 1024), x = ix3 z a b := ⟨x 0, x 1, x 2, eq_ix3 x⟩
  obtain rfl : z = 0 := Subsingleton.elim _ _
  refine (h a b).trans (congrArg G ?_)
  funext i
  match i with
  | ⟨0, _⟩ => exact Fin.ext (by show g.val = g.val + 1 * 0; omega)
  | ⟨1, _⟩ => exact Fin.ext (by show o + a.val = o + 1 * a.val; omega)
  | ⟨2, _⟩ => exact Fin.ext (by show b.val = 0 + 1 * b.val; omega)

/-- The four slabs of the first group, stored over earlier writes, leave what they store. -/
theorem slabs_first (G : S4x776x1024.Idx → EReal) (L' : List (View.Piece (Elt Ideal) S4x776x1024 .f32))
    (i0 : ∀ a, (![3, 0, 0] : Fin 3 → ℕ) a + S1x776x1024.size a ≤ S4x776x1024.size a) (w0 : Vec Ideal S1x776x1024 .f32) (h0 : ∀ (a : Fin 776) (b : Fin 1024), w0 (ix3 0 a b) = G (ix3 3 ⟨0 + a.val, by omega⟩ b))
    (i1 : ∀ a, (![2, 496, 0] : Fin 3 → ℕ) a + S1x280x1024.size a ≤ S4x776x1024.size a) (w1 : Vec Ideal S1x280x1024 .f32) (h1 : ∀ (a : Fin 280) (b : Fin 1024), w1 (ix3 0 a b) = G (ix3 2 ⟨496 + a.val, by omega⟩ b))
    (i2 : ∀ a, (![2, 0, 0] : Fin 3 → ℕ) a + S1x496x1024.size a ≤ S4x776x1024.size a) (w2 : Vec Ideal S1x496x1024 .f32) (h2 : ∀ (a : Fin 496) (b : Fin 1024), w2 (ix3 0 a b) = G (ix3 2 ⟨0 + a.val, by omega⟩ b))
    (i3 : ∀ a, (![1, 0, 0] : Fin 3 → ℕ) a + S1x776x1024.size a ≤ S4x776x1024.size a) (w3 : Vec Ideal S1x776x1024 .f32) (h3 : ∀ (a : Fin 776) (b : Fin 1024), w3 (ix3 0 a b) = G (ix3 1 ⟨0 + a.val, by omega⟩ b))
    (i4 : ∀ a, (![0, 0, 0] : Fin 3 → ℕ) a + S1x776x1024.size a ≤ S4x776x1024.size a) (w4 : Vec Ideal S1x776x1024 .f32) (h4 : ∀ (a : Fin 776) (b : Fin 1024), w4 (ix3 0 a b) = G (ix3 0 ⟨0 + a.val, by omega⟩ b))
    (j : S4x776x1024.Idx) : View.canon (Val := Elt Ideal) ([⟨Rect.unit (s := S4x776x1024) ![3, 0, 0] S1x776x1024.size i0, w0⟩, ⟨Rect.unit (s := S4x776x1024) ![2, 496, 0] S1x280x1024.size i1, w1⟩, ⟨Rect.unit (s := S4x776x1024) ![2, 0, 0] S1x496x1024.size i2, w2⟩, ⟨Rect.unit (s := S4x776x1024) ![1, 0, 0] S1x776x1024.size i3, w3⟩, ⟨Rect.unit (s := S4x776x1024) ![0, 0, 0] S1x776x1024.size i4, w4⟩] ++ L') j = G j := by
  refine View.canon_append_of_piecesOf G L' _ ?_ j ?_
  · simp only [View.PiecesOf, and_true]
    exact ⟨piece 3 0 (by norm_num) i0 w0 G h0, piece 2 496 (by norm_num) i1 w1 G h1, piece 2 0 (by norm_num) i2 w2 G h2, piece 1 0 (by norm_num) i3 w3 G h3, piece 0 0 (by norm_num) i4 w4 G h4⟩
  · have hj : (j 0).val < 4 := (j 0).isLt
    have hj1 : (j 1).val < 776 := (j 1).isLt
    by_cases e0 : (j 0).val = 3
    · exact ⟨_, List.mem_cons_self, mem_slab 3 0 i0 j (by omega) (by omega) (by omega)⟩
    by_cases e1 : (j 0).val = 2 ∧ 496 ≤ (j 1).val
    · exact ⟨_, (List.mem_cons_of_mem _ List.mem_cons_self), mem_slab 2 496 i1 j (by omega) (by omega) (by omega)⟩
    by_cases e2 : (j 0).val = 2 ∧ 0 ≤ (j 1).val
    · exact ⟨_, (List.mem_cons_of_mem _ (List.mem_cons_of_mem _ List.mem_cons_self)), mem_slab 2 0 i2 j (by omega) (by omega) (by omega)⟩
    by_cases e3 : (j 0).val = 1
    · exact ⟨_, (List.mem_cons_of_mem _ (List.mem_cons_of_mem _ (List.mem_cons_of_mem _ List.mem_cons_self))), mem_slab 1 0 i3 j (by omega) (by omega) (by omega)⟩
    · exact ⟨_, (List.mem_cons_of_mem _ (List.mem_cons_of_mem _ (List.mem_cons_of_mem _ (List.mem_cons_of_mem _ List.mem_cons_self)))), mem_slab 0 0 i4 j (by omega) (by omega) (by omega)⟩

/-- The four slabs of the second group, stored over earlier writes, leave what they store. -/
theorem slabs_second (G : S4x776x1024.Idx → EReal) (L' : List (View.Piece (Elt Ideal) S4x776x1024 .f32))
    (i0 : ∀ a, (![3, 712, 0] : Fin 3 → ℕ) a + S1x64x1024.size a ≤ S4x776x1024.size a) (w0 : Vec Ideal S1x64x1024 .f32) (h0 : ∀ (a : Fin 64) (b : Fin 1024), w0 (ix3 0 a b) = G (ix3 3 ⟨712 + a.val, by omega⟩ b))
    (i1 : ∀ a, (![3, 0, 0] : Fin 3 → ℕ) a + S1x712x1024.size a ≤ S4x776x1024.size a) (w1 : Vec Ideal S1x712x1024 .f32) (h1 : ∀ (a : Fin 712) (b : Fin 1024), w1 (ix3 0 a b) = G (ix3 3 ⟨0 + a.val, by omega⟩ b))
    (i2 : ∀ a, (![2, 0, 0] : Fin 3 → ℕ) a + S1x776x1024.size a ≤ S4x776x1024.size a) (w2 : Vec Ideal S1x776x1024 .f32) (h2 : ∀ (a : Fin 776) (b : Fin 1024), w2 (ix3 0 a b) = G (ix3 2 ⟨0 + a.val, by omega⟩ b))
    (i3 : ∀ a, (![1, 0, 0] : Fin 3 → ℕ) a + S1x776x1024.size a ≤ S4x776x1024.size a) (w3 : Vec Ideal S1x776x1024 .f32) (h3 : ∀ (a : Fin 776) (b : Fin 1024), w3 (ix3 0 a b) = G (ix3 1 ⟨0 + a.val, by omega⟩ b))
    (i4 : ∀ a, (![0, 0, 0] : Fin 3 → ℕ) a + S1x776x1024.size a ≤ S4x776x1024.size a) (w4 : Vec Ideal S1x776x1024 .f32) (h4 : ∀ (a : Fin 776) (b : Fin 1024), w4 (ix3 0 a b) = G (ix3 0 ⟨0 + a.val, by omega⟩ b))
    (j : S4x776x1024.Idx) : View.canon (Val := Elt Ideal) ([⟨Rect.unit (s := S4x776x1024) ![3, 712, 0] S1x64x1024.size i0, w0⟩, ⟨Rect.unit (s := S4x776x1024) ![3, 0, 0] S1x712x1024.size i1, w1⟩, ⟨Rect.unit (s := S4x776x1024) ![2, 0, 0] S1x776x1024.size i2, w2⟩, ⟨Rect.unit (s := S4x776x1024) ![1, 0, 0] S1x776x1024.size i3, w3⟩, ⟨Rect.unit (s := S4x776x1024) ![0, 0, 0] S1x776x1024.size i4, w4⟩] ++ L') j = G j := by
  refine View.canon_append_of_piecesOf G L' _ ?_ j ?_
  · simp only [View.PiecesOf, and_true]
    exact ⟨piece 3 712 (by norm_num) i0 w0 G h0, piece 3 0 (by norm_num) i1 w1 G h1, piece 2 0 (by norm_num) i2 w2 G h2, piece 1 0 (by norm_num) i3 w3 G h3, piece 0 0 (by norm_num) i4 w4 G h4⟩
  · have hj : (j 0).val < 4 := (j 0).isLt
    have hj1 : (j 1).val < 776 := (j 1).isLt
    by_cases e0 : (j 0).val = 3 ∧ 712 ≤ (j 1).val
    · exact ⟨_, List.mem_cons_self, mem_slab 3 712 i0 j (by omega) (by omega) (by omega)⟩
    by_cases e1 : (j 0).val = 3 ∧ 0 ≤ (j 1).val
    · exact ⟨_, (List.mem_cons_of_mem _ List.mem_cons_self), mem_slab 3 0 i1 j (by omega) (by omega) (by omega)⟩
    by_cases e2 : (j 0).val = 2
    · exact ⟨_, (List.mem_cons_of_mem _ (List.mem_cons_of_mem _ List.mem_cons_self)), mem_slab 2 0 i2 j (by omega) (by omega) (by omega)⟩
    by_cases e3 : (j 0).val = 1
    · exact ⟨_, (List.mem_cons_of_mem _ (List.mem_cons_of_mem _ (List.mem_cons_of_mem _ List.mem_cons_self))), mem_slab 1 0 i3 j (by omega) (by omega) (by omega)⟩
    · exact ⟨_, (List.mem_cons_of_mem _ (List.mem_cons_of_mem _ (List.mem_cons_of_mem _ (List.mem_cons_of_mem _ List.mem_cons_self)))), mem_slab 0 0 i4 j (by omega) (by omega) (by omega)⟩

/-- A group starts again: its first point leaves the fill and what the point adds. -/
theorem step_start (c : Dev nD) (t : Fin cfg0.N) (h0 : t.val % 9 = 0) (j : S4x776x1024.Idx) :
    (outsAt0 m c t.val t.isLt).2 j = (k0_pay1 (F := Ideal)) j + term m c t j := by
  have ht : t.val < 18 := lt_of_lt_of_eq t.isLt N_0
  by_cases h1 : t.val < 9
  · rw [outsAt0_A m c t h0 h1 (by omega) (by omega)]; frame_out
    simp (disch := decide) only [↓View.readCov_skip, ↓View.readCov_cons_toLoadRect, ↓View.readCov_fill, read_unread_whole]
    refine slabs_first (fun j => (k0_pay1 (F := Ideal)) j + term m c t j) [_] _ _ ?_ _ _ ?_ _ _ ?_ _ _ ?_ _ _ ?_ j <;> intro a b
    all_goals
      pointwise [k0_pay2, k0_pay3, k0_pay7, k0_pay8, k0_pay9, term]
      refine congrArg₂ (· + ·) rfl (Finset.sum_congr rfl fun r _ => congrArg₂ (· * ·) ?_ rfl)
      have ha := a.isLt
      have hb := b.isLt
      first
      | exact side_1 _ _ (by dsimp only; omega)
      | exact side_1 _ _ rfl
      | exact side_2 _ _ (by dsimp only; omega)
      | exact side_2 _ _ rfl
      | exact side_3 _ _ (by dsimp only; omega)
      | exact side_3 _ _ rfl
  · rw [outsAt0_D m c t h0 h1 (by omega) (by omega)]; frame_out
    simp (disch := decide) only [↓View.readCov_skip, ↓View.readCov_cons_toLoadRect, ↓View.readCov_fill, read_unread_whole]
    refine slabs_second (fun j => (k0_pay1 (F := Ideal)) j + term m c t j) [_] _ _ ?_ _ _ ?_ _ _ ?_ _ _ ?_ _ _ ?_ j <;> intro a b
    all_goals
      pointwise [k0_pay4, k0_pay5, k0_pay10, k0_pay11, k0_pay12, term]
      refine congrArg₂ (· + ·) rfl (Finset.sum_congr rfl fun r _ => congrArg₂ (· * ·) ?_ rfl)
      have ha := a.isLt
      have hb := b.isLt
      first
      | exact side_1 _ _ (by dsimp only; omega)
      | exact side_1 _ _ rfl
      | exact side_2 _ _ (by dsimp only; omega)
      | exact side_2 _ _ rfl
      | exact side_3 _ _ (by dsimp only; omega)
      | exact side_3 _ _ rfl

/-- Every other point adds to what the point before left. -/
theorem step_next (c : Dev nD) (t : Fin cfg0.N) (h0 : ¬t.val % 9 = 0) (j : S4x776x1024.Idx) :
    (outsAt0 m c t.val t.isLt).2 j = (outsAt0 m c (t.val - 1) (Nat.lt_of_le_of_lt (Nat.sub_le _ _) t.isLt)).2 j + term m c t j := by
  have ht : t.val < 18 := lt_of_lt_of_eq t.isLt N_0
  by_cases h1 : t.val < 9 <;> by_cases h3 : t.val % 9 = 8
  · rw [outsAt0_C m c t h0 h1 (by omega) h3]; frame_out
    simp (disch := decide) only [↓View.readCov_skip, ↓View.readCov_cons_toLoadRect, ↓View.readCov_fill, read_unread_whole]
    refine slabs_first (fun j => (outsAt0 m c (t.val - 1) (Nat.lt_of_le_of_lt (Nat.sub_le _ _) t.isLt)).2 j + term m c t j) [] _ _ ?_ _ _ ?_ _ _ ?_ _ _ ?_ _ _ ?_ j <;> intro a b
    all_goals
      pointwise [k0_pay2, k0_pay3, k0_pay7, k0_pay8, k0_pay9, term]
      refine congrArg₂ (· + ·) rfl (Finset.sum_congr rfl fun r _ => congrArg₂ (· * ·) ?_ rfl)
      have ha := a.isLt
      have hb := b.isLt
      first
      | exact side_1 _ _ (by dsimp only; omega)
      | exact side_1 _ _ rfl
      | exact side_2 _ _ (by dsimp only; omega)
      | exact side_2 _ _ rfl
      | exact side_3 _ _ (by dsimp only; omega)
      | exact side_3 _ _ rfl
  · rw [outsAt0_B m c t h0 h1 (by omega) h3]; frame_out
    simp (disch := decide) only [↓View.readCov_skip, ↓View.readCov_cons_toLoadRect, ↓View.readCov_fill, read_unread_whole]
    refine slabs_first (fun j => (outsAt0 m c (t.val - 1) (Nat.lt_of_le_of_lt (Nat.sub_le _ _) t.isLt)).2 j + term m c t j) [] _ _ ?_ _ _ ?_ _ _ ?_ _ _ ?_ _ _ ?_ j <;> intro a b
    all_goals
      pointwise [k0_pay2, k0_pay3, k0_pay7, k0_pay8, k0_pay9, term]
      refine congrArg₂ (· + ·) rfl (Finset.sum_congr rfl fun r _ => congrArg₂ (· * ·) ?_ rfl)
      have ha := a.isLt
      have hb := b.isLt
      first
      | exact side_1 _ _ (by dsimp only; omega)
      | exact side_1 _ _ rfl
      | exact side_2 _ _ (by dsimp only; omega)
      | exact side_2 _ _ rfl
      | exact side_3 _ _ (by dsimp only; omega)
      | exact side_3 _ _ rfl
  · rw [outsAt0_F m c t h0 h1 (by omega) h3]; frame_out
    simp (disch := decide) only [↓View.readCov_skip, ↓View.readCov_cons_toLoadRect, ↓View.readCov_fill, read_unread_whole]
    refine slabs_second (fun j => (outsAt0 m c (t.val - 1) (Nat.lt_of_le_of_lt (Nat.sub_le _ _) t.isLt)).2 j + term m c t j) [] _ _ ?_ _ _ ?_ _ _ ?_ _ _ ?_ _ _ ?_ j <;> intro a b
    all_goals
      pointwise [k0_pay4, k0_pay5, k0_pay10, k0_pay11, k0_pay12, term]
      refine congrArg₂ (· + ·) rfl (Finset.sum_congr rfl fun r _ => congrArg₂ (· * ·) ?_ rfl)
      have ha := a.isLt
      have hb := b.isLt
      first
      | exact side_1 _ _ (by dsimp only; omega)
      | exact side_1 _ _ rfl
      | exact side_2 _ _ (by dsimp only; omega)
      | exact side_2 _ _ rfl
      | exact side_3 _ _ (by dsimp only; omega)
      | exact side_3 _ _ rfl
  · rw [outsAt0_E m c t h0 h1 (by omega) h3]; frame_out
    simp (disch := decide) only [↓View.readCov_skip, ↓View.readCov_cons_toLoadRect, ↓View.readCov_fill, read_unread_whole]
    refine slabs_second (fun j => (outsAt0 m c (t.val - 1) (Nat.lt_of_le_of_lt (Nat.sub_le _ _) t.isLt)).2 j + term m c t j) [] _ _ ?_ _ _ ?_ _ _ ?_ _ _ ?_ _ _ ?_ j <;> intro a b
    all_goals
      pointwise [k0_pay4, k0_pay5, k0_pay10, k0_pay11, k0_pay12, term]
      refine congrArg₂ (· + ·) rfl (Finset.sum_congr rfl fun r _ => congrArg₂ (· * ·) ?_ rfl)
      have ha := a.isLt
      have hb := b.isLt
      first
      | exact side_1 _ _ (by dsimp only; omega)
      | exact side_1 _ _ rfl
      | exact side_2 _ _ (by dsimp only; omega)
      | exact side_2 _ _ rfl
      | exact side_3 _ _ (by dsimp only; omega)
      | exact side_3 _ _ rfl

/-- The accumulators start at zero. -/
theorem zero_at (j : S4x776x1024.Idx) : k0_pay1 (F := Ideal) j = 0 := by
  idx_vars j
  pointwise! [k0_pay1]

/-- The stored block at a group's last point is the sum over the group's points. -/
theorem stored_at (c : Dev nD) (t : Fin cfg0.N) (hr : t.val % 9 = 8) (j : S4x776x1024.Idx) :
    (outsAt0 m c t.val t.isLt).1 j
      = ∑ s : Fin 9, term m c ⟨9 * (t.val / 9) + s.val, Pipeline.run_point_lt_of_flush t hr s⟩ j := by
  have hN : ∀ u : Fin cfg0.N, u.val < 18 := fun u => lt_of_lt_of_eq u.isLt N_0
  have hl : (outsAt0 m c t.val t.isLt).1 j = (outsAt0 m c t.val t.isLt).2 j := by
    by_cases h1 : t.val < 9
    · rw [outsAt0_C m c t (by omega) h1 (by omega) hr]; frame_out; pointwise [k0_pay6]; rw [View.readCov_eq_canon']; idx_vars j; pointwise
    · rw [outsAt0_F m c t (by omega) h1 (by omega) hr]; frame_out; pointwise [k0_pay6]; rw [View.readCov_eq_canon']; idx_vars j; pointwise
  rw [hl, Pipeline.eq_sum_fin_of_reset_step_apply_of_flush (fun n h => (outsAt0 m c n h).2) 9 (k0_pay1 (F := Ideal)) (term m c)
    (fun u h j => step_start m c u h j) (fun u h j => step_next m c u h j) t hr j]
  rw [zero_at, zero_add]

theorem ix2_congr {a b : ℕ} {i i' : Fin a} {j j' : Fin b} (h : i = i') (h' : j = j') : ix2 i j = ix2 i' j' := by
  subst h h'; rfl

/-- Window 0's block at a point is 256 rows of its array. -/
theorem leaf_0 (c : Dev nD) (u : Fin cfg0.N) (k : Fin 256) (f : Fin 1024) : iblk m c 0 u (ix2 k f)
    = A0 m c (ix2 ⟨u.val % 9 * 256 + k.val, by omega⟩ f) := by
  blk_point [iblk, V, idx_val u]

/-- Window 1's block at a point is 256 rows of its array. -/
theorem leaf_1 (c : Dev nD) (u : Fin cfg0.N) (k : Fin 256) (f : Fin 2048) : iblk m c 1 u (ix2 k f)
    = A1 m c (ix2 ⟨u.val % 9 * 256 + k.val, by omega⟩ f) := by
  blk_point [iblk, V, idx_val u]

/-- Window 2's block at a point is 256 rows of its array. -/
theorem leaf_2 (c : Dev nD) (u : Fin cfg0.N) (k : Fin 256) (f : Fin 4096) : iblk m c 2 u (ix2 k f)
    = A2 m c (ix2 ⟨u.val % 9 * 256 + k.val, by omega⟩ f) := by
  blk_point [iblk, V, idx_val u]

/-- Window 3's block at a point is 256 rows of its array. -/
theorem leaf_3 (c : Dev nD) (u : Fin cfg0.N) (k : Fin 256) (f : Fin 128) : iblk m c 3 u (ix2 k f)
    = A3 m c (ix2 ⟨u.val % 9 * 256 + k.val, by omega⟩ f) := by
  blk_point [iblk, V, idx_val u]

/-- A row of the blocks side by side is a row of the arrays side by side. -/
theorem side_at (c : Dev nD) (u : Fin cfg0.N) (k : Fin 256) (x : Fin 6208) (q : Fin 2304) (e : u.val % 9 * 256 + k.val = q.val) :
    side (iblk m c 1 u) (iblk m c 2 u) (iblk m c 3 u) k x = if h : x.val < 2048 then A1 m c (ix2 q ⟨x.val, h⟩) else if h : x.val - 2048 < 4096 then A2 m c (ix2 q ⟨x.val - 2048, h⟩) else A3 m c (ix2 q ⟨x.val - 2048 - 4096, by omega⟩) := by
  have hq : ∀ h, (⟨u.val % 9 * 256 + k.val, h⟩ : Fin 2304) = q := fun h => Fin.ext e
  simp only [side, leaf_1, leaf_2, leaf_3, hq]

/-- The sum over a group's points is the reference's entry. -/
theorem entry (c : Dev nD) (g : ℕ) (hg : g < 2) (y0 : Fin 4) (y1 : Fin 776) (y2 : Fin 1024) :
    ∑ s : Fin 9, term m c ⟨9 * g + s.val, lt_of_lt_of_eq (by omega) N_0.symm⟩ (ix3 y0 y1 y2)
      = val_main_v6 (F := Ideal) (A0 m c) (A1 m c) (A2 m c) (A3 m c) (ix3 ⟨g * 4 + y0.val, by omega⟩ y1 y2) := by
  pointwise [val_main_v6, val_main_v5, val_main_v4, val_main_v3, val_main_v2, val_main_v1, val_main_v0, term]
  refine Fin.sum_mul_add_congr fun s k hl => ?_
  have hs := s.isLt
  have hk := k.isLt
  have hy0 := y0.isLt
  have hy1 := y1.isLt
  refine congrArg₂ (· * ·) ?_ ?_
  · refine (side_at m c _ k _ ⟨s.val * 256 + k.val, by omega⟩ (by show (9 * g + s.val) % 9 * 256 + k.val = s.val * 256 + k.val; omega)).trans ?_
    simp only [show (9 * g + s.val) / 9 = g by omega]
  · rw [leaf_0]
    exact congrArg (A0 m c) (ix2_congr (Fin.ext (by show (9 * g + s.val) % 9 * 256 + k.val = s.val * 256 + k.val; omega)) rfl)

/-- The place of a block's index in the array. -/
theorem emb_at (t : Fin cfg0.N) (y0 : Fin 4) (y1 : Fin 776) (y2 : Fin 1024) (h : t.val / 9 * 4 + y0.val < 8) :
    ((cfg0.win 4).blk t).view.emb (ix3 y0 y1 y2) = (ix3 ⟨t.val / 9 * 4 + y0.val, h⟩ y1 y2 : S8x776x1024.Idx) := by
  have ht := (idx_val t).2.2.2.2
  funext a
  match a with
  | ⟨0, _⟩ => exact Fin.ext (by show win0_4.index t (0 : Fin 3) * 4 + 1 * y0.val = t.val / 9 * 4 + y0.val; rw [ht, Nat.one_mul]; rfl)
  | ⟨1, _⟩ => exact Fin.ext (by show win0_4.index t (1 : Fin 3) * 776 + 1 * y1.val = y1.val; rw [ht]; show 0 * 776 + 1 * y1.val = _; omega)
  | ⟨2, _⟩ => exact Fin.ext (by show win0_4.index t (2 : Fin 3) * 1024 + 1 * y2.val = y2.val; rw [ht]; show 0 * 1024 + 1 * y2.val = _; omega)

/-- The array of the grouped products. -/
theorem final (c : Dev nD) : (dats m 0 c).arrAt 4 (cfgs 0).N = val_main_v6 (F := Ideal) (A0 m c) (A1 m c) (A2 m c) (A3 m c) := by
  refine (dats m 0 c).arrAt_eq_of_covers 4 _ (by decide +kernel) fun t hf y => ?_
  have hr : t.val % 9 = 8 := (flush0_4 t).mp hf
  have hN : t.val < 18 := lt_of_lt_of_eq t.isLt N_0
  blk_simp; rw [after0_4]
  refine (stored_at m c t hr _).trans ?_
  idx_vars y
  have hy0 := y0.isLt
  exact (entry m c (t.val / 9) (by omega) y0 y1 y2).trans
    (congrArg (val_main_v6 (F := Ideal) (A0 m c) (A1 m c) (A2 m c) (A3 m c)) (emb_at t y0 y1 y2 (by omega)).symm)

end Cert.Kernel27Ideal.Product

namespace Cert.Proof

open Idealize.ShloMosaic Idealize.SL.Sem

/-- The reference program leaves its arguments as they were and every counter at zero. -/
theorem frame_27 : Cert.quiescent_Reference27Ideal := fun m g _ =>
  (θ_run _ _ _).mono (fun r h => ⟨fun c => (h c).2, sem_eq_zero_of_no_sems (by decide) r.2⟩)
    (Cert.Reference27Ideal.Value.run m g)

/-- The grouped products over the tokens are the gradient of the weight. -/
theorem algebraic_27 : Cert.algebraic_Kernel27Ideal_Reference27Ideal := fun m g m' g' _ hag =>
  ⟨fun c => (Cert.Kernel27Ideal.Gen.dats m 0 c).arrAt 4 Cert.Kernel27Ideal.cfg0.N,
   (θ_run _ _ _).mono (fun r h c => h c) (Cert.Kernel27Ideal.Value.run_blocks m g),
   (θ_run _ _ _).mono (fun r h c => by
      obtain ⟨h0, hk⟩ := h c
      obtain ⟨a0, a1, a2, a3⟩ := hag c
      refine ⟨h0.trans ?_, hk⟩
      · refine (Cert.Reference27Ideal.Read.val_main_v6_eq _ _ _ _).trans ?_
        rw [a0, a1, a2, a3]; exact (Cert.Kernel27Ideal.Product.final m c).symm)
     (Cert.Reference27Ideal.Value.run m' g')⟩

end Cert.Proof

end
-- ==== Proof.DcBlock.lean ====
/- What one grid point of the scan's backward kernel stores in the columns of the gradient by `C`: for each of the
   eight groups of heads the same function of that group's loads, although the eight groups are written out one after
   another. -/
module

public import proofs.«01_k».proof.Proof.Gen.Kernel14Ideal.Frame
public import Idealize.ShloMosaic.Lib.Pipeline.ValueKit
public import Idealize.ShloMosaic.Lib.Pipeline.ReadBack
public import Idealize.ShloMosaic.Lib.Pointwise

@[expose] public section
set_option maxRecDepth 16384

noncomputable section
namespace Cert.Kernel14Ideal.Product
open Idealize.ShloMosaic Idealize.ShloMosaic.TcCoe Idealize.SL.Sem
open Idealize.ShloMosaic.Pipeline (Dat)
open scoped BigOperators
open Cert.Kernel14Ideal Cert.Kernel14Ideal.Gen

/-! ## The stages of one group, as functions of its loads -/

/-- Step sizes of a group, a row per position. -/
def dtCol (dtc : Vec Ideal S1x1x128x4 .f32) (bc : Vec Ideal S1x1x1x4 .f32) : FVec Ideal S128x4 .f32 :=
  k0_pay27 (k0_pay18 (k0_pay8 dtc) (k0_pay10 bc)) (k0_pay19 (k0_pay8 dtc) (k0_pay10 bc))

/-- Running sums of step size times decay rate, a row per position. -/
def cumCol (q : BitVec 1) (dtc : Vec Ideal S1x1x128x4 .f32) (bc ac : Vec Ideal S1x1x1x4 .f32) : FVec Ideal S128x4 .f32 :=
  k0_pay40 (k0_pay16 q) (k0_pay36 (k0_pay12 ac) (k0_pay18 (k0_pay8 dtc) (k0_pay10 bc)) (k0_pay19 (k0_pay8 dtc) (k0_pay10 bc)))

/-- The same running sums, a column per position. -/
def cumRow (q : BitVec 1) (dtr : Vec Ideal S1x1x4x128 .f32) (br ar : Vec Ideal S1x1x4x1 .f32) : FVec Ideal S4x128 .f32 :=
  k0_pay41 (k0_pay16 q) (k0_pay33 (k0_pay9 dtr) (k0_pay11 br)) (k0_pay37 (k0_pay13 ar)) k0_pay38

/-- The part that comes through the state entering the chunk. -/
def offDiag (cc : FVec Ideal S128x4 .f32) (s : Vec Ideal S1x1x1x256x128 .f32) (dy : Vec Ideal S128x256 .f32) :
    FVec Ideal S128x128 .f32 :=
  k0_pay95 (k0_pay14 s) (k0_pay94 (k0_pay76 (k0_pay54 k0_pay17 cc)) dy)

/-- Step sizes spread over the columns of their heads. -/
def dtWide (dt : FVec Ideal S128x4 .f32) : FVec Ideal S128x256 .f32 :=
  k0_pay49 k0_pay17 dt (k0_pay44 k0_pay17 dt) (k0_pay45 k0_pay17) (k0_pay46 dt)

/-- Values times step sizes, once per head with the other heads' columns zero. -/
def stacked (x : Vec Ideal S128x256 .f32) (dw : FVec Ideal S128x256 .f32) : FVec Ideal S512x256 .f32 :=
  k0_pay74 k0_pay17 (k0_pay61 x dw) (k0_pay66 x k0_pay17 dw)

/-- Gradient by the inner products of `C` and `B`, summed over the heads of the group. -/
def scores (q : BitVec 1) (cc : FVec Ideal S128x4 .f32) (cr : FVec Ideal S4x128 .f32) (st : FVec Ideal S512x256 .f32)
    (dy : Vec Ideal S128x256 .f32) : FVec Ideal S128x128 .f32 :=
  k0_pay116 (k0_pay63 (k0_pay15 q) cc cr) (k0_pay67 (k0_pay15 q) cc cr) (k0_pay101 st (k0_pay90 dy))
    (k0_pay102 st (k0_pay90 dy)) (k0_pay109 (k0_pay69 (k0_pay15 q) cc cr) (k0_pay71 (k0_pay15 q) cc cr) st (k0_pay90 dy))

/-- The gradient by `C` of one group. -/
def grp (q : BitVec 1) (x : Vec Ideal S128x256 .f32) (B : Vec Ideal S128x128 .f32) (dtc : Vec Ideal S1x1x128x4 .f32)
    (dtr : Vec Ideal S1x1x4x128 .f32) (bc : Vec Ideal S1x1x1x4 .f32) (br : Vec Ideal S1x1x4x1 .f32)
    (ac : Vec Ideal S1x1x1x4 .f32) (ar : Vec Ideal S1x1x4x1 .f32) (s : Vec Ideal S1x1x1x256x128 .f32)
    (dy : Vec Ideal S128x256 .f32) : FVec Ideal S1x128x128 .f32 :=
  k0_pay162 (k0_pay120 B (offDiag (cumCol q dtc bc ac) s dy)
    (scores q (cumCol q dtc bc ac) (cumRow q dtr br ar) (stacked x (dtWide (dtCol dtc bc))) dy))

/-! ## The loads of one group -/

variable (m : (ℓ : Loc nD τ sig) → Buf (Elt Ideal) ℓ)

def ldX (c : Dev nD) (t : Fin cfg0.N) (g : Fin 8) : Vec Ideal S128x256 .f32 :=
  View.ld (iblk m c 0 t) (Rect.unit (s := S128x4096) ![0, 256 * g.val] ![128, 256]
    fun a => match a with | ⟨0, _⟩ => Nat.le_refl _ | ⟨1, _⟩ => show 256 * g.val + 256 ≤ 4096 by omega)

def ldB (c : Dev nD) (t : Fin cfg0.N) (g : Fin 8) : Vec Ideal S128x128 .f32 :=
  View.ld (iblk m c 0 t) (Rect.unit (s := S128x4096) ![0, 2048 + 128 * g.val] ![128, 128]
    fun a => match a with | ⟨0, _⟩ => Nat.le_refl _ | ⟨1, _⟩ => show 2048 + 128 * g.val + 128 ≤ 4096 by omega)

def ldDtC (c : Dev nD) (t : Fin cfg0.N) (g : Fin 8) : Vec Ideal S1x1x128x4 .f32 :=
  View.ld (iblk m c 1 t) (Rect.unit (s := S1x8x128x4) ![0, g.val, 0, 0] ![1, 1, 128, 4]
    fun a => match a with
      | ⟨0, _⟩ => Nat.le_refl _ | ⟨1, _⟩ => show g.val + 1 ≤ 8 by omega | ⟨2, _⟩ => Nat.le_refl _ | ⟨3, _⟩ => Nat.le_refl _)

def ldDtR (c : Dev nD) (t : Fin cfg0.N) (g : Fin 8) : Vec Ideal S1x1x4x128 .f32 :=
  View.ld (iblk m c 2 t) (Rect.unit (s := S1x8x4x128) ![0, g.val, 0, 0] ![1, 1, 4, 128]
    fun a => match a with
      | ⟨0, _⟩ => Nat.le_refl _ | ⟨1, _⟩ => show g.val + 1 ≤ 8 by omega | ⟨2, _⟩ => Nat.le_refl _ | ⟨3, _⟩ => Nat.le_refl _)

def ldBiasC (c : Dev nD) (t : Fin cfg0.N) (g : Fin 8) : Vec Ideal S1x1x1x4 .f32 :=
  View.ld (iblk m c 3 t) (Rect.unit (s := S1x8x1x4) ![0, g.val, 0, 0] ![1, 1, 1, 4]
    fun a => match a with
      | ⟨0, _⟩ => Nat.le_refl _ | ⟨1, _⟩ => show g.val + 1 ≤ 8 by omega | ⟨2, _⟩ => Nat.le_refl _ | ⟨3, _⟩ => Nat.le_refl _)

def ldBiasR (c : Dev nD) (t : Fin cfg0.N) (g : Fin 8) : Vec Ideal S1x1x4x1 .f32 :=
  View.ld (iblk m c 4 t) (Rect.unit (s := S1x8x4x1) ![0, g.val, 0, 0] ![1, 1, 4, 1]
    fun a => match a with
      | ⟨0, _⟩ => Nat.le_refl _ | ⟨1, _⟩ => show g.val + 1 ≤ 8 by omega | ⟨2, _⟩ => Nat.le_refl _ | ⟨3, _⟩ => Nat.le_refl _)

def ldLogC (c : Dev nD) (t : Fin cfg0.N) (g : Fin 8) : Vec Ideal S1x1x1x4 .f32 :=
  View.ld (iblk m c 5 t) (Rect.unit (s := S1x8x1x4) ![0, g.val, 0, 0] ![1, 1, 1, 4]
    fun a => match a with
      | ⟨0, _⟩ => Nat.le_refl _ | ⟨1, _⟩ => show g.val + 1 ≤ 8 by omega | ⟨2, _⟩ => Nat.le_refl _ | ⟨3, _⟩ => Nat.le_refl _)

def ldLogR (c : Dev nD) (t : Fin cfg0.N) (g : Fin 8) : Vec Ideal S1x1x4x1 .f32 :=
  View.ld (iblk m c 6 t) (Rect.unit (s := S1x8x4x1) ![0, g.val, 0, 0] ![1, 1, 4, 1]
    fun a => match a with
      | ⟨0, _⟩ => Nat.le_refl _ | ⟨1, _⟩ => show g.val + 1 ≤ 8 by omega | ⟨2, _⟩ => Nat.le_refl _ | ⟨3, _⟩ => Nat.le_refl _)

def ldS (c : Dev nD) (t : Fin cfg0.N) (g : Fin 8) : Vec Ideal S1x1x1x256x128 .f32 :=
  View.ld (iblk m c 7 t) (Rect.unit (s := S1x1x8x256x128) ![0, 0, g.val, 0, 0] ![1, 1, 1, 256, 128]
    fun a => match a with
      | ⟨0, _⟩ => Nat.le_refl _ | ⟨1, _⟩ => Nat.le_refl _ | ⟨2, _⟩ => show g.val + 1 ≤ 8 by omega | ⟨3, _⟩ => Nat.le_refl _
      | ⟨4, _⟩ => Nat.le_refl _)

def ldDy (c : Dev nD) (t : Fin cfg0.N) (g : Fin 8) : Vec Ideal S128x256 .f32 :=
  View.ld (iblk m c 8 t) (Rect.unit (s := S128x2048) ![0, 256 * g.val] ![128, 256]
    fun a => match a with | ⟨0, _⟩ => Nat.le_refl _ | ⟨1, _⟩ => show 256 * g.val + 256 ≤ 2048 by omega)

/-- The bit that tells the first direction from the second. -/
def fwd (t : Fin cfg0.N) : BitVec 1 := Scalar.cmpi CmpIPredicate.eq (BitVec.ofNat 32 (grid0.coords t 0).val) 0#32

def grpAt (c : Dev nD) (t : Fin cfg0.N) (g : Fin 8) : FVec Ideal S1x128x128 .f32 :=
  grp (fwd t) (ldX m c t g) (ldB m c t g) (ldDtC m c t g) (ldDtR m c t g) (ldBiasC m c t g) (ldBiasR m c t g)
    (ldLogC m c t g) (ldLogR m c t g) (ldS m c t g) (ldDy m c t g)

/-! ## The stored pieces: three column ranges per group -/

theorem skip {o1 o2 o3 : ℕ} {h1 : ∀ a, (![0, 0, o1] : Fin 3 → ℕ) a + S1x128x128.size a ≤ S1x128x4096.size a}
    {h2 : ∀ a, (![0, 0, o2] : Fin 3 → ℕ) a + S1x128x128.size a ≤ S1x128x4096.size a}
    {h3 : ∀ a, (![0, 0, o3] : Fin 3 → ℕ) a + S1x128x256.size a ≤ S1x128x4096.size a}
    (w1 w2 : S1x128x128.Idx → Elt Ideal .f32) (w3 : S1x128x256.Idx → Elt Ideal .f32)
    (L : List (View.Piece (Elt Ideal) S1x128x4096 .f32)) (k : Fin 4096) (i : Fin 1) (j : Fin 128)
    (g1 : k.val < o1) (g2 : o2 + 128 ≤ k.val) (g3 : o3 + 256 ≤ k.val) :
    View.canon (⟨Rect.unit (s := S1x128x4096) ![0, 0, o1] S1x128x128.size h1, w1⟩ :: ⟨Rect.unit (s := S1x128x4096) ![0, 0, o2] S1x128x128.size h2, w2⟩
      :: ⟨Rect.unit (s := S1x128x4096) ![0, 0, o3] S1x128x256.size h3, w3⟩ :: L) (ix3 i j k : S1x128x4096.Idx) = View.canon L (ix3 i j k : S1x128x4096.Idx) := by
  refine (View.canon_cons_of_not_mem _ _ fun hm => ?_).trans ((View.canon_cons_of_not_mem _ _ fun hm => ?_).trans
    (View.canon_cons_of_not_mem _ _ fun hm => ?_))
  · have h := (Rect.mem_set_unit.mp (show (ix3 i j k : S1x128x4096.Idx) ∈ (Rect.unit (s := S1x128x4096) ![0, 0, o1] S1x128x128.size h1).set from hm) 2).1
    have h' : o1 ≤ k.val := h
    omega
  · have h := (Rect.mem_set_unit.mp (show (ix3 i j k : S1x128x4096.Idx) ∈ (Rect.unit (s := S1x128x4096) ![0, 0, o2] S1x128x128.size h2).set from hm) 2).2
    have h' : k.val < o2 + 128 := h
    omega
  · have h := (Rect.mem_set_unit.mp (show (ix3 i j k : S1x128x4096.Idx) ∈ (Rect.unit (s := S1x128x4096) ![0, 0, o3] S1x128x256.size h3).set from hm) 2).2
    have h' : k.val < o3 + 256 := h
    omega

theorem hit {o : ℕ} {h1 : ∀ a, (![0, 0, o] : Fin 3 → ℕ) a + S1x128x128.size a ≤ S1x128x4096.size a}
    (w : S1x128x128.Idx → Elt Ideal .f32) (L : List (View.Piece (Elt Ideal) S1x128x4096 .f32)) (k : Fin 4096) (i : Fin 1)
    (j n : Fin 128) (hk : k.val = o + n.val) :
    View.canon (⟨Rect.unit (s := S1x128x4096) ![0, 0, o] S1x128x128.size h1, w⟩ :: L) (ix3 i j k : S1x128x4096.Idx) = w (ix3 i j n) := by
  refine (congrArg _ (show (ix3 i j k : S1x128x4096.Idx) = (Rect.unit (s := S1x128x4096) ![0, 0, o] S1x128x128.size h1).emb (ix3 i j n) from ?_)).trans
    (View.canon_cons_emb _ _ _ _)
  funext a
  match a with
  | ⟨0, _⟩ => exact Fin.ext (by show i.val = 0 + 1 * i.val; omega)
  | ⟨1, _⟩ => exact Fin.ext (by show j.val = 0 + 1 * j.val; omega)
  | ⟨2, _⟩ => exact Fin.ext (by show k.val = o + 1 * n.val; omega)

end Cert.Kernel14Ideal.Product
end
-- ==== Proof.DcPoint.lean ====
/- The block that the scan's backward kernel stores at a grid point, read at the columns of the gradient by `C`. -/
module

public import proofs.«01_k».proof.Proof.Gen.Kernel14Ideal.Frame
public import Idealize.ShloMosaic.Lib.Pipeline.ValueKit
public import Idealize.ShloMosaic.Lib.Pipeline.ReadBack
public import Idealize.ShloMosaic.Lib.Pointwise
public import proofs.«01_k».proof.Proof.DcBlock

@[expose] public section
set_option maxRecDepth 16384

noncomputable section
namespace Cert.Kernel14Ideal.Product
open Idealize.ShloMosaic Idealize.ShloMosaic.TcCoe Idealize.SL.Sem
open Idealize.ShloMosaic.Pipeline (Dat)
open scoped BigOperators
open Cert.Kernel14Ideal Cert.Kernel14Ideal.Gen

variable (m : (ℓ : Loc nD τ sig) → Buf (Elt Ideal) ℓ)

set_option maxHeartbeats 4000000 in
theorem blockA (c : Dev nD) (t : Fin cfg0.N) (h : t.val % 18 = 0) (g : Fin 8) (i : Fin 1) (j n : Fin 128) (k : Fin 4096)
    (hk : k.val = 3072 + 128 * g.val + n.val) :
    (outsAt0 m c t.val t.isLt).1 (ix3 i j k) = grpAt m c t g (ix3 i j n) := by
  have hn := n.isLt
  rw [outsAt0_A m c t h]; frame_out
  match g, hk with
  | 0, hk | 1, hk | 2, hk | 3, hk | 4, hk | 5, hk | 6, hk | 7, hk =>
    norm_num at hk
    iterate 8 try refine (skip _ _ _ _ k i j (by omega) (by omega) (by omega)).trans ?_
    refine (hit _ _ k i j n (by omega)).trans ?_
    rfl

set_option maxHeartbeats 4000000 in
theorem blockB (c : Dev nD) (t : Fin cfg0.N) (h0 : 0 < t.val) (h : ¬t.val % 18 = 0) (g : Fin 8) (i : Fin 1) (j n : Fin 128) (k : Fin 4096)
    (hk : k.val = 3072 + 128 * g.val + n.val) :
    (outsAt0 m c t.val t.isLt).1 (ix3 i j k) = grpAt m c t g (ix3 i j n) := by
  have hn := n.isLt
  rw [outsAt0_B m c t h]; frame_out
  match g, hk with
  | 0, hk | 1, hk | 2, hk | 3, hk | 4, hk | 5, hk | 6, hk | 7, hk =>
    norm_num at hk
    iterate 8 try refine (skip _ _ _ _ k i j (by omega) (by omega) (by omega)).trans ?_
    refine (hit _ _ k i j n (by omega)).trans ?_
    rfl

end Cert.Kernel14Ideal.Product
end
-- ==== Proof.DcGrad.lean ====
/- The gradient of the scan by `C`, as a function of the numbers of a chunk. -/
module

public import Idealize.ShloMosaic.PureOps.Ideal.Laws
public import Idealize.ShloMosaic.Lib.Pointwise

@[expose] public section

noncomputable section
namespace Cert.Kernel14Ideal.Product
open Idealize.ShloMosaic
open scoped BigOperators

/-- The number that a position's step size and its bias give. -/
def soft (z : EReal) : EReal := max z 0 + Ideal.log (1 + Ideal.exp (0 - max z (-z)))

/-- Whether position `j` is before `i` or equal to it, in the order of the direction. -/
def keeps (q : BitVec 1) (i j : Fin 128) : Bool := if q = 1#1 then decide (j.val ≤ i.val) else decide (i.val ≤ j.val)

/-- The running sum of the steps up to position `i`. -/
def run (q : BitVec 1) (dtc : Fin 128 → EReal) (bc ac : EReal) (i : Fin 128) : EReal :=
  ∑ j : Fin 128, if keeps q i j then soft (dtc j + bc) * (0 - Ideal.exp ac) else 0

/-- The column of head `r` and place `p` within the head. -/
def col (r : Fin 4) (p : Fin 64) : Fin 256 := ⟨64 * r.val + p.val, by omega⟩

/-- How much of position `j` is left at position `i`. -/
def left (q : BitVec 1) (ci cj : EReal) (i j : Fin 128) : EReal := Ideal.exp (if keeps q i j = true then ci - cj else ⊥)

/-- What the gradient by `C` is at position `i` of a chunk, column `n` of a group, from the chunk's numbers: `X` the
    values, `B` the columns of `B`, `DT` the step sizes before their bias, `bias` and `lg` the heads' numbers, `S` the state
    entering the chunk and `DY` the incoming gradient. -/
def grad (q : BitVec 1) (X : Fin 128 → Fin 4 → Fin 64 → EReal) (B : Fin 128 → Fin 128 → EReal) (DT : Fin 4 → Fin 128 → EReal)
    (bias lg : Fin 4 → EReal) (S : Fin 4 → Fin 64 → Fin 128 → EReal) (DY : Fin 128 → Fin 4 → Fin 64 → EReal) (i n : Fin 128) : EReal :=
  (∑ r : Fin 4, ∑ p : Fin 64, DY i r p * Ideal.exp (run q (DT r) (bias r) (lg r) i) * S r p n)
    + ∑ j : Fin 128, (∑ r : Fin 4, (∑ p : Fin 64, DY i r p * (X j r p * soft (DT r j + bias r)))
        * left q (run q (DT r) (bias r) (lg r) i) (run q (DT r) (bias r) (lg r) j) i j) * B j n

/-- The row of position `i` of chunk `h`. -/
def row (h : Fin 18) (i : Fin 128) : Fin 2304 := ⟨128 * h.val + i.val, by omega⟩

/-- The column of the step sizes that head `r` of group `g` has in direction `d`. -/
def headCol (d : Fin 2) (g : Fin 8) (r : Fin 4) : Fin 64 := ⟨d.val * 32 + g.val * 4 + r.val, by omega⟩

/-- The head's number in its direction. -/
def headOf (g : Fin 8) (r : Fin 4) : Fin 32 := ⟨g.val * 4 + r.val, by omega⟩

/-- The column of the values that place `p` of head `r` of group `g` has. -/
def wide (g : Fin 8) (r : Fin 4) (p : Fin 64) : Fin 2048 := ⟨256 * g.val + 64 * r.val + p.val, by omega⟩

/-- The bit of a direction: one for the first. -/
def bitOf (d : Fin 2) : BitVec 1 := if d = 0 then 1#1 else 0#1

/-- The gradient by `C` of direction `d`, chunk `h`, group `g`, as a function of the arguments. -/
def gradOf (x0 : FVec Ideal ⟨2, ![2304, 4096]⟩ .f32) (x1 : FVec Ideal ⟨2, ![2304, 64]⟩ .f32) (x2 x3 : FVec Ideal ⟨2, ![2, 32]⟩ .f32)
    (x4 : FVec Ideal ⟨5, ![2, 18, 8, 256, 128]⟩ .f32) (x5 : FVec Ideal ⟨2, ![2304, 2048]⟩ .f32) (d : Fin 2) (h : Fin 18) (g : Fin 8) (i n : Fin 128) : EReal :=
  grad (bitOf d) (fun j r p => x0 (ix2 (row h j) ⟨(wide g r p).val, by omega⟩))
    (fun j n => x0 (ix2 (row h j) ⟨2048 + (128 * g.val + n.val), by omega⟩)) (fun r j => x1 (ix2 (row h j) (headCol d g r)))
    (fun r => x2 (ix2 d (headOf g r))) (fun r => x3 (ix2 d (headOf g r))) (fun r p n => x4 (ix5 d h g (col r p) n))
    (fun i r p => x5 (ix2 (row h i) (wide g r p))) i n

end Cert.Kernel14Ideal.Product
end
-- ==== Proof.DcGroup.lean ====
/- One group of the scan's backward kernel read at an index: the gradient by `C` is a sum over the state entering the
   chunk and a sum over the chunk's positions. -/
module

public import proofs.«01_k».proof.Proof.DcBlock
public import proofs.«01_k».proof.Proof.DcGrad

@[expose] public section
set_option maxRecDepth 16384

noncomputable section
namespace Cert.Kernel14Ideal.Product
open Idealize.ShloMosaic Idealize.ShloMosaic.TcCoe Idealize.SL.Sem
open scoped BigOperators
open Cert.Kernel14Ideal Cert.Kernel14Ideal.Gen

theorem log_nonneg (e : EReal) (h : 0 ≤ e) : 0 ≤ Ideal.log (1 + e) := by
  induction e using EReal.rec with
  | bot => simp at h
  | top => exact le_top
  | coe r =>
    have hr : (0 : ℝ) ≤ r := by exact_mod_cast h
    have e1 : (1 : EReal) + (r : EReal) = ((1 + r : ℝ) : EReal) := by rw [EReal.coe_add]; rfl
    rw [e1, Ideal.log_coe, if_neg (by linarith)]
    exact_mod_cast Real.log_nonneg (by linarith)

theorem exp_nonneg (z : EReal) : 0 ≤ Ideal.exp z := by
  induction z using EReal.rec with
  | bot => exact le_rfl
  | top => exact le_top
  | coe r => rw [Ideal.exp_coe]; exact_mod_cast (Real.exp_pos r).le

theorem soft_nonneg (z : EReal) : 0 ≤ soft z :=
  add_nonneg (le_max_right _ _) (log_nonneg _ (exp_nonneg _))

/-- What a position adds to the running sum is not positive. -/
theorem step_nonpos (z a : EReal) : soft z * (0 - Ideal.exp a) ≤ 0 := by
  rw [zero_sub, mul_neg, EReal.neg_le, neg_zero]
  exact mul_nonneg (soft_nonneg z) (exp_nonneg a)

/-- A number that is not positive, cut into its rounding and two remainders, is the sum of the three parts. -/
theorem three_parts (b : Bool) (a : EReal) (h : a ≤ 0) :
    (if b = true then (1 : EReal) else 0) * a + (if b = true then (1 : EReal) else 0) * (a - a) + (if b = true then (1 : EReal) else 0) * ((a - a) - (a - a))
      = if b = true then a else 0 := by
  cases b
  · simp
  · simp only [if_true, one_mul]
    induction a using EReal.rec with
    | bot => rfl
    | top => simp at h
    | coe r => simp only [← EReal.coe_sub, ← EReal.coe_add]; congr 1; ring

theorem three_parts' (b : Bool) (a : EReal) (h : a ≤ 0) :
    a * (if b = true then (1 : EReal) else 0) + (a - a) * (if b = true then (1 : EReal) else 0) + ((a - a) - (a - a)) * (if b = true then (1 : EReal) else 0)
      = if b = true then a else 0 := by
  rw [← three_parts b a h, mul_comm a, mul_comm (a - a), mul_comm (a - a - (a - a))]

theorem mask_val : ∀ (q : BitVec 1) (i j : Fin 128), IntOp.cmpi CmpIPredicate.sge
      (IntOp.muli (IntOp.subi (BitVec.ofNat 32 i.val) (BitVec.ofNat 32 j.val)) (Scalar.select q 1#32 4294967295#32)) 0#32 =
    BitVec.ofBool (keeps q i j) := by decide +kernel

theorem mask_at (q : BitVec 1) (i j : Fin 128) : k0_pay15 q (ix2 i j) = BitVec.ofBool (keeps q i j) := by
  pointwise [k0_pay15]
  exact mask_val q i j

theorem weight_at (q : BitVec 1) (i j : Fin 128) : k0_pay16 (F := Ideal) q (ix2 i j) = if keeps q i j then 1 else 0 := by
  pointwise [k0_pay16, mask_at]
  cases keeps q i j
  · show (((BitVec.setWidth 32 (BitVec.ofBool false)).toInt : ℝ) : EReal) = _; simp
  · show (((BitVec.setWidth 32 (BitVec.ofBool true)).toInt : ℝ) : EReal) = _
    have : (BitVec.setWidth 32 (BitVec.ofBool true)).toInt = 1 := by decide
    rw [this]; simp

theorem dtCol_at (dtc : Vec Ideal S1x1x128x4 .f32) (bc : Vec Ideal S1x1x1x4 .f32) (i : Fin 128) (r : Fin 4) :
    dtCol dtc bc (ix2 i r) = soft (dtc (ix4 0 0 i r) + bc (ix4 0 0 0 r)) := by
  unfold dtCol soft
  pointwise [k0_pay27, k0_pay26, k0_pay25, k0_pay19, k0_pay18, k0_pay8, k0_pay10]
  rfl

theorem cumCol_at (q : BitVec 1) (dtc : Vec Ideal S1x1x128x4 .f32) (bc ac : Vec Ideal S1x1x1x4 .f32) (i : Fin 128) (r : Fin 4) :
    cumCol q dtc bc ac (ix2 i r) = run q (fun j => dtc (ix4 0 0 j r)) (bc (ix4 0 0 0 r)) (ac (ix4 0 0 0 r)) i := by
  have hd := fun j => dtCol_at dtc bc j r
  unfold dtCol at hd
  unfold cumCol run
  pointwise [k0_pay40, weight_at, k0_pay36, k0_pay35, k0_pay34, k0_pay12, hd]
  rw [← Finset.sum_add_distrib, ← Finset.sum_add_distrib]
  exact Finset.sum_congr rfl fun j _ => three_parts _ _ (step_nonpos _ _)

theorem dtRow_at (dtr : Vec Ideal S1x1x4x128 .f32) (br : Vec Ideal S1x1x4x1 .f32) (i : Fin 128) (r : Fin 4) :
    k0_pay33 (k0_pay9 dtr) (k0_pay11 br) (ix2 r i) = soft (dtr (ix4 0 0 r i) + br (ix4 0 0 r 0)) := by
  unfold soft
  pointwise [k0_pay33, k0_pay32, k0_pay31, k0_pay28, k0_pay9, k0_pay11]
  rfl

theorem cumRow_at (q : BitVec 1) (dtr : Vec Ideal S1x1x4x128 .f32) (br ar : Vec Ideal S1x1x4x1 .f32) (i : Fin 128) (r : Fin 4) :
    cumRow q dtr br ar (ix2 r i) = run q (fun j => dtr (ix4 0 0 r j)) (br (ix4 0 0 r 0)) (ar (ix4 0 0 r 0)) i := by
  unfold cumRow run
  pointwise [k0_pay41, weight_at, k0_pay39, k0_pay38, k0_pay37, k0_pay13, dtRow_at]
  rw [← Finset.sum_add_distrib, ← Finset.sum_add_distrib]
  exact Finset.sum_congr rfl fun j _ => three_parts' _ _ (step_nonpos _ _)

theorem head_val : ∀ p : Fin 256, Scalar.select
      (IntOp.andi
        (IntOp.cmpi CmpIPredicate.ne
          (IntOp.subi (BitVec.setWidth 32 (IntOp.cmpi CmpIPredicate.sgt (BitVec.ofNat 32 p.val) 0#32))
            (BitVec.setWidth 32 (IntOp.cmpi CmpIPredicate.slt (BitVec.ofNat 32 p.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 p.val) 64#32) 0#32))
      (IntOp.subi (IntOp.divsi ArithUnit.vector (BitVec.ofNat 32 p.val) 64#32) 1#32)
      (IntOp.divsi ArithUnit.vector (BitVec.ofNat 32 p.val) 64#32) =
    BitVec.ofNat 32 (p.val / 64) := by decide +kernel

theorem head_at (p : Fin 256) : k0_pay17 (ix2 0 p) = BitVec.ofNat 32 (p.val / 64) := by
  pointwise [k0_pay17]
  exact head_val p

theorem div_col (r : Fin 4) (p : Fin 64) : (col r p).val / 64 = r.val := by
  show (64 * r.val + p.val) / 64 = r.val; omega

theorem spread_at (cc : FVec Ideal S128x4 .f32) (i : Fin 128) (r : Fin 4) (p : Fin 64) :
    k0_pay54 k0_pay17 cc (ix2 i (col r p)) = cc (ix2 i r) := by
  pointwise [k0_pay54, k0_pay53, k0_pay52, k0_pay51, k0_pay50, head_at]
  rw [div_col]
  match r with
  | 0 => rfl
  | 1 => rfl
  | 2 => rfl
  | 3 => rfl

theorem dtWide_at (dt : FVec Ideal S128x4 .f32) (i : Fin 128) (r : Fin 4) (p : Fin 64) :
    dtWide dt (ix2 i (col r p)) = dt (ix2 i r) := by
  unfold dtWide
  pointwise [k0_pay49, k0_pay48, k0_pay47, k0_pay46, k0_pay45, k0_pay44, k0_pay43, head_at]
  rw [div_col]
  match r with
  | 0 => rfl
  | 1 => rfl
  | 2 => rfl
  | 3 => rfl

theorem stacked_at (x : Vec Ideal S128x256 .f32) (dw : FVec Ideal S128x256 .f32) (h r : Fin 4) (j : Fin 128) (u : Fin 512)
    (hu : u.val = 128 * h.val + j.val) (p : Fin 64) :
    stacked x dw (ix2 u (col r p)) = if r = h then x (ix2 j (col r p)) * dw (ix2 j (col r p)) else 0 := by
  have hj := j.isLt
  unfold stacked
  pointwise [k0_pay74, k0_pay66, k0_pay61, k0_pay65, k0_pay68, k0_pay70, k0_pay72, head_at]
  rw [div_col]
  have e : ∀ (a : ℕ) (ha : a < 128), a = j.val → (⟨a, ha⟩ : Fin 128) = j := fun a ha he => Fin.ext he
  match h, hu with
  | 0, hu =>
    replace hu : u.val = j.val := by simpa using hu
    rw [dif_pos (by omega), e _ _ hu]
    match r with
    | 0 | 1 | 2 | 3 => rfl
  | 1, hu =>
    replace hu : u.val = 128 + j.val := by simpa using hu
    rw [dif_neg (by omega), dif_pos (by omega), e _ _ (by omega)]
    match r with
    | 0 | 1 | 2 | 3 => rfl
  | 2, hu =>
    replace hu : u.val = 256 + j.val := by simpa using hu
    rw [dif_neg (by omega), dif_neg (by omega), dif_pos (by omega), e _ _ (by omega)]
    match r with
    | 0 | 1 | 2 | 3 => rfl
  | 3, hu =>
    replace hu : u.val = 384 + j.val := by simpa using hu
    rw [dif_neg (by omega), dif_neg (by omega), dif_neg (by omega), e _ _ (by omega)]
    match r with
    | 0 | 1 | 2 | 3 => rfl

theorem ofBits_bot : Ideal.ofBits FTy.f32 4286578688#32 = ⊥ := by
  show Ideal.ieee 8 23 4286578688#32 = ⊥
  unfold Ideal.ieee
  simp

theorem left_at (q : BitVec 1) (cc : FVec Ideal S128x4 .f32) (cr : FVec Ideal S4x128 .f32) (i j : Fin 128) :
    k0_pay63 (k0_pay15 q) cc cr (ix2 i j) = left q (cc (ix2 i 0)) (cr (ix2 0 j)) i j
    ∧ k0_pay67 (k0_pay15 q) cc cr (ix2 i j) = left q (cc (ix2 i 1)) (cr (ix2 1 j)) i j
    ∧ k0_pay69 (k0_pay15 q) cc cr (ix2 i j) = left q (cc (ix2 i 2)) (cr (ix2 2 j)) i j
    ∧ k0_pay71 (k0_pay15 q) cc cr (ix2 i j) = left q (cc (ix2 i 3)) (cr (ix2 3 j)) i j := by
  unfold left
  refine ⟨?_, ?_, ?_, ?_⟩
  all_goals pointwise [k0_pay63, k0_pay67, k0_pay69, k0_pay71, mask_at, ofBits_bot]

/-- A sum over the columns is a sum over the heads and their places. -/
theorem sum_col (f : Fin 256 → EReal) : ∑ p : Fin 256, f p = ∑ r : Fin 4, ∑ p : Fin 64, f (col r p) := by
  rw [← Finset.sum_product', Finset.univ_product_univ]
  refine (Fintype.sum_equiv (finProdFinEquiv (m := 4) (n := 64)) _ _ fun x => ?_).symm
  refine congrArg f (Fin.ext ?_)
  show 64 * x.1.val + x.2.val = x.2.val + 64 * x.1.val
  omega

theorem offDiag_at (cc : FVec Ideal S128x4 .f32) (s : Vec Ideal S1x1x1x256x128 .f32) (dy : Vec Ideal S128x256 .f32) (i n : Fin 128) :
    offDiag cc s dy (ix2 i n) = ∑ r : Fin 4, ∑ p : Fin 64, dy (ix2 i (col r p)) * Ideal.exp (cc (ix2 i r)) * s (ix5 0 0 0 (col r p) n) := by
  have h := fun r p => spread_at cc i r p
  unfold offDiag
  pointwise [k0_pay95, k0_pay94, k0_pay92, k0_pay91, k0_pay76, k0_pay14]
  rw [sum_col]
  simp only [h]

theorem stacked_sum (x : Vec Ideal S128x256 .f32) (dt : FVec Ideal S128x4 .f32) (dy : Vec Ideal S128x256 .f32) (h : Fin 4) (i j : Fin 128)
    (u : Fin 512) (hu : u.val = 128 * h.val + j.val) :
    ∑ p : Fin 256, dy (ix2 i p) * stacked x (dtWide dt) (ix2 u p)
      = ∑ p : Fin 64, dy (ix2 i (col h p)) * (x (ix2 j (col h p)) * dt (ix2 j h)) := by
  rw [sum_col, Finset.sum_eq_single h]
  · refine Finset.sum_congr rfl fun p _ => ?_
    rw [stacked_at x _ h h j u hu p, if_pos rfl, dtWide_at]
  · intro r _ hr
    refine Finset.sum_eq_zero fun p _ => ?_
    rw [stacked_at x _ h r j u hu p, if_neg hr, mul_zero]
  · intro hn; exact absurd (Finset.mem_univ h) hn

theorem scores_at (q : BitVec 1) (cc : FVec Ideal S128x4 .f32) (cr : FVec Ideal S4x128 .f32) (x : Vec Ideal S128x256 .f32)
    (dt : FVec Ideal S128x4 .f32) (dy : Vec Ideal S128x256 .f32) (i j : Fin 128) :
    scores q cc cr (stacked x (dtWide dt)) dy (ix2 i j)
      = ∑ r : Fin 4, (∑ p : Fin 64, dy (ix2 i (col r p)) * (x (ix2 j (col r p)) * dt (ix2 j r))) * left q (cc (ix2 i r)) (cr (ix2 r j)) i j := by
  obtain ⟨h0, h1, h2, h3⟩ := left_at q cc cr i j
  unfold scores
  pointwise [k0_pay116, k0_pay109, k0_pay101, k0_pay102, k0_pay103, k0_pay104, k0_pay97, k0_pay90, h0, h1, h2, h3]
  rw [stacked_sum x dt dy 3 i j _ rfl, stacked_sum x dt dy 2 i j _ rfl, stacked_sum x dt dy 1 i j _ rfl,
    stacked_sum x dt dy 0 i j _ (by show j.val = 128 * 0 + j.val; omega), Fin.sum_univ_four]
  ac_rfl

theorem grp_at (q : BitVec 1) (x : Vec Ideal S128x256 .f32) (B : Vec Ideal S128x128 .f32) (dtc : Vec Ideal S1x1x128x4 .f32)
    (dtr : Vec Ideal S1x1x4x128 .f32) (bc : Vec Ideal S1x1x1x4 .f32) (br : Vec Ideal S1x1x4x1 .f32)
    (ac : Vec Ideal S1x1x1x4 .f32) (ar : Vec Ideal S1x1x4x1 .f32) (s : Vec Ideal S1x1x1x256x128 .f32)
    (dy : Vec Ideal S128x256 .f32) (DT : Fin 4 → Fin 128 → EReal) (bias lg : Fin 4 → EReal)
    (hdc : ∀ j r, dtc (ix4 0 0 j r) = DT r j) (hdr : ∀ j r, dtr (ix4 0 0 r j) = DT r j)
    (hbc : ∀ r, bc (ix4 0 0 0 r) = bias r) (hbr : ∀ r, br (ix4 0 0 r 0) = bias r)
    (hac : ∀ r, ac (ix4 0 0 0 r) = lg r) (har : ∀ r, ar (ix4 0 0 r 0) = lg r) (o : Fin 1) (i n : Fin 128) :
    grp q x B dtc dtr bc br ac ar s dy (ix3 o i n)
      = grad q (fun j r p => x (ix2 j (col r p))) (fun j n => B (ix2 j n)) DT bias lg (fun r p n => s (ix5 0 0 0 (col r p) n))
          (fun i r p => dy (ix2 i (col r p))) i n := by
  unfold grp grad
  pointwise [k0_pay162, k0_pay120, offDiag_at, scores_at, cumCol_at, cumRow_at, dtCol_at, hdc, hdr, hbc, hbr, hac, har]

end Cert.Kernel14Ideal.Product
end
-- ==== Proof.DcKernel.lean ====
/- The array the scan's backward kernel leaves, read at the columns of the gradient by `C`: a function of the arguments. -/
module

public import proofs.«01_k».proof.Proof.DcPoint
public import proofs.«01_k».proof.Proof.DcGroup
public import proofs.«01_k».proof.Proof.Gen.Kernel14Ideal.Run
public import Idealize.ShloMosaic.Lib.Pipeline.Value

@[expose] public section
set_option maxRecDepth 16384

noncomputable section
namespace Cert.Kernel14Ideal.Product
open Idealize.ShloMosaic Idealize.ShloMosaic.TcCoe Idealize.SL.Sem Idealize.ShloMosaic.StableHlo
open Idealize.ShloMosaic.Pipeline (Dat)
open scoped BigOperators
open Cert.Kernel14Ideal Cert.Kernel14Ideal.Gen

variable (m : (ℓ : Loc nD τ sig) → Buf (Elt Ideal) ℓ)

abbrev A0 (c : Dev nD) : FVec Ideal S2304x4096 .f32 := m ((c : Thread nD τ).loc main_arg0)
abbrev A1 (c : Dev nD) : FVec Ideal S2304x64 .f32 := m ((c : Thread nD τ).loc main_arg1)
abbrev A2 (c : Dev nD) : FVec Ideal S2x32 .f32 := m ((c : Thread nD τ).loc main_arg2)
abbrev A3 (c : Dev nD) : FVec Ideal S2x32 .f32 := m ((c : Thread nD τ).loc main_arg3)
abbrev A4 (c : Dev nD) : FVec Ideal S2x18x8x256x128 .f32 := m ((c : Thread nD τ).loc main_arg4)
abbrev A5 (c : Dev nD) : FVec Ideal S2304x2048 .f32 := m ((c : Thread nD τ).loc main_arg5)

/-- The direction and the chunk of a grid point. -/
def dirOf (t : Fin cfg0.N) : Fin 2 := ⟨t.val / 18, by have := lt_of_lt_of_eq t.isLt N_0; omega⟩
def chunkOf (t : Fin cfg0.N) : Fin 18 := ⟨win0_9.index t (1 : Fin 3) % 18, by omega⟩

/-- The block index of every window that the gradient by `C` needs. -/
theorem idx_val : ∀ t : Fin cfg0.N, win0_0.index t = ![(chunkOf t).val, 0]
    ∧ win0_1.index t = ![(dirOf t).val, 0, (chunkOf t).val, 0]
    ∧ win0_2.index t = ![(dirOf t).val, 0, 0, (chunkOf t).val]
    ∧ win0_3.index t = ![(dirOf t).val, 0, 0, 0]
    ∧ win0_4.index t = ![(dirOf t).val, 0, 0, 0]
    ∧ win0_5.index t = ![(dirOf t).val, 0, 0, 0]
    ∧ win0_6.index t = ![(dirOf t).val, 0, 0, 0]
    ∧ win0_7.index t = ![(dirOf t).val, (chunkOf t).val, 0, 0, 0]
    ∧ win0_8.index t = ![(chunkOf t).val, 0]
    ∧ win0_9.index t = ![(dirOf t).val, (chunkOf t).val, 0] :=
  (by decide +kernel : ∀ t : Fin grid0.N, _)

/-- Every chunk of every direction has its grid point. -/
theorem point_of : ∀ (d : Fin 2) (h : Fin 18), ∃ t : Fin cfg0.N, dirOf t = d ∧ chunkOf t = h :=
  (by decide +kernel : ∀ (d : Fin 2) (h : Fin 18), ∃ t : Fin grid0.N, _)

theorem fwd_val : ∀ t : Fin cfg0.N, fwd t = if dirOf t = 0 then 1#1 else 0#1 :=
  (by decide +kernel : ∀ t : Fin grid0.N, _)

/-! ## What the operations before the kernel hand it -/

theorem V_v1 (c : Dev nD) : V m c main_v1 = transpose S2x8x2304x4 [1, 2, 0, 3] (shapeCast S2304x2x8x4 (A1 m c) shapeCasts_S2304x64_S2304x2x8x4) transposes_S2304x2x8x4_S2x8x2304x4_1_2_0_3 := by
  show after (List.flatten [hostOps0]) _ (Proc.devRef .tc main_v1) = _
  simp only [Gen.hostOps0, List.flatten_cons, List.flatten_nil, List.append_nil, List.cons_append, List.nil_append]
  after_results
  rfl

theorem V_v2 (c : Dev nD) : V m c main_v2 = transpose S2x8x4x2304 [1, 2, 3, 0] (shapeCast S2304x2x8x4 (A1 m c) shapeCasts_S2304x64_S2304x2x8x4) transposes_S2304x2x8x4_S2x8x4x2304_1_2_3_0 := by
  show after (List.flatten [hostOps0]) _ (Proc.devRef .tc main_v2) = _
  simp only [Gen.hostOps0, List.flatten_cons, List.flatten_nil, List.append_nil, List.cons_append, List.nil_append]
  after_results
  rfl

theorem V_v5 (c : Dev nD) : V m c main_v5 = broadcastInDim S2x8x1x4 ![0, 1, 3] bcast_S2x8x4_S2x8x1x4_0_1_3 (shapeCast S2x8x4 (A2 m c) shapeCasts_S2x32_S2x8x4) := by
  show after (List.flatten [hostOps0]) _ (Proc.devRef .tc main_v5) = _
  simp only [Gen.hostOps0, List.flatten_cons, List.flatten_nil, List.append_nil, List.cons_append, List.nil_append]
  after_results
  rfl

theorem V_v6 (c : Dev nD) : V m c main_v6 = broadcastInDim S2x8x4x1 ![0, 1, 2] bcast_S2x8x4_S2x8x4x1_0_1_2 (shapeCast S2x8x4 (A2 m c) shapeCasts_S2x32_S2x8x4) := by
  show after (List.flatten [hostOps0]) _ (Proc.devRef .tc main_v6) = _
  simp only [Gen.hostOps0, List.flatten_cons, List.flatten_nil, List.append_nil, List.cons_append, List.nil_append]
  after_results
  rfl

theorem V_v7 (c : Dev nD) : V m c main_v7 = broadcastInDim S2x8x1x4 ![0, 1, 3] bcast_S2x8x4_S2x8x1x4_0_1_3 (shapeCast S2x8x4 (A3 m c) shapeCasts_S2x32_S2x8x4) := by
  show after (List.flatten [hostOps0]) _ (Proc.devRef .tc main_v7) = _
  simp only [Gen.hostOps0, List.flatten_cons, List.flatten_nil, List.append_nil, List.cons_append, List.nil_append]
  after_results
  rfl

theorem V_v8 (c : Dev nD) : V m c main_v8 = broadcastInDim S2x8x4x1 ![0, 1, 2] bcast_S2x8x4_S2x8x4x1_0_1_2 (shapeCast S2x8x4 (A3 m c) shapeCasts_S2x32_S2x8x4) := by
  show after (List.flatten [hostOps0]) _ (Proc.devRef .tc main_v8) = _
  simp only [Gen.hostOps0, List.flatten_cons, List.flatten_nil, List.append_nil, List.cons_append, List.nil_append]
  after_results
  rfl

/-! ## The loads of a group, from the arguments -/

theorem ldX_at (c : Dev nD) (t : Fin cfg0.N) (g : Fin 8) (j : Fin 128) (r : Fin 4) (p : Fin 64) :
    ldX m c t g (ix2 j (col r p)) = A0 m c (ix2 (row (chunkOf t) j) ⟨(wide g r p).val, by omega⟩) := by
  unfold row ldX wide col
  blk_point [iblk, V_main_arg0, idx_val t]

theorem ldB_at (c : Dev nD) (t : Fin cfg0.N) (g : Fin 8) (j n : Fin 128) :
    ldB m c t g (ix2 j n) = A0 m c (ix2 (row (chunkOf t) j) ⟨2048 + (128 * g.val + n.val), by omega⟩) := by
  unfold row ldB
  blk_point [iblk, V_main_arg0, idx_val t]

theorem ldDy_at (c : Dev nD) (t : Fin cfg0.N) (g : Fin 8) (i : Fin 128) (r : Fin 4) (p : Fin 64) :
    ldDy m c t g (ix2 i (col r p)) = A5 m c (ix2 (row (chunkOf t) i) (wide g r p)) := by
  unfold row ldDy wide col
  blk_point [iblk, V_main_arg5, idx_val t]

theorem ldS_at (c : Dev nD) (t : Fin cfg0.N) (g : Fin 8) (r : Fin 4) (p : Fin 64) (n : Fin 128) :
    ldS m c t g (ix5 0 0 0 (col r p) n) = A4 m c (ix5 (dirOf t) (chunkOf t) g (col r p) n) := by
  unfold ldS
  blk_point [iblk, V_main_arg4, idx_val t]

section
attribute [local irreducible] StableHlo.after

theorem ldDtC_at (c : Dev nD) (t : Fin cfg0.N) (g : Fin 8) (j : Fin 128) (r : Fin 4) :
    ldDtC m c t g (ix4 0 0 j r) = A1 m c (ix2 (row (chunkOf t) j) (headCol (dirOf t) g r)) := by
  have e : ldDtC m c t g (ix4 0 0 j r) = V m c main_v1 (ix4 (dirOf t) g (row (chunkOf t) j) r) := by
    unfold row ldDtC
    blk_point [iblk, idx_val t]
  rw [e, V_v1]; unfold row headCol
  pointwise []

theorem ldDtR_at (c : Dev nD) (t : Fin cfg0.N) (g : Fin 8) (j : Fin 128) (r : Fin 4) :
    ldDtR m c t g (ix4 0 0 r j) = A1 m c (ix2 (row (chunkOf t) j) (headCol (dirOf t) g r)) := by
  have e : ldDtR m c t g (ix4 0 0 r j) = V m c main_v2 (ix4 (dirOf t) g r (row (chunkOf t) j)) := by
    unfold row ldDtR
    blk_point [iblk, idx_val t]
  rw [e, V_v2]; unfold row headCol
  pointwise []

theorem ldBiasC_at (c : Dev nD) (t : Fin cfg0.N) (g : Fin 8) (r : Fin 4) :
    ldBiasC m c t g (ix4 0 0 0 r) = A2 m c (ix2 (dirOf t) (headOf g r)) := by
  have e : ldBiasC m c t g (ix4 0 0 0 r) = V m c main_v5 (ix4 (dirOf t) g 0 r) := by
    unfold ldBiasC
    blk_point [iblk, idx_val t]
  rw [e, V_v5]; unfold headOf
  pointwise []

theorem ldBiasR_at (c : Dev nD) (t : Fin cfg0.N) (g : Fin 8) (r : Fin 4) :
    ldBiasR m c t g (ix4 0 0 r 0) = A2 m c (ix2 (dirOf t) (headOf g r)) := by
  have e : ldBiasR m c t g (ix4 0 0 r 0) = V m c main_v6 (ix4 (dirOf t) g r 0) := by
    unfold ldBiasR
    blk_point [iblk, idx_val t]
  rw [e, V_v6]; unfold headOf
  pointwise []

theorem ldLogC_at (c : Dev nD) (t : Fin cfg0.N) (g : Fin 8) (r : Fin 4) :
    ldLogC m c t g (ix4 0 0 0 r) = A3 m c (ix2 (dirOf t) (headOf g r)) := by
  have e : ldLogC m c t g (ix4 0 0 0 r) = V m c main_v7 (ix4 (dirOf t) g 0 r) := by
    unfold ldLogC
    blk_point [iblk, idx_val t]
  rw [e, V_v7]; unfold headOf
  pointwise []

theorem ldLogR_at (c : Dev nD) (t : Fin cfg0.N) (g : Fin 8) (r : Fin 4) :
    ldLogR m c t g (ix4 0 0 r 0) = A3 m c (ix2 (dirOf t) (headOf g r)) := by
  have e : ldLogR m c t g (ix4 0 0 r 0) = V m c main_v8 (ix4 (dirOf t) g r 0) := by
    unfold ldLogR
    blk_point [iblk, idx_val t]
  rw [e, V_v8]; unfold headOf
  pointwise []

end

theorem grpAt_eq (c : Dev nD) (t : Fin cfg0.N) (g : Fin 8) (o : Fin 1) (i n : Fin 128) :
    grpAt m c t g (ix3 o i n) = gradOf (A0 m c) (A1 m c) (A2 m c) (A3 m c) (A4 m c) (A5 m c) (dirOf t) (chunkOf t) g i n := by
  unfold grpAt gradOf
  rw [grp_at _ _ _ _ _ _ _ _ _ _ _ _ _ _ (ldDtC_at m c t g) (ldDtR_at m c t g) (ldBiasC_at m c t g) (ldBiasR_at m c t g)
    (ldLogC_at m c t g) (ldLogR_at m c t g)]
  simp only [ldX_at, ldB_at, ldDy_at, ldS_at, fwd_val, bitOf]

/-- The index map of the gradient's window sends distinct grid points to distinct blocks. -/
theorem idx_inj : ∀ t t' : Fin cfg0.N, win0_9.index t = win0_9.index t' → t = t' :=
  (by decide +kernel : ∀ t t' : Fin grid0.N, win0_9.index t = win0_9.index t' → t = t')

theorem flush_all : ∀ t : Fin cfg0.N, (cfg0.win 9).flush t = true := by decide +kernel

/-- The place in the array of an index of the block of a grid point. -/
theorem emb_9 (t : Fin cfg0.N) (o : Fin 1) (i : Fin 128) (k : Fin 4096) :
    ((cfg0.win 9).blk t).view.emb (ix3 o i k) = (ix3 (dirOf t) (row (chunkOf t) i) k : S2x2304x4096.Idx) := by
  have ht := (idx_val t).2.2.2.2.2.2.2.2.2
  funext a
  match a with
  | ⟨0, _⟩ => exact Fin.ext (by show win0_9.index t (0 : Fin 3) * 1 + 1 * o.val = (dirOf t).val; rw [ht]; show (dirOf t).val * 1 + 1 * o.val = _; omega)
  | ⟨1, _⟩ => exact Fin.ext (by show win0_9.index t (1 : Fin 3) * 128 + 1 * i.val = 128 * (chunkOf t).val + i.val; rw [ht]; show (chunkOf t).val * 128 + 1 * i.val = _; omega)
  | ⟨2, _⟩ => exact Fin.ext (by show win0_9.index t (2 : Fin 3) * 4096 + 1 * k.val = k.val; rw [ht]; show 0 * 4096 + 1 * k.val = _; omega)

/-- The array the kernel leaves, at the columns of the gradient by `C`. -/
theorem reg_at (c : Dev nD) (d : Fin 2) (h : Fin 18) (g : Fin 8) (i n : Fin 128) (k : Fin 4096) (hk : k.val = 3072 + 128 * g.val + n.val) :
    (dats m 0 c).arrAt 9 cfg0.N (ix3 d (row h i) k : S2x2304x4096.Idx)
      = gradOf (A0 m c) (A1 m c) (A2 m c) (A3 m c) (A4 m c) (A5 m c) d h g i n := by
  obtain ⟨t, rfl, rfl⟩ := point_of d h
  rw [← grpAt_eq m c t g 0 i n, ← emb_9 t 0 i k]
  have e := congrFun ((dats m 0 c).read_blk_arrAt_eq_flushed 9 (fun t t' _ _ hne => (cfg0.win 9).disjoint_blk fun h => hne (idx_inj t t' h))
    cfg0.N t t.isLt (flush_all t)) (ix3 0 i k)
  refine e.trans ?_
  show (dats m 0 c).after 9 t (ix3 0 i k) = _
  rw [after0_9]
  by_cases h0 : t.val % 18 = 0
  · exact blockA m c t h0 g 0 i n k hk
  · exact blockB m c t (by omega) h0 g 0 i n k hk

end Cert.Kernel14Ideal.Product
end
-- ==== Proof.DcSums.lean ====
/- A windowed sum along one axis whose window reaches back to the start is the running sum. -/
module

public import Idealize.ShloMosaic.PureOps.Ideal.Laws
public import Idealize.ShloMosaic.Lib.Pointwise

@[expose] public section

noncomputable section
namespace Cert.Sums
open Idealize.ShloMosaic
open scoped BigOperators

theorem foldl_add {α : Type} (L : List α) (f : α → EReal) (v : EReal) : L.foldl (fun r n => r + f n) v = v + (L.map f).sum := by
  induction L generalizing v with
  | nil => simp
  | cons a L ih => rw [List.foldl_cons, ih, List.map_cons, List.sum_cons, add_assoc]

/-- Position `k` of a window of 128 that ends at `i` is position `i + k - 127`, if there is one: its sum is the sum up to `i`. -/
theorem shift_sum (f : Fin 128 → EReal) (i : Fin 128) :
    (∑ k : Fin 128, if h : 127 ≤ i.val + k.val then f ⟨i.val + k.val - 127, by omega⟩ else 0)
      = ∑ j : Fin 128, if j.val ≤ i.val then f j else 0 := by
  refine Fintype.sum_equiv (Equiv.addRight (i + 1)) _ _ fun k => ?_
  have hv : ((Equiv.addRight (i + 1)) k).val = (k.val + (i.val + 1)) % 128 := by
    show (k + (i + 1) : Fin 128).val = _
    rw [Fin.val_add, Fin.val_add]
    show (k.val + (i.val + 1) % 128) % 128 = _
    omega
  by_cases h : 127 ≤ i.val + k.val
  · have e : (Equiv.addRight (i + 1)) k = ⟨i.val + k.val - 127, by omega⟩ := Fin.ext (by rw [hv]; show _ = i.val + k.val - 127; omega)
    rw [dif_pos h, e, if_pos (by show i.val + k.val - 127 ≤ i.val; omega)]
  · rw [dif_neg h, if_neg (by rw [hv]; omega)]

/-- The indices of a window of 128 along the third of five axes. -/
def windowIdx : (⟨5, ![1, 1, 128, 1, 1]⟩ : Shape).Idx ≃ Fin 128 where
  toFun w := w 2
  invFun k := ix5 0 0 k 0 0
  left_inv w := by
    idx_vars w
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
    | ⟨4, _⟩ => exact Subsingleton.elim (α := Fin 1) _ _
  right_inv k := rfl

theorem cumsum_at {n0 n1 n3 n4 : ℕ} (x : FVec Ideal ⟨5, ![n0, n1, 128, n3, n4]⟩ .f32) (v : FVec Ideal ⟨0, ![]⟩ .f32) (hv : ∀ j, v j = 0)
    (h : (⟨5, ![n0, n1, 128, n3, n4]⟩ : Shape).ReduceWindows ![1, 1, 128, 1, 1] ![1, 1, 1, 1, 1] ![0, 0, 127, 0, 0] ![0, 0, 0, 0, 0] ⟨5, ![n0, n1, 128, n3, n4]⟩)
    (hu : 0 < (⟨0, ![]⟩ : Shape).numel) (d : Fin n0) (c : Fin n1) (i : Fin 128) (g : Fin n3) (r : Fin n4) :
    Host.reduceWindowAdd ![1, 1, 128, 1, 1] ![1, 1, 1, 1, 1] ![0, 0, 127, 0, 0] ![0, 0, 0, 0, 0] x v h hu (ix5 d c i g r)
      = ∑ j : Fin 128, if j.val ≤ i.val then x (ix5 d c j g r) else 0 := by
  rw [← shift_sum (fun j => x (ix5 d c j g r)) i]
  show Ideal.hostReduceWindowAdd _ _ _ _ h x (v _) (ix5 d c i g r) = _
  rw [hv]
  unfold Ideal.hostReduceWindowAdd Host.reduceWindow
  dsimp only
  rw [foldl_add, zero_add, ← List.ofFn_eq_map, List.sum_ofFn]
  refine Eq.trans ?_ (Fintype.sum_equiv ((Shape.rowMajor (⟨5, ![1, 1, 128, 1, 1]⟩ : Shape)).symm.trans windowIdx) _ _ fun k => rfl)
  refine Finset.sum_congr rfl fun k _ => ?_
  have b0 : ((Shape.rowMajor (⟨5, ![1, 1, 128, 1, 1]⟩ : Shape)).symm k (0 : Fin 5)).val < 1 := Fin.isLt _
  have b1 : ((Shape.rowMajor (⟨5, ![1, 1, 128, 1, 1]⟩ : Shape)).symm k (1 : Fin 5)).val < 1 := Fin.isLt _
  have b2 : ((Shape.rowMajor (⟨5, ![1, 1, 128, 1, 1]⟩ : Shape)).symm k (2 : Fin 5)).val < 128 := Fin.isLt _
  have b3 : ((Shape.rowMajor (⟨5, ![1, 1, 128, 1, 1]⟩ : Shape)).symm k (3 : Fin 5)).val < 1 := Fin.isLt _
  have b4 : ((Shape.rowMajor (⟨5, ![1, 1, 128, 1, 1]⟩ : Shape)).symm k (4 : Fin 5)).val < 1 := Fin.isLt _
  by_cases h2 : 127 ≤ i.val + ((Shape.rowMajor (⟨5, ![1, 1, 128, 1, 1]⟩ : Shape)).symm k (2 : Fin 5)).val
  · refine (dif_pos fun a => ?_).trans (Eq.trans ?_ (dif_pos h2).symm)
    · match a with
      | ⟨0, _⟩ => exact ⟨Nat.zero_le _, by show d.val * 1 + ((Shape.rowMajor (⟨5, ![1, 1, 128, 1, 1]⟩ : Shape)).symm k (0 : Fin 5)).val - 0 < n0; omega⟩
      | ⟨1, _⟩ => exact ⟨Nat.zero_le _, by show c.val * 1 + ((Shape.rowMajor (⟨5, ![1, 1, 128, 1, 1]⟩ : Shape)).symm k (1 : Fin 5)).val - 0 < n1; omega⟩
      | ⟨2, _⟩ => exact ⟨by show 127 ≤ i.val * 1 + ((Shape.rowMajor (⟨5, ![1, 1, 128, 1, 1]⟩ : Shape)).symm k (2 : Fin 5)).val; omega, by show i.val * 1 + ((Shape.rowMajor (⟨5, ![1, 1, 128, 1, 1]⟩ : Shape)).symm k (2 : Fin 5)).val - 127 < 128; omega⟩
      | ⟨3, _⟩ => exact ⟨Nat.zero_le _, by show g.val * 1 + ((Shape.rowMajor (⟨5, ![1, 1, 128, 1, 1]⟩ : Shape)).symm k (3 : Fin 5)).val - 0 < n3; omega⟩
      | ⟨4, _⟩ => exact ⟨Nat.zero_le _, by show r.val * 1 + ((Shape.rowMajor (⟨5, ![1, 1, 128, 1, 1]⟩ : Shape)).symm k (4 : Fin 5)).val - 0 < n4; omega⟩
    · refine congrArg x (funext fun a => ?_)
      match a with
      | ⟨0, _⟩ => exact Fin.ext (by show d.val * 1 + ((Shape.rowMajor (⟨5, ![1, 1, 128, 1, 1]⟩ : Shape)).symm k (0 : Fin 5)).val - 0 = d.val; omega)
      | ⟨1, _⟩ => exact Fin.ext (by show c.val * 1 + ((Shape.rowMajor (⟨5, ![1, 1, 128, 1, 1]⟩ : Shape)).symm k (1 : Fin 5)).val - 0 = c.val; omega)
      | ⟨2, _⟩ => exact Fin.ext (by show i.val * 1 + ((Shape.rowMajor (⟨5, ![1, 1, 128, 1, 1]⟩ : Shape)).symm k (2 : Fin 5)).val - 127 = i.val + _ - 127; rw [Nat.mul_one]; rfl)
      | ⟨3, _⟩ => exact Fin.ext (by show g.val * 1 + ((Shape.rowMajor (⟨5, ![1, 1, 128, 1, 1]⟩ : Shape)).symm k (3 : Fin 5)).val - 0 = g.val; omega)
      | ⟨4, _⟩ => exact Fin.ext (by show r.val * 1 + ((Shape.rowMajor (⟨5, ![1, 1, 128, 1, 1]⟩ : Shape)).symm k (4 : Fin 5)).val - 0 = r.val; omega)
  · refine (dif_neg fun hin => h2 ?_).trans (Eq.symm (dif_neg (fun h4 => h2 h4)))
    have h3 : 127 ≤ i.val * 1 + ((Shape.rowMajor (⟨5, ![1, 1, 128, 1, 1]⟩ : Shape)).symm k (2 : Fin 5)).val := (hin 2).1
    omega

end Cert.Sums
end
-- ==== Proof.DcRef.lean ====
/- The reference's gradient by `C` read at an index: for each direction, chunk and group of heads it is the same function
   of the chunk's numbers as the kernel's. -/
module

public import proofs.«01_k».proof.Proof.DcGrad
public import proofs.«01_k».proof.Proof.DcSums
public import proofs.«01_k».proof.Proof.Gen.Reference14Ideal.Read
public import Idealize.ShloMosaic.Lib.KernelVsHost
public import Idealize.ShloMosaic.Lib.ValueIdxRank6

@[expose] public section
set_option maxRecDepth 16384

noncomputable section
namespace Cert.Reference14Ideal.Product
open Idealize.ShloMosaic Idealize.ShloMosaic.TcCoe Idealize.SL.Sem
open scoped BigOperators
open Cert.Reference14Ideal Cert.Reference14Ideal.Read
open Cert.Kernel14Ideal.Product (row headCol headOf wide bitOf gradOf grad soft keeps run col left)

/-- The place of a position in the order of its direction. -/
def pos (d : Fin 2) (i : Fin 128) : Fin 128 := match d with
  | 0 => i
  | 1 => i.rev

theorem pos_pos (d : Fin 2) (i : Fin 128) : pos d (pos d i) = i := by
  match d with
  | 0 => rfl
  | 1 => exact Fin.rev_rev i

theorem keeps_pos (d : Fin 2) (i j : Fin 128) : keeps (bitOf d) (pos d i) (pos d j) = decide (j.val ≤ i.val) := by
  match d with
  | 0 => rfl
  | 1 =>
    show decide (i.rev.val ≤ j.rev.val) = _
    rw [Fin.val_rev, Fin.val_rev]
    exact decide_eq_decide.mpr (by omega)

/-- A sum over the positions is the sum over their places. -/
theorem sum_pos (d : Fin 2) (f : Fin 128 → EReal) : ∑ j : Fin 128, f (pos d j) = ∑ j : Fin 128, f j :=
  Equiv.sum_comp (Function.Involutive.toPerm (pos d) (pos_pos d)) f

/-- A sum along the last of six axes. -/
theorem sum_last {n0 n1 n2 n3 n4 n5 : ℕ} (h : (⟨6, ![n0, n1, n2, n3, n4, n5]⟩ : Shape).ReducesTo [5] ⟨5, ![n0, n1, n2, n3, n4]⟩)
    (v : (⟨6, ![n0, n1, n2, n3, n4, n5]⟩ : Shape).Idx → EReal) (e : EReal) (a : Fin n0) (b : Fin n1) (c : Fin n2) (i : Fin n3) (j : Fin n4) :
    Ideal.hostReduceAdd h v e (ix5 a b c i j) = e + ∑ k : Fin n5, v (ix6 a b c i j k) := by
  have h' : (⟨6, ![n0, n1, n2, n3, n4, n5]⟩ : Shape).Reduces [5] ⟨5, ![n0, n1, n2, n3, n4]⟩ := ⟨h.1, (Nat.succ_pos 4 : (0 : ℕ) < 5), h.2⟩
  refine (Ideal.hostReduceAdd_single h h' v e _).trans (congrArg (e + ·) (Finset.sum_congr rfl fun k _ => congrArg v (funext fun x => ?_)))
  match x with
  | ⟨0, _⟩ => rfl
  | ⟨1, _⟩ => rfl
  | ⟨2, _⟩ => rfl
  | ⟨3, _⟩ => rfl
  | ⟨4, _⟩ => rfl
  | ⟨5, _⟩ => rfl

variable (x0 : FVec Ideal S2304x4096 .f32) (x1 : FVec Ideal S2304x64 .f32) (x2 x3 : FVec Ideal S2x32 .f32)
  (x4 : FVec Ideal S2x18x8x256x128 .f32) (x5 : FVec Ideal S2304x2048 .f32)

/-! ## The values, the columns of `B` and the incoming gradient in the order of a direction -/

theorem v10_at (d : Fin 2) (c : Fin 18) (j : Fin 128) (g : Fin 8) (r : Fin 4) (p : Fin 64) :
    val_main_v10 (F := Ideal) x0 (ix6 d c j g r p) = x0 (ix2 (row c (pos d j)) ⟨(wide g r p).val, by omega⟩) := by
  match d with
  | 0 =>
    pointwise [val_main_v10, val_main_v9, val_main_v8, val_main_v7, val_main_v6, val_main_v5]
    exact congrArg x0 (congrArg₂ ix2 (Fin.ext (by show c.val * 128 + j.val = 128 * c.val + j.val; omega))
      (Fin.ext (by show g.val * 256 + r.val * 64 + p.val = 256 * g.val + 64 * r.val + p.val; omega)))
  | 1 =>
    pointwise [val_main_v10, val_main_v9, val_main_v8, val_main_v7, val_main_v6, val_main_v5]
    exact congrArg x0 (congrArg₂ ix2 (Fin.ext (by show c.val * 128 + j.rev.val = 128 * c.val + j.rev.val; omega))
      (Fin.ext (by show g.val * 256 + r.val * 64 + p.val = 256 * g.val + 64 * r.val + p.val; omega)))

theorem v16_at (d : Fin 2) (c : Fin 18) (j : Fin 128) (g : Fin 8) (n : Fin 128) :
    val_main_v16 (F := Ideal) x0 (ix5 d c j g n) = x0 (ix2 (row c (pos d j)) ⟨2048 + (128 * g.val + n.val), by omega⟩) := by
  match d with
  | 0 =>
    pointwise [val_main_v16, val_main_v15, val_main_v14, val_main_v13, val_main_v12, val_main_v11]
    refine congrArg x0 (congrArg₂ ix2 (Fin.ext ?_) (Fin.ext ?_))
    · show c.val * 128 + j.val = 128 * c.val + j.val; omega
    · show 2048 + (g.val * 128 + n.val) = 2048 + (128 * g.val + n.val); omega
  | 1 =>
    pointwise [val_main_v16, val_main_v15, val_main_v14, val_main_v13, val_main_v12, val_main_v11]
    refine congrArg x0 (congrArg₂ ix2 (Fin.ext ?_) (Fin.ext ?_))
    · show c.val * 128 + j.rev.val = 128 * c.val + j.rev.val; omega
    · show 2048 + (g.val * 128 + n.val) = 2048 + (128 * g.val + n.val); omega

theorem v86_at (d : Fin 2) (c : Fin 18) (j : Fin 128) (g : Fin 8) (r : Fin 4) (p : Fin 64) :
    val_main_v86 (F := Ideal) x5 (ix6 d c j g r p) = x5 (ix2 (row c j) (wide g r p)) := by
  match d with
  | 0 =>
    pointwise [val_main_v86, val_main_v85, val_main_v84, val_main_v83]
    exact congrArg x5 (congrArg₂ ix2 (Fin.ext (by show c.val * 128 + j.val = 128 * c.val + j.val; omega))
      (Fin.ext (by show g.val * 256 + r.val * 64 + p.val = 256 * g.val + 64 * r.val + p.val; omega)))
  | 1 =>
    pointwise [val_main_v86, val_main_v85, val_main_v84, val_main_v83]
    exact congrArg x5 (congrArg₂ ix2 (Fin.ext (by show c.val * 128 + j.val = 128 * c.val + j.val; omega))
      (Fin.ext (by show g.val * 256 + r.val * 64 + p.val = 256 * g.val + 64 * r.val + p.val; omega)))

theorem v88_at (c : Fin 18) (j : Fin 128) (g : Fin 8) (r : Fin 4) (p : Fin 64) :
    val_main_v88 (F := Ideal) x5 (ix5 c j g r p) = x5 (ix2 (row c j) (wide g r p)) := by
  unfold val_main_v88
  refine (shapeCast_apply _ _ _ (ix6 0 c j g r p) ?_).trans ?_
  · rw [Shape.rowMajor_val_five, Shape.rowMajor_val_six]
    show ((((0 * 18 + c.val) * 128 + j.val) * 8 + g.val) * 4 + r.val) * 64 + p.val = (((c.val * 128 + j.val) * 8 + g.val) * 4 + r.val) * 64 + p.val
    omega
  · rw [val_main_v87_apply]
    refine Eq.trans (congrArg (val_main_v86 (F := Ideal) x5) (funext fun a => ?_)) (v86_at x5 0 c j g r p)
    match a with
    | ⟨0, _⟩ => rfl
    | ⟨1, _⟩ => rfl
    | ⟨2, _⟩ => rfl
    | ⟨3, _⟩ => rfl
    | ⟨4, _⟩ => rfl
    | ⟨5, _⟩ => rfl

theorem v90_at (c : Fin 18) (j : Fin 128) (g : Fin 8) (r : Fin 4) (p : Fin 64) :
    val_main_v90 (F := Ideal) x5 (ix5 c j g r p) = x5 (ix2 (row c j) (wide g r p)) := by
  unfold val_main_v90
  refine (shapeCast_apply _ _ _ (ix6 0 c j g r p) ?_).trans ?_
  · rw [Shape.rowMajor_val_five, Shape.rowMajor_val_six]
    show ((((0 * 18 + c.val) * 128 + j.val) * 8 + g.val) * 4 + r.val) * 64 + p.val = (((c.val * 128 + j.val) * 8 + g.val) * 4 + r.val) * 64 + p.val
    omega
  · rw [val_main_v89_apply]
    refine Eq.trans (congrArg (val_main_v86 (F := Ideal) x5) (funext fun a => ?_)) (v86_at x5 1 c j g r p)
    match a with
    | ⟨0, _⟩ => rfl
    | ⟨1, _⟩ => rfl
    | ⟨2, _⟩ => rfl
    | ⟨3, _⟩ => rfl
    | ⟨4, _⟩ => rfl
    | ⟨5, _⟩ => rfl

theorem v94_at (c : Fin 18) (j : Fin 128) (g : Fin 8) (r : Fin 4) (p : Fin 64) :
    val_main_v94 (F := Ideal) x5 (ix6 0 c j g r p) = x5 (ix2 (row c j) (wide g r p)) := by
  rw [val_main_v94_apply]
  exact v88_at x5 c j g r p

theorem v92_at (c : Fin 18) (j : Fin 128) (g : Fin 8) (r : Fin 4) (p : Fin 64) :
    val_main_v92 (F := Ideal) x5 (ix6 0 c j g r p) = x5 (ix2 (row c j.rev) (wide g r p)) := by
  rw [val_main_v92_apply]
  refine Eq.trans ?_ (v90_at x5 c j.rev g r p)
  pointwise [val_main_v91]
  rfl

theorem v96_at (d : Fin 2) (c : Fin 18) (j : Fin 128) (g : Fin 8) (r : Fin 4) (p : Fin 64) :
    val_main_v96 (F := Ideal) x5 (ix6 d c j g r p) = x5 (ix2 (row c (pos d j)) (wide g r p)) := by
  show val_main_v93 (F := Ideal) x5 _ + val_main_v95 (F := Ideal) x5 _ = _
  have z : ∀ k, val_main_cst_0 (F := Ideal) k = 0 ∧ val_main_cst_1 (F := Ideal) k = 0 := fun k =>
    ⟨by pointwise [val_main_cst_0], by pointwise [val_main_cst_1]⟩
  unfold val_main_v93 val_main_v95
  match d with
  | 0 =>
    rw [pad_apply_of_not_inside _ _ _ _ _ _ _ _ (0 : Fin 6) (fun h => absurd h.1 (by decide : ¬(1 ≤ 0))),
      pad_apply_of_inside _ _ _ _ _ _ _ _ (ix6 0 c j g r p) (fun a => match a with
        | ⟨0, _⟩ => rfl
        | ⟨1, _⟩ => (by show c.val = 0 + c.val * 1; omega)
        | ⟨2, _⟩ => (by show j.val = 0 + j.val * 1; omega)
        | ⟨3, _⟩ => (by show g.val = 0 + g.val * 1; omega)
        | ⟨4, _⟩ => (by show r.val = 0 + r.val * 1; omega)
        | ⟨5, _⟩ => (by show p.val = 0 + p.val * 1; omega)), (z _).1, zero_add, v94_at]
    rfl
  | 1 =>
    rw [pad_apply_of_inside _ _ _ _ _ _ _ _ (ix6 0 c j g r p) (fun a => match a with
        | ⟨0, _⟩ => rfl
        | ⟨1, _⟩ => (by show c.val = 0 + c.val * 1; omega)
        | ⟨2, _⟩ => (by show j.val = 0 + j.val * 1; omega)
        | ⟨3, _⟩ => (by show g.val = 0 + g.val * 1; omega)
        | ⟨4, _⟩ => (by show r.val = 0 + r.val * 1; omega)
        | ⟨5, _⟩ => (by show p.val = 0 + p.val * 1; omega)),
      pad_apply_of_not_inside _ _ _ _ _ _ _ _ (0 : Fin 6) (fun h => absurd h.2.2 (by decide : ¬(1 / 1 < 1))), (z _).2, add_zero, v92_at]
    rfl

/-! ## The step sizes and their running sum -/

theorem v31_at (c : Fin 18) (j : Fin 128) (d : Fin 2) (g : Fin 8) (r : Fin 4) :
    val_main_v31 (F := Ideal) x1 x2 (ix5 c j d g r) = soft (x1 (ix2 (row c j) (headCol d g r)) + x2 (ix2 d (headOf g r))) := by
  have e : row c j = ⟨c.val * 128 + j.val, by omega⟩ := Fin.ext (by show 128 * c.val + j.val = c.val * 128 + j.val; omega)
  rw [e]; unfold headCol headOf
  pointwise [val_main_v31, val_main_call3_v11, val_main_call3_v10, val_main_call3_v9, val_main_call3_v8, val_main_call3_v7, val_main_call3_v6,
    val_main_call3_v5, val_main_call3_v4, val_main_call3_v3, val_main_call3_v2, val_main_call3_v1, val_main_call3_v0, val_main_call3_cst,
    val_main_v30, val_main_v29, val_main_v28, val_main_v27, val_main_v26]
  rw [if_neg (fun h => h rfl)]
  unfold soft
  rw [zero_sub]
  rfl

theorem v39_at (d : Fin 2) (c : Fin 18) (j : Fin 128) (g : Fin 8) (r : Fin 4) :
    val_main_v39 (F := Ideal) x1 x2 (ix5 d c j g r) = soft (x1 (ix2 (row c (pos d j)) (headCol d g r)) + x2 (ix2 d (headOf g r))) := by
  match d with
  | 0 =>
    pointwise [val_main_v39, val_main_v38, val_main_v37, val_main_v36, val_main_v35, val_main_v34, val_main_v33, val_main_v32, v31_at]
    rfl
  | 1 =>
    pointwise [val_main_v39, val_main_v38, val_main_v37, val_main_v36, val_main_v35, val_main_v34, val_main_v33, val_main_v32, v31_at]
    rfl

theorem v45_at (d : Fin 2) (c : Fin 18) (j : Fin 128) (g : Fin 8) (r : Fin 4) :
    val_main_v45 (F := Ideal) x1 x2 x3 (ix5 d c j g r)
      = soft (x1 (ix2 (row c (pos d j)) (headCol d g r)) + x2 (ix2 d (headOf g r))) * (0 - Ideal.exp (x3 (ix2 d (headOf g r)))) := by
  unfold headOf
  rw [zero_sub]
  pointwise [val_main_v45, val_main_v44, val_main_v42, val_main_v41, val_main_v40, v39_at]
  rfl

theorem v46_at (d : Fin 2) (c : Fin 18) (i : Fin 128) (g : Fin 8) (r : Fin 4) :
    val_main_v46 (F := Ideal) x1 x2 x3 (ix5 d c i g r)
      = run (bitOf d) (fun j => x1 (ix2 (row c j) (headCol d g r))) (x2 (ix2 d (headOf g r))) (x3 (ix2 d (headOf g r))) (pos d i) := by
  unfold val_main_v46
  refine (Sums.cumsum_at _ _ (fun k => by pointwise [val_main_call5_call0_v0, val_main_call5_call0_cst]) _ _ d c i g r).trans ?_
  unfold run
  refine Eq.trans ?_ (sum_pos d _)
  refine Finset.sum_congr rfl fun j _ => ?_
  rw [keeps_pos, v45_at]
  simp only [decide_eq_true_eq]

theorem lower_at : ∀ (i j : Fin 128), Scalar.select (IntOp.cmpi CmpIPredicate.sge (IntOp.addi (BitVec.ofNat 32 i.val) 0#32) (BitVec.ofNat 32 j.val)) 1#1 0#1
    = BitVec.ofBool (decide (j.val ≤ i.val)) := by
  decide +kernel

theorem v59_at (d : Fin 2) (c : Fin 18) (i j : Fin 128) (g : Fin 8) (r : Fin 4) :
    val_main_v59 (F := Ideal) x1 x2 x3 (ix6 d c i j g r)
      = left (bitOf d) (run (bitOf d) (fun j => x1 (ix2 (row c j) (headCol d g r))) (x2 (ix2 d (headOf g r))) (x3 (ix2 d (headOf g r))) (pos d i))
          (run (bitOf d) (fun j => x1 (ix2 (row c j) (headCol d g r))) (x2 (ix2 d (headOf g r))) (x3 (ix2 d (headOf g r))) (pos d j))
          (pos d i) (pos d j) := by
  pointwise [val_main_v59, val_main_v58, val_main_call7_v2, val_main_call7_v1, val_main_call7_v0, val_main_cst, val_main_v57, val_main_v56,
    val_main_call6_v5, val_main_call6_c_0, val_main_call6_v4, val_main_call6_v3, val_main_call6_v2, val_main_call6_v1, val_main_call6_c, val_main_call6_v0, val_main_v55, val_main_c,
    val_main_v54, val_main_v53, val_main_v52, val_main_v51, val_main_v50]
  rw [v46_at, v46_at, lower_at]
  unfold left
  rw [keeps_pos]
  have bot : (id (constant (F := Ideal) S_ FTy.f32 4286578688#32) ix0 : EReal) = ⊥ := by
    show Ideal.ofBits FTy.f32 4286578688#32 = ⊥
    simp [Ideal.ofBits, Ideal.ieee]
  rw [bot]
  by_cases h : j.val ≤ i.val
  · rw [decide_eq_true h]; rfl
  · rw [decide_eq_false h]; rfl

/-! ## The gradient -/

theorem v106_at (d : Fin 2) (c : Fin 18) (i j : Fin 128) (g : Fin 8) :
    val_main_v106 (F := Ideal) x0 x1 x2 x3 x5 (ix5 d c i j g)
      = ∑ r : Fin 4, (∑ p : Fin 64, val_main_v96 (F := Ideal) x5 (ix6 d c i g r p)
          * (val_main_v10 (F := Ideal) x0 (ix6 d c j g r p) * val_main_v39 (F := Ideal) x1 x2 (ix5 d c j g r)))
            * val_main_v59 (F := Ideal) x1 x2 x3 (ix6 d c i j g r) := by
  have z : ∀ k, val_main_cst_2 (F := Ideal) k = 0 := fun k => by pointwise [val_main_cst_2]
  unfold val_main_v106
  refine (sum_last _ _ _ d c i j g).trans ?_
  rw [z, zero_add]
  refine Finset.sum_congr rfl fun r _ => ?_
  pointwise [val_main_v105, val_main_v104, val_main_v103, val_main_v102, val_main_v49, val_main_v48, val_main_v47]

theorem v108_at (d : Fin 2) (c : Fin 18) (i j : Fin 128) (g : Fin 8) :
    val_main_v108 (F := Ideal) x0 x1 x2 x3 x5 (ix5 d c i j g) = val_main_v106 (F := Ideal) x0 x1 x2 x3 x5 (ix5 d c i j g) := by
  have z : ∀ k, val_main_cst_3 (F := Ideal) k = 0 := fun k => by pointwise [val_main_cst_3]
  unfold val_main_v108
  refine (sum_last _ _ _ d c i j g).trans ?_
  rw [z, zero_add, Fin.sum_univ_one]
  pointwise [val_main_v107]

theorem v112_at (d : Fin 2) (c : Fin 18) (i : Fin 128) (g : Fin 8) (n : Fin 128) :
    val_main_v112 (F := Ideal) x0 x1 x2 x3 x4 x5 (ix5 d c i g n) = gradOf x0 x1 x2 x3 x4 x5 d c g (pos d i) n := by
  unfold gradOf grad
  rw [← sum_pos d]
  pointwise [val_main_v112, val_main_v111, val_main_v110, val_main_v109, v108_at, v106_at,
    val_main_v101, val_main_v100, val_main_v99, val_main_v98, val_main_v97, val_main_v70, val_main_v69, val_main_v43, v96_at, v46_at, v59_at, v10_at, v16_at, v39_at]
  exact congrArg₂ (· + ·) (Finset.sum_congr rfl fun r _ => Finset.sum_congr rfl fun p _ => congrArg (_ * ·)
    (congrArg x4 (congrArg (fun k => ix5 d c g k n) (Fin.ext (by show r.val * 64 + p.val = 64 * r.val + p.val; omega))))) rfl

theorem v120_at (c : Fin 18) (i : Fin 128) (g : Fin 8) (n : Fin 128) :
    val_main_v120 (F := Ideal) x0 x1 x2 x3 x4 x5 (ix5 0 c i g n) = gradOf x0 x1 x2 x3 x4 x5 0 c g i n := by
  pointwise [val_main_v120, val_main_v114, val_main_v113, v112_at]
  rfl

theorem v118_at (c : Fin 18) (i : Fin 128) (g : Fin 8) (n : Fin 128) :
    val_main_v118 (F := Ideal) x0 x1 x2 x3 x4 x5 (ix5 0 c i g n) = gradOf x0 x1 x2 x3 x4 x5 1 c g i n := by
  pointwise [val_main_v118, val_main_v117, val_main_v116, val_main_v115, v112_at]
  exact congrArg (fun k => gradOf x0 x1 x2 x3 x4 x5 1 c g k n) (Fin.rev_rev i)

theorem v122_at (d : Fin 2) (c : Fin 18) (i : Fin 128) (g : Fin 8) (n : Fin 128) :
    val_main_v122 (F := Ideal) x0 x1 x2 x3 x4 x5 (ix5 d c i g n) = gradOf x0 x1 x2 x3 x4 x5 d c g i n := by
  show val_main_v119 (F := Ideal) x0 x1 x2 x3 x4 x5 _ + val_main_v121 (F := Ideal) x0 x1 x2 x3 x4 x5 _ = _
  have z : ∀ k, val_main_cst_4 (F := Ideal) k = 0 ∧ val_main_cst_5 (F := Ideal) k = 0 := fun k =>
    ⟨by pointwise [val_main_cst_4], by pointwise [val_main_cst_5]⟩
  unfold val_main_v119 val_main_v121
  match d with
  | 0 =>
    rw [pad_apply_of_not_inside _ _ _ _ _ _ _ _ (0 : Fin 5) (fun h => absurd h.1 (by decide : ¬(1 ≤ 0))),
      pad_apply_of_inside _ _ _ _ _ _ _ _ (ix5 0 c i g n) (fun a => match a with
        | ⟨0, _⟩ => rfl
        | ⟨1, _⟩ => (by show c.val = 0 + c.val * 1; omega)
        | ⟨2, _⟩ => (by show i.val = 0 + i.val * 1; omega)
        | ⟨3, _⟩ => (by show g.val = 0 + g.val * 1; omega)
        | ⟨4, _⟩ => (by show n.val = 0 + n.val * 1; omega)), (z _).1, zero_add, v120_at]
  | 1 =>
    rw [pad_apply_of_inside _ _ _ _ _ _ _ _ (ix5 0 c i g n) (fun a => match a with
        | ⟨0, _⟩ => rfl
        | ⟨1, _⟩ => (by show c.val = 0 + c.val * 1; omega)
        | ⟨2, _⟩ => (by show i.val = 0 + i.val * 1; omega)
        | ⟨3, _⟩ => (by show g.val = 0 + g.val * 1; omega)
        | ⟨4, _⟩ => (by show n.val = 0 + n.val * 1; omega)),
      pad_apply_of_not_inside _ _ _ _ _ _ _ _ (0 : Fin 5) (fun h => absurd h.2.2 (by decide : ¬(1 / 1 < 1))), (z _).2, add_zero, v118_at]

theorem v123_at (d : Fin 2) (h : Fin 18) (g : Fin 8) (i n : Fin 128) :
    val_main_v123 (F := Ideal) x0 x1 x2 x3 x4 x5 (ix3 d (row h i) ⟨128 * g.val + n.val, by omega⟩) = gradOf x0 x1 x2 x3 x4 x5 d h g i n := by
  unfold val_main_v123
  refine (shapeCast_apply _ _ _ (ix5 d h i g n) ?_).trans (v122_at x0 x1 x2 x3 x4 x5 d h i g n)
  rw [Shape.rowMajor_val_five, Shape.rowMajor_val_three]
  show (((d.val * 18 + h.val) * 128 + i.val) * 8 + g.val) * 128 + n.val = (d.val * 2304 + (128 * h.val + i.val)) * 1024 + (128 * g.val + n.val)
  omega

end Cert.Reference14Ideal.Product
end
-- ==== Proof.SdcClaim.lean ====
/- The gradient of the scan by `C`: the kernel's array at those columns is the reference's array. -/
module

public import proofs.«01_k».proof.Defs
public import proofs.«01_k».proof.Proof.DcKernel
public import proofs.«01_k».proof.Proof.DcRef
public import proofs.«01_k».proof.Proof.Gen.Reference14Ideal.Run
public import Idealize.ShloMosaic.Lib.Quiescent

@[expose] public section
set_option maxRecDepth 16384

noncomputable section
namespace Cert.Kernel14Ideal.Product
open Idealize.ShloMosaic Idealize.ShloMosaic.TcCoe Idealize.SL.Sem
open Cert.Kernel14Ideal Cert.Kernel14Ideal.Gen

variable (m : (ℓ : Loc nD τ sig) → Buf (Elt Ideal) ℓ)

theorem final_at (c : Dev nD) (d : Fin 2) (R : Fin 2304) (k : Fin 1024) :
    extractStridedSlice S2x2304x1024 ![0, 0, 3072] (Cert.Kernel14Ideal.Value.reg_main_v9_0 m c) slices_S2x2304x4096_S2x2304x1024_0_0_3072 (ix3 d R k)
      = Cert.Reference14Ideal.Read.val_main_v123 (F := Ideal) (A0 m c) (A1 m c) (A2 m c) (A3 m c) (A4 m c) (A5 m c) (ix3 d R k) := by
  obtain ⟨h, i, rfl⟩ : ∃ (h : Fin 18) (i : Fin 128), R = row h i :=
    ⟨⟨R.val / 128, by omega⟩, ⟨R.val % 128, by omega⟩, Fin.ext (by show R.val = 128 * (R.val / 128) + R.val % 128; omega)⟩
  obtain ⟨g, n, rfl⟩ : ∃ (g : Fin 8) (n : Fin 128), k = ⟨128 * g.val + n.val, by omega⟩ :=
    ⟨⟨k.val / 128, by omega⟩, ⟨k.val % 128, by omega⟩, Fin.ext (by show k.val = 128 * (k.val / 128) + k.val % 128; omega)⟩
  rw [Cert.Reference14Ideal.Product.v123_at]
  refine (extractStridedSlice_apply _ _ _ _ (ix3 d (row h i) ⟨3072 + 128 * g.val + n.val, by omega⟩) (fun a => ?_)).trans
    (reg_at m c d h g i n ⟨3072 + 128 * g.val + n.val, by omega⟩ rfl)
  match a with
  | ⟨0, _⟩ => show d.val = 0 + d.val; omega
  | ⟨1, _⟩ => show (row h i).val = 0 + (row h i).val; omega
  | ⟨2, _⟩ => show 3072 + 128 * g.val + n.val = 3072 + (128 * g.val + n.val); omega

theorem final (c : Dev nD) :
    extractStridedSlice S2x2304x1024 ![0, 0, 3072] (Cert.Kernel14Ideal.Value.reg_main_v9_0 m c) slices_S2x2304x4096_S2x2304x1024_0_0_3072
      = Cert.Reference14Ideal.Read.val_main_v123 (F := Ideal) (A0 m c) (A1 m c) (A2 m c) (A3 m c) (A4 m c) (A5 m c) := by
  funext j
  have e : j = ix3 (j 0) (j 1) (j 2) := funext fun a => by
    match a with
    | ⟨0, _⟩ => rfl
    | ⟨1, _⟩ => rfl
    | ⟨2, _⟩ => rfl
  rw [e]
  exact final_at m c (j 0) (j 1) (j 2)

end Cert.Kernel14Ideal.Product

namespace Cert.Proof
open Idealize.ShloMosaic Idealize.SL.Sem

/-- The reference program leaves its arguments as they were and every counter at zero. -/
theorem frame_14 : Cert.quiescent_Reference14Ideal := fun m g _ =>
  (θ_run _ _ _).mono (fun r h => ⟨fun c => (h c).2, sem_eq_zero_of_no_sems (by decide) r.2⟩)
    (Cert.Reference14Ideal.Value.run m g)

/-- The backward call of the scan computes the gradient by `C` that the reference computes. -/
theorem algebraic_14 : Cert.algebraic_Kernel14Ideal_Reference14Ideal := fun m g m' g' _ hag =>
  ⟨fun c => extractStridedSlice Cert.Kernel14Ideal.S2x2304x1024 ![0, 0, 3072] (Cert.Kernel14Ideal.Value.reg_main_v9_0 m c)
      Cert.Kernel14Ideal.Gen.slices_S2x2304x4096_S2x2304x1024_0_0_3072,
   (θ_run _ _ _).mono (fun r h c => h c) (Cert.Kernel14Ideal.Value.run m g),
   (θ_run _ _ _).mono (fun r h c => by
      obtain ⟨h0, hk⟩ := h c
      obtain ⟨a0, a1, a2, a3, a4, a5⟩ := hag c
      refine ⟨h0.trans ?_, hk⟩
      refine (Cert.Reference14Ideal.Read.val_main_v123_eq m' c).trans ?_
      rw [a0, a1, a2, a3, a4, a5]; exact (Cert.Kernel14Ideal.Product.final m c).symm)
     (Cert.Reference14Ideal.Value.run m' g')⟩

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Reference23Ideal
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Reference24Ideal
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Reference25Ideal
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Reference26Ideal
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Reference27Ideal
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.LnClaim
public import proofs.«01_k».proof.Proof.Gen.Kernel8Ideal.Value
public import proofs.«01_k».proof.Proof.Gen.Reference8Ideal.Run
public import proofs.«01_k».proof.Proof.Gen.Reference8Ideal.Read
public import proofs.«01_k».proof.Proof.MmClaim
public import proofs.«01_k».proof.Proof.Gen.Kernel9Ideal.Value
public import proofs.«01_k».proof.Proof.Gen.Reference9Ideal.Run
public import proofs.«01_k».proof.Proof.Gen.Reference9Ideal.Read
public import proofs.«01_k».proof.Proof.MmntClaim
public import proofs.«01_k».proof.Proof.Gen.Kernel10Ideal.Value
public import proofs.«01_k».proof.Proof.Gen.Reference10Ideal.Run
public import proofs.«01_k».proof.Proof.Gen.Reference10Ideal.Read
public import proofs.«01_k».proof.Proof.DxClaim
public import proofs.«01_k».proof.Proof.Gen.Kernel11Ideal.Value
public import proofs.«01_k».proof.Proof.Gen.Reference11Ideal.Run
public import proofs.«01_k».proof.Proof.Gen.Reference11Ideal.Read
public import proofs.«01_k».proof.Proof.DwClaim
public import proofs.«01_k».proof.Proof.Gen.Kernel12Ideal.Value
public import proofs.«01_k».proof.Proof.Gen.Reference12Ideal.Run
public import proofs.«01_k».proof.Proof.Gen.Reference12Ideal.Read
public import proofs.«01_k».proof.Proof.NnClaim
public import proofs.«01_k».proof.Proof.Gen.Kernel13Ideal.Value
public import proofs.«01_k».proof.Proof.Gen.Reference13Ideal.Run
public import proofs.«01_k».proof.Proof.Gen.Reference13Ideal.Read
public import proofs.«01_k».proof.Proof.UpClaim
public import proofs.«01_k».proof.Proof.Gen.Kernel16Ideal.Value
public import proofs.«01_k».proof.Proof.Gen.Reference16Ideal.Run
public import proofs.«01_k».proof.Proof.Gen.Reference16Ideal.Read
public import proofs.«01_k».proof.Proof.SonnClaim
public import proofs.«01_k».proof.Proof.Gen.Kernel17Ideal.Value
public import proofs.«01_k».proof.Proof.Gen.Reference17Ideal.Run
public import proofs.«01_k».proof.Proof.Gen.Reference17Ideal.Read
public import proofs.«01_k».proof.Proof.SotnClaim
public import proofs.«01_k».proof.Proof.Gen.Kernel18Ideal.Value
public import proofs.«01_k».proof.Proof.Gen.Reference18Ideal.Run
public import proofs.«01_k».proof.Proof.Gen.Reference18Ideal.Read
public import proofs.«01_k».proof.Proof.SontClaim
public import proofs.«01_k».proof.Proof.Gen.Kernel19Ideal.Value
public import proofs.«01_k».proof.Proof.Gen.Reference19Ideal.Run
public import proofs.«01_k».proof.Proof.Gen.Reference19Ideal.Read
public import proofs.«01_k».proof.Proof.PtnnClaim
public import proofs.«01_k».proof.Proof.Gen.Kernel20Ideal.Value
public import proofs.«01_k».proof.Proof.Gen.Reference20Ideal.Run
public import proofs.«01_k».proof.Proof.Gen.Reference20Ideal.Read
public import proofs.«01_k».proof.Proof.PttnClaim
public import proofs.«01_k».proof.Proof.Gen.Kernel21Ideal.Value
public import proofs.«01_k».proof.Proof.Gen.Reference21Ideal.Run
public import proofs.«01_k».proof.Proof.Gen.Reference21Ideal.Read
public import proofs.«01_k».proof.Proof.PtntClaim
public import proofs.«01_k».proof.Proof.Gen.Kernel22Ideal.Value
public import proofs.«01_k».proof.Proof.Gen.Reference22Ideal.Run
public import proofs.«01_k».proof.Proof.Gen.Reference22Ideal.Read
public import proofs.«01_k».proof.Proof.PuClaim
public import proofs.«01_k».proof.Proof.Gen.Kernel23Ideal.Value
public import proofs.«01_k».proof.Proof.Gen.Reference23Ideal.Run
public import proofs.«01_k».proof.Proof.Gen.Reference23Ideal.Read
public import proofs.«01_k».proof.Proof.PxClaim
public import proofs.«01_k».proof.Proof.Gen.Kernel24Ideal.Value
public import proofs.«01_k».proof.Proof.Gen.Reference24Ideal.Run
public import proofs.«01_k».proof.Proof.Gen.Reference24Ideal.Read
public import proofs.«01_k».proof.Proof.PwClaim
public import proofs.«01_k».proof.Proof.Gen.Kernel25Ideal.Value
public import proofs.«01_k».proof.Proof.Gen.Reference25Ideal.Run
public import proofs.«01_k».proof.Proof.Gen.Reference25Ideal.Read
public import proofs.«01_k».proof.Proof.IuClaim
public import proofs.«01_k».proof.Proof.Gen.Kernel26Ideal.Value
public import proofs.«01_k».proof.Proof.Gen.Reference26Ideal.Run
public import proofs.«01_k».proof.Proof.Gen.Reference26Ideal.Read
public import proofs.«01_k».proof.Proof.IxClaim
public import proofs.«01_k».proof.Proof.Gen.Kernel27Ideal.Value
public import proofs.«01_k».proof.Proof.Gen.Reference27Ideal.Run
public import proofs.«01_k».proof.Proof.Gen.Reference27Ideal.Read
public import proofs.«01_k».proof.Proof.IwClaim
public import proofs.«01_k».proof.Proof.Gen.Kernel14Ideal.Run
public import proofs.«01_k».proof.Proof.Gen.Reference14Ideal.Run
public import proofs.«01_k».proof.Proof.Gen.Reference14Ideal.Read
public import proofs.«01_k».proof.Proof.SdcClaim

@[expose] public section

noncomputable section

namespace Cert.Proof

open Idealize.ShloMosaic Idealize.SL.Sem

/-- Everything the certificate claims. -/
theorem claim : Cert.Claim := ⟨Cert.Kernel.Gen.facts,
  Cert.KernelIdeal.Gen.facts,
  Cert.Kernel2.Gen.facts,
  Cert.Kernel2Ideal.Gen.facts,
  Cert.Reference2Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Kernel22.Gen.facts,
  Cert.Kernel22Ideal.Gen.facts,
  Cert.Reference22Ideal.Gen.facts,
  Cert.Kernel23.Gen.facts,
  Cert.Kernel23Ideal.Gen.facts,
  Cert.Reference23Ideal.Gen.facts,
  Cert.Kernel24.Gen.facts,
  Cert.Kernel24Ideal.Gen.facts,
  Cert.Reference24Ideal.Gen.facts,
  Cert.Kernel25.Gen.facts,
  Cert.Kernel25Ideal.Gen.facts,
  Cert.Reference25Ideal.Gen.facts,
  Cert.Kernel26.Gen.facts,
  Cert.Kernel26Ideal.Gen.facts,
  Cert.Reference26Ideal.Gen.facts,
  Cert.Kernel27.Gen.facts,
  Cert.Kernel27Ideal.Gen.facts,
  Cert.Reference27Ideal.Gen.facts,
  Cert.Kernel14.Gen.facts,
  Cert.Kernel14Ideal.Gen.facts,
  Cert.Reference14Ideal.Gen.facts,
  fun m ρ _ => Cert.Kernel.Gen.frame m ρ,
  fun m ρ _ => Cert.KernelIdeal.Gen.frame m ρ,
  fun m ρ _ => Cert.Kernel2.Gen.frame m ρ,
  fun m ρ _ => Cert.Kernel2Ideal.Gen.frame m ρ,
  frame_2,
  fun m ρ _ => Cert.Kernel8.Gen.frame m ρ,
  fun m ρ _ => Cert.Kernel8Ideal.Gen.frame m ρ,
  frame_8,
  fun m ρ _ => Cert.Kernel9.Gen.frame m ρ,
  fun m ρ _ => Cert.Kernel9Ideal.Gen.frame m ρ,
  frame_9,
  fun m ρ _ => Cert.Kernel10.Gen.frame m ρ,
  fun m ρ _ => Cert.Kernel10Ideal.Gen.frame m ρ,
  frame_10,
  fun m ρ _ => Cert.Kernel11.Gen.frame m ρ,
  fun m ρ _ => Cert.Kernel11Ideal.Gen.frame m ρ,
  frame_11,
  fun m ρ _ => Cert.Kernel12.Gen.frame m ρ,
  fun m ρ _ => Cert.Kernel12Ideal.Gen.frame m ρ,
  frame_12,
  fun m ρ _ => Cert.Kernel13.Gen.frame m ρ,
  fun m ρ _ => Cert.Kernel13Ideal.Gen.frame m ρ,
  frame_13,
  fun m ρ _ => Cert.Kernel16.Gen.frame m ρ,
  fun m ρ _ => Cert.Kernel16Ideal.Gen.frame m ρ,
  frame_16,
  fun m ρ _ => Cert.Kernel17.Gen.frame m ρ,
  fun m ρ _ => Cert.Kernel17Ideal.Gen.frame m ρ,
  frame_17,
  fun m ρ _ => Cert.Kernel18.Gen.frame m ρ,
  fun m ρ _ => Cert.Kernel18Ideal.Gen.frame m ρ,
  frame_18,
  fun m ρ _ => Cert.Kernel19.Gen.frame m ρ,
  fun m ρ _ => Cert.Kernel19Ideal.Gen.frame m ρ,
  frame_19,
  fun m ρ _ => Cert.Kernel20.Gen.frame m ρ,
  fun m ρ _ => Cert.Kernel20Ideal.Gen.frame m ρ,
  frame_20,
  fun m ρ _ => Cert.Kernel21.Gen.frame m ρ,
  fun m ρ _ => Cert.Kernel21Ideal.Gen.frame m ρ,
  frame_21,
  fun m ρ _ => Cert.Kernel22.Gen.frame m ρ,
  fun m ρ _ => Cert.Kernel22Ideal.Gen.frame m ρ,
  frame_22,
  fun m ρ _ => Cert.Kernel23.Gen.frame m ρ,
  fun m ρ _ => Cert.Kernel23Ideal.Gen.frame m ρ,
  frame_23,
  fun m ρ _ => Cert.Kernel24.Gen.frame m ρ,
  fun m ρ _ => Cert.Kernel24Ideal.Gen.frame m ρ,
  frame_24,
  fun m ρ _ => Cert.Kernel25.Gen.frame m ρ,
  fun m ρ _ => Cert.Kernel25Ideal.Gen.frame m ρ,
  frame_25,
  fun m ρ _ => Cert.Kernel26.Gen.frame m ρ,
  fun m ρ _ => Cert.Kernel26Ideal.Gen.frame m ρ,
  frame_26,
  fun m ρ _ => Cert.Kernel27.Gen.frame m ρ,
  fun m ρ _ => Cert.Kernel27Ideal.Gen.frame m ρ,
  frame_27,
  fun m ρ _ => Cert.Kernel14.Gen.frame m ρ,
  fun m ρ _ => Cert.Kernel14Ideal.Gen.frame m ρ,
  frame_14,
  trivial,
  trivial,
  algebraic_2,
  trivial,
  algebraic_8,
  trivial,
  algebraic_9,
  trivial,
  algebraic_10,
  trivial,
  algebraic_11,
  trivial,
  algebraic_12,
  trivial,
  algebraic_13,
  trivial,
  algebraic_16,
  trivial,
  algebraic_17,
  trivial,
  algebraic_18,
  trivial,
  algebraic_19,
  trivial,
  algebraic_20,
  trivial,
  algebraic_21,
  trivial,
  algebraic_22,
  trivial,
  algebraic_23,
  trivial,
  algebraic_24,
  trivial,
  algebraic_25,
  trivial,
  algebraic_26,
  trivial,
  algebraic_27,
  trivial,
  algebraic_14⟩

end Cert.Proof

end
